-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_weights_finite [hPre_weights_finite : Cert.Pre_weights_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_weights_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_weights_finite [hPre_weights_finite : Cert.Pre_weights_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_weights_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_projection_finite [hPre_projection_finite : Cert.Pre_projection_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_projection_finite.fn (F := Ideal) (m ((c.tc : Thread Cert.Kernel5Ideal.nD Cert.Kernel5Ideal.τ).loc Cert.Kernel5Ideal.main_arg0))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_projection_finite [hPre_projection_finite : Cert.Pre_projection_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_projection_finite.fn (F := Ideal) (m ((c.tc : Thread Cert.Reference5Ideal.nD Cert.Reference5Ideal.τ).loc Cert.Reference5Ideal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_weights_finite [hKernel4Ideal : Cert.Kernel4Ideal.Facts] [hPre_weights_finite : Cert.Pre_weights_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_weights_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_weights_finite [hReference4Ideal : Cert.Reference4Ideal.Facts] [hPre_weights_finite : Cert.Pre_weights_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_weights_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Kernel5Ideal_pre_projection_finite [hKernel5Ideal : Cert.Kernel5Ideal.Facts] [hPre_projection_finite : Cert.Pre_projection_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_projection_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Reference5Ideal_pre_projection_finite [hReference5Ideal : Cert.Reference5Ideal.Facts] [hPre_projection_finite : Cert.Pre_projection_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_projection_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v32_0)) (v1 : (c : Dev Cert.Kernel2Ideal.nD) → Buf (Elt Ideal) ((c.tc : Thread Cert.Kernel2Ideal.nD Cert.Kernel2Ideal.τ).loc Cert.Kernel2Ideal.main_v32_1)) (v2 : (c : Dev Cert.Kernel2Ideal.nD) → Buf (Elt Ideal) ((c.tc : Thread Cert.Kernel2Ideal.nD Cert.Kernel2Ideal.τ).loc Cert.Kernel2Ideal.main_v32_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v32_0) = v0 c
          ∧ r.2.mem ((c.tc : Thread Cert.Kernel2Ideal.nD Cert.Kernel2Ideal.τ).loc Cert.Kernel2Ideal.main_v32_1) = v1 c
          ∧ r.2.mem ((c.tc : Thread Cert.Kernel2Ideal.nD Cert.Kernel2Ideal.τ).loc Cert.Kernel2Ideal.main_v32_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_v44) = v1 c
          ∧ r.2.mem ((c.tc : Thread Cert.Reference2Ideal.nD Cert.Reference2Ideal.τ).loc Cert.Reference2Ideal.main_v52) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v21_0)) (v1 : (c : Dev Cert.Kernel3Ideal.nD) → Buf (Elt Ideal) ((c.tc : Thread Cert.Kernel3Ideal.nD Cert.Kernel3Ideal.τ).loc Cert.Kernel3Ideal.main_v21_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v21_0) = v0 c
          ∧ r.2.mem ((c.tc : Thread Cert.Kernel3Ideal.nD Cert.Kernel3Ideal.τ).loc Cert.Kernel3Ideal.main_v21_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_v40) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  IdealRules.named_const.Statement Cert.Kernel4Ideal.κ "mask" .f32 0xF149F2CA#32 ⊥

def algebraic_Kernel4Ideal_Reference4Ideal_pre_weights_finite [hKernel4Ideal : Cert.Kernel4Ideal.Facts] [hReference4Ideal : Cert.Reference4Ideal.Facts] [hPre_weights_finite : Cert.Pre_weights_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_weights_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v21_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21_2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v53) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal_pre_projection_finite [hKernel5Ideal : Cert.Kernel5Ideal.Facts] [hReference5Ideal : Cert.Reference5Ideal.Facts] [hPre_projection_finite : Cert.Pre_projection_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_projection_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v85)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v85) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_weights_finite : Cert.Pre_weights_finite.Facts) (hPre_projection_finite : Cert.Pre_projection_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_weights_finite (hKernel4Ideal := hKernel4Ideal) (hPre_weights_finite := hPre_weights_finite)
    ∧ quiescent_Reference4Ideal (hReference4Ideal := hReference4Ideal)
    ∧ quiescent_Reference4Ideal_pre_weights_finite (hReference4Ideal := hReference4Ideal) (hPre_weights_finite := hPre_weights_finite)
    ∧ quiescent_Kernel5 (hKernel5 := hKernel5)
    ∧ quiescent_Kernel5Ideal (hKernel5Ideal := hKernel5Ideal)
    ∧ quiescent_Kernel5Ideal_pre_projection_finite (hKernel5Ideal := hKernel5Ideal) (hPre_projection_finite := hPre_projection_finite)
    ∧ quiescent_Reference5Ideal (hReference5Ideal := hReference5Ideal)
    ∧ quiescent_Reference5Ideal_pre_projection_finite (hReference5Ideal := hReference5Ideal) (hPre_projection_finite := hPre_projection_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_weights_finite (hKernel4Ideal := hKernel4Ideal) (hReference4Ideal := hReference4Ideal) (hPre_weights_finite := hPre_weights_finite)
    ∧ preserves_Kernel5_Kernel5Ideal
    ∧ algebraic_Kernel5Ideal_Reference5Ideal_pre_projection_finite (hKernel5Ideal := hKernel5Ideal) (hReference5Ideal := hReference5Ideal) (hPre_projection_finite := hPre_projection_finite)
-- ==== Pre_projection_finite.lean ====
abbrev S32768x1024 : Shape := ⟨2, ![32768, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1024 .bf16) : IVec S_ 1 :=
  let main_v0 : FVec F S32768x1024 .bf16 := Host.absf main_arg0
  let main_cst : FVec F S_ .bf16 := constant S_ .bf16 0x7F80#16
  let main_v1 : FVec F S32768x1024 .bf16 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  main_v3
-- ==== Pre_weights_finite.lean ====
abbrev S32768x512 : Shape := ⟨2, ![32768, 512]⟩
abbrev S4x32768x128 : Shape := ⟨3, ![4, 32768, 128]⟩
abbrev S32768x2048 : Shape := ⟨2, ![32768, 2048]⟩
abbrev S4x8192x1024 : Shape := ⟨3, ![4, 8192, 1024]⟩
abbrev S1x512x1024 : Shape := ⟨3, ![1, 512, 1024]⟩
abbrev S1x512x2048 : Shape := ⟨3, ![1, 512, 2048]⟩
abbrev S1x1024x1024 : Shape := ⟨3, ![1, 1024, 1024]⟩
abbrev S1x1024 : Shape := ⟨2, ![1, 1024]⟩
abbrev S1x1024x16 : Shape := ⟨3, ![1, 1024, 16]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1x1024x16 : S_.BroadcastsInDim S1x1024x16 (![] : Fin 0 → Fin S1x1024x16.rank)
  reducesTo_S1x1024x16_S_d0_1_2 : S1x1024x16.ReducesTo [0, 1, 2] S_

variable [Facts]

def fn {F : FTy → Type} [FloatOps F] (main_arg0 : FVec F S32768x512 .bf16) (main_arg1 : FVec F S4x32768x128 .f32) (main_arg2 : FVec F S32768x2048 .bf16) (main_arg3 : FVec F S4x8192x1024 .f32) (main_arg4 : FVec F S1x512x1024 .f32) (main_arg5 : FVec F S1x512x2048 .f32) (main_arg6 : FVec F S1x1024x1024 .f32) (main_arg7 : FVec F S1x1024 .f32) (main_arg8 : FVec F S1x1024x16 .f32) : IVec S_ 1 :=
  let main_v0 : FVec F S1x1024 .f32 := Host.absf main_arg7
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x16 .f32 := Host.absf main_arg8
  let main_cst_0 : FVec F S_ .f32 := constant S_ .f32 0x7F800000#32
  let main_v5 : FVec F S1x1024x16 .f32 := broadcastInDim S1x1024x16 ![] bcast_S_S1x1024x16 main_cst_0
  let main_v6 : IVec S1x1024x16 1 := cmpf .olt main_v4 main_v5
  let main_c_1 : IVec S_ 1 := constantI S_ 1 1#1
  let main_v7 : IVec S_ 1 := (fun x v => Host.reduce IntOp.andi x v reducesTo_S1x1024x16_S_d0_1_2 h_S_) main_v6 main_c_1
  let main_v8 : IVec S_ 1 := andi main_v3 main_v7
  main_v8
-- ==== Kernel.lean ====
abbrev S4x16x1024x1024 : Shape := ⟨4, ![4, 16, 1024, 1024]⟩
abbrev S4x16x1024x1 : Shape := ⟨4, ![4, 16, 1024, 1]⟩
abbrev S1x16x1024x2816 : Shape := ⟨4, ![1, 16, 1024, 2816]⟩
abbrev S1x16x2816x1024 : Shape := ⟨4, ![1, 16, 2816, 1024]⟩
abbrev S16x1024x2816 : Shape := ⟨3, ![16, 1024, 2816]⟩
abbrev S16x2816x1024 : Shape := ⟨3, ![16, 2816, 1024]⟩
abbrev S2x1x1024x1024 : Shape := ⟨4, ![2, 1, 1024, 1024]⟩
abbrev S2x1x1024x1 : Shape := ⟨4, ![2, 1, 1024, 1]⟩
abbrev S1x1024x256 : Shape := ⟨3, ![1, 1024, 256]⟩
abbrev S1x256x1024 : Shape := ⟨3, ![1, 256, 1024]⟩
abbrev S2048x1024 : Shape := ⟨2, ![2048, 1024]⟩
abbrev S1024x256 : Shape := ⟨2, ![1024, 256]⟩
abbrev S256x1024 : Shape := ⟨2, ![256, 1024]⟩
abbrev S1x1x1024x1024 : Shape := ⟨4, ![1, 1, 1024, 1024]⟩
abbrev S1024x1024 : Shape := ⟨2, ![1024, 1024]⟩
abbrev S2048x1 : Shape := ⟨2, ![2048, 1]⟩

abbrev nBuf : Space → Nat
  | .hbm => 9
  | .vmem => 13
  | .smem => 0
  | _ => 0

abbrev bufTy : (tb : Table) → Fin (tcTables nBuf tb) → BufTy
  | .hbm, ⟨0, _⟩ => ⟨S4x16x1024x1024, .bf16⟩
  | .hbm, ⟨1, _⟩ => ⟨S4x16x1024x1, .f32⟩
  | .hbm, ⟨2, _⟩ => ⟨S1x16x1024x2816, .f32⟩
  | .hbm, ⟨3, _⟩ => ⟨S1x16x1024x2816, .f32⟩
  | .hbm, ⟨4, _⟩ => ⟨S1x16x2816x1024, .f32⟩
  | .hbm, ⟨5, _⟩ => ⟨S16x1024x2816, .f32⟩
  | .hbm, ⟨6, _⟩ => ⟨S16x1024x2816, .f32⟩
  | .hbm, ⟨7, _⟩ => ⟨S16x2816x1024, .f32⟩
  | .hbm, ⟨8, _⟩ => ⟨S4x16x1024x1024, .bf16⟩
  | .local _ .vmem, ⟨0, _⟩ => ⟨S2x1x1024x1024, .bf16⟩
  | .local _ .vmem, ⟨1, _⟩ => ⟨S2x1x1024x1024, .bf16⟩
  | .local _ .vmem, ⟨2, _⟩ => ⟨S2x1x1024x1, .f32⟩
  | .local _ .vmem, ⟨3, _⟩ => ⟨S2x1x1024x1, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x256x1024, .f32⟩
  | .local _ .vmem, ⟨9, _⟩ => ⟨S1x256x1024, .f32⟩
  | .local _ .vmem, ⟨10, _⟩ => ⟨S2x1x1024x1024, .bf16⟩
  | .local _ .vmem, ⟨11, _⟩ => ⟨S2x1x1024x1024, .bf16⟩
  | .local _ .vmem, ⟨12, _⟩ => ⟨S2048x1024, .f32⟩
  | _, _ => ⟨S4x16x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 11], ![false, false, false]⟩

def k0_cond2 (i : grid0.Coords) : BitVec 1 :=
  let arg2 : BitVec 32 := BitVec.ofNat 32 (i 2).val
  let c10_i32 : BitVec 32 := 10#32
  let v40 : BitVec 1 := Scalar.cmpi .eq arg2 c10_i32
  let v41 : BitVec 32 := Scalar.extui v40
  let c0_i32_28 : BitVec 32 := 0#32
  let v42 : BitVec 1 := Scalar.cmpi .ne v41 c0_i32_28
  v42

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S2x1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2x1x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S2x1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S4x16x1024x1024 : Shape := ⟨4, ![4, 16, 1024, 1024]⟩
abbrev S4x16x1024x1 : Shape := ⟨4, ![4, 16, 1024, 1]⟩
abbrev S1x16x1024x2816 : Shape := ⟨4, ![1, 16, 1024, 2816]⟩
abbrev S1x16x2816x1024 : Shape := ⟨4, ![1, 16, 2816, 1024]⟩
abbrev S16x1024x2816 : Shape := ⟨3, ![16, 1024, 2816]⟩
abbrev S16x2816x4x1024 : Shape := ⟨4, ![16, 2816, 4, 1024]⟩
abbrev S4x16x1024x2816 : Shape := ⟨4, ![4, 16, 1024, 2816]⟩
abbrev S_ : Shape := ⟨0, ![]⟩
abbrev S16x2816x1024 : Shape := ⟨3, ![16, 2816, 1024]⟩
abbrev S16x1024x4x1024 : Shape := ⟨4, ![16, 1024, 4, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4x16x1024x1024, .bf16⟩
  | .hbm, ⟨1, _⟩ => ⟨S4x16x1024x1, .f32⟩
  | .hbm, ⟨2, _⟩ => ⟨S1x16x1024x2816, .f32⟩
  | .hbm, ⟨3, _⟩ => ⟨S1x16x1024x2816, .f32⟩
  | .hbm, ⟨4, _⟩ => ⟨S1x16x2816x1024, .f32⟩
  | .hbm, ⟨5, _⟩ => ⟨S4x16x1024x1024, .f32⟩
  | .hbm, ⟨6, _⟩ => ⟨S16x1024x2816, .f32⟩
  | .hbm, ⟨7, _⟩ => ⟨S16x2816x4x1024, .f32⟩
  | .hbm, ⟨8, _⟩ => ⟨S4x16x1024x2816, .f32⟩
  | .hbm, ⟨9, _⟩ => ⟨S4x16x1024x2816, .f32⟩
  | .hbm, ⟨10, _⟩ => ⟨S4x16x1024x2816, .f32⟩
  | .hbm, ⟨11, _⟩ => ⟨S_, .f32⟩
  | .hbm, ⟨12, _⟩ => ⟨S4x16x1024x2816, .f32⟩
  | .hbm, ⟨13, _⟩ => ⟨S4x16x1024x2816, .f32⟩
  | .hbm, ⟨14, _⟩ => ⟨S_, .f32⟩
  | .hbm, ⟨15, _⟩ => ⟨S4x16x1024x2816, .f32⟩
  | .hbm, ⟨16, _⟩ => ⟨S4x16x1024x2816, .f32⟩
  | .hbm, ⟨17, _⟩ => ⟨S4x16x1024x2816, .f32⟩
  | .hbm, ⟨18, _⟩ => ⟨S16x1024x2816, .f32⟩
  | .hbm, ⟨19, _⟩ => ⟨S16x2816x4x1024, .f32⟩
  | .hbm, ⟨20, _⟩ => ⟨S4x16x1024x2816, .f32⟩
  | .hbm, ⟨21, _⟩ => ⟨S4x16x1024x2816, .f32⟩
  | .hbm, ⟨22, _⟩ => ⟨S16x2816x1024, .f32⟩
  | .hbm, ⟨23, _⟩ => ⟨S16x1024x4x1024, .f32⟩
  | .hbm, ⟨24, _⟩ => ⟨S4x16x1024x1024, .f32⟩
  | .hbm, ⟨25, _⟩ => ⟨S4x16x1024x1024, .f32⟩
  | .hbm, ⟨26, _⟩ => ⟨S4x16x1024x1024, .f32⟩
  | .hbm, ⟨27, _⟩ => ⟨S4x16x1024x1024, .bf16⟩
  | _, _ => ⟨S4x16x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩

abbrev nD : Nat := 1
abbrev τ : Topo := Topo.v7x

variable {F : FTy → Type} [FloatOps F]
-- ==== Kernel2.lean ====
abbrev S4x8192x1024 : Shape := ⟨3, ![4, 8192, 1024]⟩
abbrev S1x1024 : Shape := ⟨2, ![1, 1024]⟩
abbrev S1x1024x3072 : Shape := ⟨3, ![1, 1024, 3072]⟩
abbrev S32768x1024 : Shape := ⟨2, ![32768, 1024]⟩
abbrev S1024 : Shape := ⟨1, ![1024]⟩
abbrev S1024x3072 : Shape := ⟨2, ![1024, 3072]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S4x4 : Shape := ⟨2, ![4, 4]⟩
abbrev S4x1x4x1 : Shape := ⟨4, ![4, 1, 4, 1]⟩
abbrev S1x128x1x128 : Shape := ⟨4, ![1, 128, 1, 128]⟩
abbrev S4x128x4x128 : Shape := ⟨4, ![4, 128, 4, 128]⟩
abbrev S512x512 : Shape := ⟨2, ![512, 512]⟩
abbrev S512x1024 : Shape := ⟨2, ![512, 1024]⟩
abbrev S4x32768x128 : Shape := ⟨3, ![4, 32768, 128]⟩
abbrev S32768x2048 : Shape := ⟨2, ![32768, 2048]⟩
abbrev S1024x1024 : Shape := ⟨2, ![1024, 1024]⟩
abbrev S4x1024x128 : Shape := ⟨3, ![4, 1024, 128]⟩
abbrev S1024x2048 : Shape := ⟨2, ![1024, 2048]⟩
abbrev S256x1024 : Shape := ⟨2, ![256, 1024]⟩
abbrev S256 : Shape := ⟨1, ![256]⟩
abbrev S256x1 : Shape := ⟨2, ![256, 1]⟩
abbrev S256x3072 : Shape := ⟨2, ![256, 3072]⟩
abbrev S256x512 : Shape := ⟨2, ![256, 512]⟩
abbrev S256x128 : Shape := ⟨2, ![256, 128]⟩
abbrev S1x256x128 : Shape := ⟨3, ![1, 256, 128]⟩
abbrev S256x2048 : Shape := ⟨2, ![256, 2048]⟩

abbrev nBuf : Space → Nat
  | .hbm => 73
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x3072, .f32⟩
  | .hbm, ⟨3, _⟩ => ⟨S32768x1024, .f32⟩
  | .hbm, ⟨4, _⟩ => ⟨S1024, .f32⟩
  | .hbm, ⟨5, _⟩ => ⟨S1x1024, .f32⟩
  | .hbm, ⟨6, _⟩ => ⟨S1024x3072, .f32⟩
  | .hbm, ⟨7, _⟩ => ⟨S1024x3072, .bf16⟩
  | .hbm, ⟨8, _⟩ => ⟨S128, .i32⟩
  | .hbm, ⟨9, _⟩ => ⟨S128x1, .i32⟩
  | .hbm, ⟨10, _⟩ => ⟨S1x128, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S128x128, .i32⟩
  | .hbm, ⟨21, _⟩ => ⟨S128x128, .i32⟩
  | .hbm, ⟨22, _⟩ => ⟨S_, .i32⟩
  | .hbm, ⟨23, _⟩ => ⟨S128x128, .i32⟩
  | .hbm, ⟨24, _⟩ => ⟨S128x128, .i1⟩
  | .hbm, ⟨25, _⟩ => ⟨S_, .i32⟩
  | .hbm, ⟨26, _⟩ => ⟨S128x128, .i32⟩
  | .hbm, ⟨27, _⟩ => ⟨S128x128, .i1⟩
  | .hbm, ⟨28, _⟩ => ⟨S_, .i32⟩
  | .hbm, ⟨29, _⟩ => ⟨S_, .i1⟩
  | .hbm, ⟨30, _⟩ => ⟨S128x128, .i1⟩
  | .hbm, ⟨31, _⟩ => ⟨S128x128, .i1⟩
  | .hbm, ⟨32, _⟩ => ⟨S128x128, .i1⟩
  | .hbm, ⟨33, _⟩ => ⟨S128x128, .i32⟩
  | .hbm, ⟨34, _⟩ => ⟨S128x128, .i32⟩
  | .hbm, ⟨35, _⟩ => ⟨S128x128, .i32⟩
  | .hbm, ⟨36, _⟩ => ⟨S128x128, .f32⟩
  | .hbm, ⟨37, _⟩ => ⟨S_, .f32⟩
  | .hbm, ⟨38, _⟩ => ⟨S128x128, .f32⟩
  | .hbm, ⟨39, _⟩ => ⟨S128x128, .f32⟩
  | .hbm, ⟨40, _⟩ => ⟨S4x4, .i32⟩
  | .hbm, ⟨41, _⟩ => ⟨S4x4, .i32⟩
  | .hbm, ⟨42, _⟩ => ⟨S_, .i32⟩
  | .hbm, ⟨43, _⟩ => ⟨S4x4, .i32⟩
  | .hbm, ⟨44, _⟩ => ⟨S4x4, .i32⟩
  | .hbm, ⟨45, _⟩ => ⟨S4x4, .i1⟩
  | .hbm, ⟨46, _⟩ => ⟨S4x4, .f32⟩
  | .hbm, ⟨47, _⟩ => ⟨S128x128, .f32⟩
  | .hbm, ⟨48, _⟩ => ⟨S4x1x4x1, .f32⟩
  | .hbm, ⟨49, _⟩ => ⟨S1x128x1x128, .f32⟩
  | .hbm, ⟨50, _⟩ => ⟨S4x128x4x128, .f32⟩
  | .hbm, ⟨51, _⟩ => ⟨S4x128x4x128, .f32⟩
  | .hbm, ⟨52, _⟩ => ⟨S4x128x4x128, .f32⟩
  | .hbm, ⟨53, _⟩ => ⟨S512x512, .f32⟩
  | .hbm, ⟨54, _⟩ => ⟨S_, .f32⟩
  | .hbm, ⟨55, _⟩ => ⟨S512x512, .f32⟩
  | .hbm, ⟨56, _⟩ => ⟨S512x512, .f32⟩
  | .hbm, ⟨57, _⟩ => ⟨S128x128, .f32⟩
  | .hbm, ⟨58, _⟩ => ⟨S4x1x4x1, .f32⟩
  | .hbm, ⟨59, _⟩ => ⟨S1x128x1x128, .f32⟩
  | .hbm, ⟨60, _⟩ => ⟨S4x128x4x128, .f32⟩
  | .hbm, ⟨61, _⟩ => ⟨S4x128x4x128, .f32⟩
  | .hbm, ⟨62, _⟩ => ⟨S4x128x4x128, .f32⟩
  | .hbm, ⟨63, _⟩ => ⟨S512x512, .f32⟩
  | .hbm, ⟨64, _⟩ => ⟨S512x512, .f32⟩
  | .hbm, ⟨65, _⟩ => ⟨S_, .f32⟩
  | .hbm, ⟨66, _⟩ => ⟨S512x512, .f32⟩
  | .hbm, ⟨67, _⟩ => ⟨S512x512, .f32⟩
  | .hbm, ⟨68, _⟩ => ⟨S512x1024, .f32⟩
  | .hbm, ⟨69, _⟩ => ⟨S512x1024, .bf16⟩
  | .hbm, ⟨70, _⟩ => ⟨S32768x1024, .bf16⟩
  | .hbm, ⟨71, _⟩ => ⟨S4x32768x128, .f32⟩
  | .hbm, ⟨72, _⟩ => ⟨S32768x2048, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S512x1024, .bf16⟩
  | .local _ .vmem, ⟨5, _⟩ => ⟨S1024x1024, .bf16⟩
  | .local _ .vmem, ⟨6, _⟩ => ⟨S1024x1024, .bf16⟩
  | .local _ .vmem, ⟨7, _⟩ => ⟨S4x1024x128, .f32⟩
  | .local _ .vmem, ⟨8, _⟩ => ⟨S4x1024x128, .f32⟩
  | .local _ .vmem, ⟨9, _⟩ => ⟨S1024x2048, .bf16⟩
  | .local _ .vmem, ⟨10, _⟩ => ⟨S1024x2048, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v11 : Ref sig .tc := ⟨.hbm, 35, rfl⟩
abbrev main_v12 : Ref sig .tc := ⟨.hbm, 36, rfl⟩
abbrev main_cst : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_c_0 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v22 : Ref sig .tc := ⟨.hbm, 53, rfl⟩
abbrev main_cst_1 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v26 : Ref sig .tc := ⟨.hbm, 63, rfl⟩
abbrev main_v27 : Ref sig .tc := ⟨.hbm, 64, rfl⟩
abbrev main_cst_2 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32_0 : Ref sig .tc := ⟨.hbm, 70, rfl⟩
abbrev main_v32_1 : Ref sig .tc := ⟨.hbm, 71, rfl⟩
abbrev main_v32_2 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S4x8192x1024 : Shape := ⟨3, ![4, 8192, 1024]⟩
abbrev S1x1024 : Shape := ⟨2, ![1, 1024]⟩
abbrev S1x1024x3072 : Shape := ⟨3, ![1, 1024, 3072]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x3072 : Shape := ⟨2, ![1024, 3072]⟩
abbrev S4x8192x3072 : Shape := ⟨3, ![4, 8192, 3072]⟩
abbrev S4x8192x512 : Shape := ⟨3, ![4, 8192, 512]⟩
abbrev S4x8192x2048 : Shape := ⟨3, ![4, 8192, 2048]⟩
abbrev S32768x4x128 : Shape := ⟨3, ![32768, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S32768x512 : Shape := ⟨2, ![32768, 512]⟩
abbrev S32768x1024 : Shape := ⟨2, ![32768, 1024]⟩
abbrev S4x32768x128 : Shape := ⟨3, ![4, 32768, 128]⟩
abbrev S32768x2048 : Shape := ⟨2, ![32768, 2048]⟩

abbrev nBuf : Space → Nat
  | .hbm => 85
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x3072, .f32⟩
  | .hbm, ⟨3, _⟩ => ⟨S1024, .f32⟩
  | .hbm, ⟨4, _⟩ => ⟨S4x8192x1024, .f32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S_, .f32⟩
  | .hbm, ⟨9, _⟩ => ⟨S4x8192x1, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S4x8192x1, .f32⟩
  | .hbm, ⟨15, _⟩ => ⟨S4x8192x1024, .f32⟩
  | .hbm, ⟨16, _⟩ => ⟨S4x8192x1024, .f32⟩
  | .hbm, ⟨17, _⟩ => ⟨S1x1x1024, .f32⟩
  | .hbm, ⟨18, _⟩ => ⟨S4x8192x1024, .f32⟩
  | .hbm, ⟨19, _⟩ => ⟨S4x8192x1024, .f32⟩
  | .hbm, ⟨20, _⟩ => ⟨S1024x3072, .f32⟩
  | .hbm, ⟨21, _⟩ => ⟨S4x8192x3072, .f32⟩
  | .hbm, ⟨22, _⟩ => ⟨S4x8192x512, .f32⟩
  | .hbm, ⟨23, _⟩ => ⟨S4x8192x512, .f32⟩
  | .hbm, ⟨24, _⟩ => ⟨S4x8192x2048, .f32⟩
  | .hbm, ⟨25, _⟩ => ⟨S32768x4x128, .f32⟩
  | .hbm, ⟨26, _⟩ => ⟨S128, .i32⟩
  | .hbm, ⟨27, _⟩ => ⟨S128x1, .i32⟩
  | .hbm, ⟨28, _⟩ => ⟨S1x128, .i32⟩
  | .hbm, ⟨29, _⟩ => ⟨S128x128, .i32⟩
  | .hbm, ⟨30, _⟩ => ⟨S128x128, .i32⟩
  | .hbm, ⟨31, _⟩ => ⟨S128x128, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S128x128, .i32⟩
  | .hbm, ⟨39, _⟩ => ⟨S128x128, .i32⟩
  | .hbm, ⟨40, _⟩ => ⟨S_, .i32⟩
  | .hbm, ⟨41, _⟩ => ⟨S128x128, .i32⟩
  | .hbm, ⟨42, _⟩ => ⟨S128x128, .i1⟩
  | .hbm, ⟨43, _⟩ => ⟨S_, .i32⟩
  | .hbm, ⟨44, _⟩ => ⟨S128x128, .i32⟩
  | .hbm, ⟨45, _⟩ => ⟨S128x128, .i1⟩
  | .hbm, ⟨46, _⟩ => ⟨S_, .i32⟩
  | .hbm, ⟨47, _⟩ => ⟨S_, .i1⟩
  | .hbm, ⟨48, _⟩ => ⟨S128x128, .i1⟩
  | .hbm, ⟨49, _⟩ => ⟨S128x128, .i1⟩
  | .hbm, ⟨50, _⟩ => ⟨S128x128, .i1⟩
  | .hbm, ⟨51, _⟩ => ⟨S128x128, .i32⟩
  | .hbm, ⟨52, _⟩ => ⟨S128x128, .i32⟩
  | .hbm, ⟨53, _⟩ => ⟨S128x128, .i32⟩
  | .hbm, ⟨54, _⟩ => ⟨S128x128, .f32⟩
  | .hbm, ⟨55, _⟩ => ⟨S_, .f32⟩
  | .hbm, ⟨56, _⟩ => ⟨S128x128, .f32⟩
  | .hbm, ⟨57, _⟩ => ⟨S128x128, .f32⟩
  | .hbm, ⟨58, _⟩ => ⟨S128x128, .f32⟩
  | .hbm, ⟨59, _⟩ => ⟨S_, .f32⟩
  | .hbm, ⟨60, _⟩ => ⟨S128x128, .f32⟩
  | .hbm, ⟨61, _⟩ => ⟨S128x128, .f32⟩
  | .hbm, ⟨62, _⟩ => ⟨S32768x4x128, .f32⟩
  | .hbm, ⟨63, _⟩ => ⟨S128x128, .f32⟩
  | .hbm, ⟨64, _⟩ => ⟨S128x128, .f32⟩
  | .hbm, ⟨65, _⟩ => ⟨S_, .f32⟩
  | .hbm, ⟨66, _⟩ => ⟨S128x128, .f32⟩
  | .hbm, ⟨67, _⟩ => ⟨S128x128, .f32⟩
  | .hbm, ⟨68, _⟩ => ⟨S32768x4x128, .f32⟩
  | .hbm, ⟨69, _⟩ => ⟨S32768x512, .f32⟩
  | .hbm, ⟨70, _⟩ => ⟨S32768x512, .f32⟩
  | .hbm, ⟨71, _⟩ => ⟨S32768x1024, .f32⟩
  | .hbm, ⟨72, _⟩ => ⟨S32768x1024, .bf16⟩
  | .hbm, ⟨73, _⟩ => ⟨S32768x4x128, .f32⟩
  | .hbm, ⟨74, _⟩ => ⟨S4x32768x128, .f32⟩
  | .hbm, ⟨75, _⟩ => ⟨S4x8192x2048, .f32⟩
  | .hbm, ⟨76, _⟩ => ⟨S4x8192x2048, .f32⟩
  | .hbm, ⟨77, _⟩ => ⟨S_, .f32⟩
  | .hbm, ⟨78, _⟩ => ⟨S4x8192x2048, .f32⟩
  | .hbm, ⟨79, _⟩ => ⟨S4x8192x2048, .f32⟩
  | .hbm, ⟨80, _⟩ => ⟨S_, .f32⟩
  | .hbm, ⟨81, _⟩ => ⟨S4x8192x2048, .f32⟩
  | .hbm, ⟨82, _⟩ => ⟨S4x8192x2048, .f32⟩
  | .hbm, ⟨83, _⟩ => ⟨S32768x2048, .f32⟩
  | .hbm, ⟨84, _⟩ => ⟨S32768x2048, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c : Ref sig .tc := ⟨.hbm, 32, rfl⟩
abbrev main_call0_v0 : Ref sig .tc := ⟨.hbm, 33, rfl⟩
abbrev main_call0_c : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_c_1 : Ref sig .tc := ⟨.hbm, 40, rfl⟩
abbrev main_call0_v5 : Ref sig .tc := ⟨.hbm, 41, rfl⟩
abbrev main_call0_v6 : Ref sig .tc := ⟨.hbm, 42, rfl⟩
abbrev main_call0_c_2 : Ref sig .tc := ⟨.hbm, 43, rfl⟩
abbrev main_call0_v7 : Ref sig .tc := ⟨.hbm, 44, rfl⟩
abbrev main_call0_v8 : Ref sig .tc := ⟨.hbm, 45, rfl⟩
abbrev main_call0_c_3 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_v26 : Ref sig .tc := ⟨.hbm, 53, rfl⟩
abbrev main_v27 : Ref sig .tc := ⟨.hbm, 54, rfl⟩
abbrev main_cst_2 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_3 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_4 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_5 : Ref sig .tc := ⟨.hbm, 77, rfl⟩
abbrev main_v47 : Ref sig .tc := ⟨.hbm, 78, rfl⟩
abbrev main_v48 : Ref sig .tc := ⟨.hbm, 79, rfl⟩
abbrev main_cst_6 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩

abbrev nD : Nat := 1
abbrev τ : Topo := Topo.v7x

variable {F : FTy → Type} [FloatOps F]
-- ==== Kernel3.lean ====
abbrev S32768x512 : Shape := ⟨2, ![32768, 512]⟩
abbrev S4x32768x128 : Shape := ⟨3, ![4, 32768, 128]⟩
abbrev S32768x2048 : Shape := ⟨2, ![32768, 2048]⟩
abbrev S4x8192x1024 : Shape := ⟨3, ![4, 8192, 1024]⟩
abbrev S1x512x1024 : Shape := ⟨3, ![1, 512, 1024]⟩
abbrev S1x512x2048 : Shape := ⟨3, ![1, 512, 2048]⟩
abbrev S1x1024x1024 : Shape := ⟨3, ![1, 1024, 1024]⟩
abbrev S1x1024 : Shape := ⟨2, ![1, 1024]⟩
abbrev S1x1024x16 : Shape := ⟨3, ![1, 1024, 16]⟩
abbrev S1024x16 : Shape := ⟨2, ![1024, 16]⟩
abbrev S_ : Shape := ⟨0, ![]⟩
abbrev S1024x128 : Shape := ⟨2, ![1024, 128]⟩
abbrev S1024x256 : Shape := ⟨2, ![1024, 256]⟩
abbrev S2048x256 : Shape := ⟨2, ![2048, 256]⟩
abbrev S32768x1024 : Shape := ⟨2, ![32768, 1024]⟩
abbrev S512x1024 : Shape := ⟨2, ![512, 1024]⟩
abbrev S512x2048 : Shape := ⟨2, ![512, 2048]⟩
abbrev S1024x1024 : Shape := ⟨2, ![1024, 1024]⟩
abbrev S1024 : Shape := ⟨1, ![1024]⟩
abbrev S16x32768 : Shape := ⟨2, ![16, 32768]⟩
abbrev S1024x512 : Shape := ⟨2, ![1024, 512]⟩
abbrev S4x1024x128 : Shape := ⟨3, ![4, 1024, 128]⟩
abbrev S1024x2048 : Shape := ⟨2, ![1024, 2048]⟩
abbrev S16x1024 : Shape := ⟨2, ![16, 1024]⟩
abbrev S256x512 : Shape := ⟨2, ![256, 512]⟩
abbrev S256x1024 : Shape := ⟨2, ![256, 1024]⟩
abbrev S1x256x128 : Shape := ⟨3, ![1, 256, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩
abbrev S256x256 : Shape := ⟨2, ![256, 256]⟩
abbrev S128x256 : Shape := ⟨2, ![128, 256]⟩
abbrev S16x256 : Shape := ⟨2, ![16, 256]⟩

abbrev nBuf : Space → Nat
  | .hbm => 40
  | .vmem => 19
  | .smem => 0
  | _ => 0

abbrev bufTy : (tb : Table) → Fin (tcTables nBuf tb) → BufTy
  | .hbm, ⟨0, _⟩ => ⟨S32768x512, .bf16⟩
  | .hbm, ⟨1, _⟩ => ⟨S4x32768x128, .f32⟩
  | .hbm, ⟨2, _⟩ => ⟨S32768x2048, .bf16⟩
  | .hbm, ⟨3, _⟩ => ⟨S4x8192x1024, .f32⟩
  | .hbm, ⟨4, _⟩ => ⟨S1x512x1024, .f32⟩
  | .hbm, ⟨5, _⟩ => ⟨S1x512x2048, .f32⟩
  | .hbm, ⟨6, _⟩ => ⟨S1x1024x1024, .f32⟩
  | .hbm, ⟨7, _⟩ => ⟨S1x1024, .f32⟩
  | .hbm, ⟨8, _⟩ => ⟨S1x1024x16, .f32⟩
  | .hbm, ⟨9, _⟩ => ⟨S1024x16, .f32⟩
  | .hbm, ⟨10, _⟩ => ⟨S1024x16, .bf16⟩
  | .hbm, ⟨11, _⟩ => ⟨S1024x16, .f32⟩
  | .hbm, ⟨12, _⟩ => ⟨S1024x16, .f32⟩
  | .hbm, ⟨13, _⟩ => ⟨S1024x16, .bf16⟩
  | .hbm, ⟨14, _⟩ => ⟨S_, .i32⟩
  | .hbm, ⟨15, _⟩ => ⟨S_, .bf16⟩
  | .hbm, ⟨16, _⟩ => ⟨S1024x128, .bf16⟩
  | .hbm, ⟨17, _⟩ => ⟨S_, .i32⟩
  | .hbm, ⟨18, _⟩ => ⟨S_, .bf16⟩
  | .hbm, ⟨19, _⟩ => ⟨S1024x128, .bf16⟩
  | .hbm, ⟨20, _⟩ => ⟨S1024x256, .bf16⟩
  | .hbm, ⟨21, _⟩ => ⟨S_, .i32⟩
  | .hbm, ⟨22, _⟩ => ⟨S_, .bf16⟩
  | .hbm, ⟨23, _⟩ => ⟨S1024x128, .bf16⟩
  | .hbm, ⟨24, _⟩ => ⟨S_, .bf16⟩
  | .hbm, ⟨25, _⟩ => ⟨S1024x128, .bf16⟩
  | .hbm, ⟨26, _⟩ => ⟨S1024x256, .bf16⟩
  | .hbm, ⟨27, _⟩ => ⟨S2048x256, .bf16⟩
  | .hbm, ⟨28, _⟩ => ⟨S32768x1024, .f32⟩
  | .hbm, ⟨29, _⟩ => ⟨S512x1024, .f32⟩
  | .hbm, ⟨30, _⟩ => ⟨S512x1024, .bf16⟩
  | .hbm, ⟨31, _⟩ => ⟨S512x2048, .f32⟩
  | .hbm, ⟨32, _⟩ => ⟨S512x2048, .bf16⟩
  | .hbm, ⟨33, _⟩ => ⟨S1024x1024, .f32⟩
  | .hbm, ⟨34, _⟩ => ⟨S1024x1024, .bf16⟩
  | .hbm, ⟨35, _⟩ => ⟨S1024, .f32⟩
  | .hbm, ⟨36, _⟩ => ⟨S1x1024, .f32⟩
  | .hbm, ⟨37, _⟩ => ⟨S32768x1024, .f32⟩
  | .hbm, ⟨38, _⟩ => ⟨S32768x1024, .bf16⟩
  | .hbm, ⟨39, _⟩ => ⟨S16x32768, .f32⟩
  | .local _ .vmem, ⟨0, _⟩ => ⟨S1024x512, .bf16⟩
  | .local _ .vmem, ⟨1, _⟩ => ⟨S1024x512, .bf16⟩
  | .local _ .vmem, ⟨2, _⟩ => ⟨S4x1024x128, .f32⟩
  | .local _ .vmem, ⟨3, _⟩ => ⟨S4x1024x128, .f32⟩
  | .local _ .vmem, ⟨4, _⟩ => ⟨S1024x2048, .bf16⟩
  | .local _ .vmem, ⟨5, _⟩ => ⟨S1024x2048, .bf16⟩
  | .local _ .vmem, ⟨6, _⟩ => ⟨S1024x1024, .f32⟩
  | .local _ .vmem, ⟨7, _⟩ => ⟨S1024x1024, .f32⟩
  | .local _ .vmem, ⟨8, _⟩ => ⟨S512x1024, .bf16⟩
  | .local _ .vmem, ⟨9, _⟩ => ⟨S512x2048, .bf16⟩
  | .local _ .vmem, ⟨10, _⟩ => ⟨S1024x1024, .bf16⟩
  | .local _ .vmem, ⟨11, _⟩ => ⟨S1x1024, .f32⟩
  | .local _ .vmem, ⟨12, _⟩ => ⟨S2048x256, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x1024, .bf16⟩
  | .local _ .vmem, ⟨17, _⟩ => ⟨S16x1024, .f32⟩
  | .local _ .vmem, ⟨18, _⟩ => ⟨S16x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_c_0 : Ref sig .tc := ⟨.hbm, 17, rfl⟩
abbrev main_call1_v0 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_call2_v0 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21_0 : Ref sig .tc := ⟨.hbm, 37, rfl⟩
abbrev main_v21_1 : Ref sig .tc := ⟨.hbm, 38, rfl⟩
abbrev main_v21_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S32768x512 : Shape := ⟨2, ![32768, 512]⟩
abbrev S4x32768x128 : Shape := ⟨3, ![4, 32768, 128]⟩
abbrev S32768x2048 : Shape := ⟨2, ![32768, 2048]⟩
abbrev S4x8192x1024 : Shape := ⟨3, ![4, 8192, 1024]⟩
abbrev S1x512x1024 : Shape := ⟨3, ![1, 512, 1024]⟩
abbrev S1x512x2048 : Shape := ⟨3, ![1, 512, 2048]⟩
abbrev S1x1024x1024 : Shape := ⟨3, ![1, 1024, 1024]⟩
abbrev S1x1024 : Shape := ⟨2, ![1, 1024]⟩
abbrev S1x1024x16 : Shape := ⟨3, ![1, 1024, 16]⟩
abbrev S32768x1024 : Shape := ⟨2, ![32768, 1024]⟩
abbrev S512x1024 : Shape := ⟨2, ![512, 1024]⟩
abbrev S32768x4x128 : Shape := ⟨3, ![32768, 4, 128]⟩
abbrev S512x2048 : Shape := ⟨2, ![512, 2048]⟩
abbrev S_ : Shape := ⟨0, ![]⟩
abbrev S1024x1024 : Shape := ⟨2, ![1024, 1024]⟩
abbrev S1024 : Shape := ⟨1, ![1024]⟩
abbrev S32768 : Shape := ⟨1, ![32768]⟩
abbrev S32768x1 : Shape := ⟨2, ![32768, 1]⟩

abbrev nBuf : Space → Nat
  | .hbm => 55
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S4x32768x128, .f32⟩
  | .hbm, ⟨2, _⟩ => ⟨S32768x2048, .bf16⟩
  | .hbm, ⟨3, _⟩ => ⟨S4x8192x1024, .f32⟩
  | .hbm, ⟨4, _⟩ => ⟨S1x512x1024, .f32⟩
  | .hbm, ⟨5, _⟩ => ⟨S1x512x2048, .f32⟩
  | .hbm, ⟨6, _⟩ => ⟨S1x1024x1024, .f32⟩
  | .hbm, ⟨7, _⟩ => ⟨S1x1024, .f32⟩
  | .hbm, ⟨8, _⟩ => ⟨S1x1024x16, .f32⟩
  | .hbm, ⟨9, _⟩ => ⟨S32768x1024, .f32⟩
  | .hbm, ⟨10, _⟩ => ⟨S32768x512, .f32⟩
  | .hbm, ⟨11, _⟩ => ⟨S512x1024, .f32⟩
  | .hbm, ⟨12, _⟩ => ⟨S32768x1024, .f32⟩
  | .hbm, ⟨13, _⟩ => ⟨S32768x4x128, .f32⟩
  | .hbm, ⟨14, _⟩ => ⟨S32768x512, .f32⟩
  | .hbm, ⟨15, _⟩ => ⟨S512x2048, .f32⟩
  | .hbm, ⟨16, _⟩ => ⟨S32768x2048, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768x1024, .f32⟩
  | .hbm, ⟨23, _⟩ => ⟨S32768x1024, .f32⟩
  | .hbm, ⟨24, _⟩ => ⟨S_, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x2048, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S1024x1024, .f32⟩
  | .hbm, ⟨35, _⟩ => ⟨S32768x1024, .f32⟩
  | .hbm, ⟨36, _⟩ => ⟨S32768x1024, .f32⟩
  | .hbm, ⟨37, _⟩ => ⟨S1024, .f32⟩
  | .hbm, ⟨38, _⟩ => ⟨S32768x1024, .f32⟩
  | .hbm, ⟨39, _⟩ => ⟨S_, .f32⟩
  | .hbm, ⟨40, _⟩ => ⟨S32768, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S32768x1, .f32⟩
  | .hbm, ⟨49, _⟩ => ⟨S32768x1024, .f32⟩
  | .hbm, ⟨50, _⟩ => ⟨S32768x1024, .f32⟩
  | .hbm, ⟨51, _⟩ => ⟨S1x1024, .f32⟩
  | .hbm, ⟨52, _⟩ => ⟨S32768x1024, .f32⟩
  | .hbm, ⟨53, _⟩ => ⟨S32768x1024, .f32⟩
  | .hbm, ⟨54, _⟩ => ⟨S32768x1024, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel4.lean ====
abbrev S32768x512 : Shape := ⟨2, ![32768, 512]⟩
abbrev S4x32768x128 : Shape := ⟨3, ![4, 32768, 128]⟩
abbrev S32768x2048 : Shape := ⟨2, ![32768, 2048]⟩
abbrev S4x8192x1024 : Shape := ⟨3, ![4, 8192, 1024]⟩
abbrev S1x512x1024 : Shape := ⟨3, ![1, 512, 1024]⟩
abbrev S1x512x2048 : Shape := ⟨3, ![1, 512, 2048]⟩
abbrev S1x1024x1024 : Shape := ⟨3, ![1, 1024, 1024]⟩
abbrev S1x1024 : Shape := ⟨2, ![1, 1024]⟩
abbrev S1x1024x16 : Shape := ⟨3, ![1, 1024, 16]⟩
abbrev S1024x16 : Shape := ⟨2, ![1024, 16]⟩
abbrev S_ : Shape := ⟨0, ![]⟩
abbrev S1024x128 : Shape := ⟨2, ![1024, 128]⟩
abbrev S1024x256 : Shape := ⟨2, ![1024, 256]⟩
abbrev S2048x256 : Shape := ⟨2, ![2048, 256]⟩
abbrev S32768x1024 : Shape := ⟨2, ![32768, 1024]⟩
abbrev S512x1024 : Shape := ⟨2, ![512, 1024]⟩
abbrev S512x2048 : Shape := ⟨2, ![512, 2048]⟩
abbrev S1024x1024 : Shape := ⟨2, ![1024, 1024]⟩
abbrev S1024 : Shape := ⟨1, ![1024]⟩
abbrev S16x32768 : Shape := ⟨2, ![16, 32768]⟩
abbrev S1024x512 : Shape := ⟨2, ![1024, 512]⟩
abbrev S4x1024x128 : Shape := ⟨3, ![4, 1024, 128]⟩
abbrev S1024x2048 : Shape := ⟨2, ![1024, 2048]⟩
abbrev S16x1024 : Shape := ⟨2, ![16, 1024]⟩
abbrev S256x512 : Shape := ⟨2, ![256, 512]⟩
abbrev S256x1024 : Shape := ⟨2, ![256, 1024]⟩
abbrev S1x256x128 : Shape := ⟨3, ![1, 256, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩
abbrev S256x256 : Shape := ⟨2, ![256, 256]⟩
abbrev S128x256 : Shape := ⟨2, ![128, 256]⟩
abbrev S16x256 : Shape := ⟨2, ![16, 256]⟩

abbrev nBuf : Space → Nat
  | .hbm => 40
  | .vmem => 19
  | .smem => 0
  | _ => 0

abbrev bufTy : (tb : Table) → Fin (tcTables nBuf tb) → BufTy
  | .hbm, ⟨0, _⟩ => ⟨S32768x512, .bf16⟩
  | .hbm, ⟨1, _⟩ => ⟨S4x32768x128, .f32⟩
  | .hbm, ⟨2, _⟩ => ⟨S32768x2048, .bf16⟩
  | .hbm, ⟨3, _⟩ => ⟨S4x8192x1024, .f32⟩
  | .hbm, ⟨4, _⟩ => ⟨S1x512x1024, .f32⟩
  | .hbm, ⟨5, _⟩ => ⟨S1x512x2048, .f32⟩
  | .hbm, ⟨6, _⟩ => ⟨S1x1024x1024, .f32⟩
  | .hbm, ⟨7, _⟩ => ⟨S1x1024, .f32⟩
  | .hbm, ⟨8, _⟩ => ⟨S1x1024x16, .f32⟩
  | .hbm, ⟨9, _⟩ => ⟨S1024x16, .f32⟩
  | .hbm, ⟨10, _⟩ => ⟨S1024x16, .bf16⟩
  | .hbm, ⟨11, _⟩ => ⟨S1024x16, .f32⟩
  | .hbm, ⟨12, _⟩ => ⟨S1024x16, .f32⟩
  | .hbm, ⟨13, _⟩ => ⟨S1024x16, .bf16⟩
  | .hbm, ⟨14, _⟩ => ⟨S_, .i32⟩
  | .hbm, ⟨15, _⟩ => ⟨S_, .bf16⟩
  | .hbm, ⟨16, _⟩ => ⟨S1024x128, .bf16⟩
  | .hbm, ⟨17, _⟩ => ⟨S_, .i32⟩
  | .hbm, ⟨18, _⟩ => ⟨S_, .bf16⟩
  | .hbm, ⟨19, _⟩ => ⟨S1024x128, .bf16⟩
  | .hbm, ⟨20, _⟩ => ⟨S1024x256, .bf16⟩
  | .hbm, ⟨21, _⟩ => ⟨S_, .i32⟩
  | .hbm, ⟨22, _⟩ => ⟨S_, .bf16⟩
  | .hbm, ⟨23, _⟩ => ⟨S1024x128, .bf16⟩
  | .hbm, ⟨24, _⟩ => ⟨S_, .bf16⟩
  | .hbm, ⟨25, _⟩ => ⟨S1024x128, .bf16⟩
  | .hbm, ⟨26, _⟩ => ⟨S1024x256, .bf16⟩
  | .hbm, ⟨27, _⟩ => ⟨S2048x256, .bf16⟩
  | .hbm, ⟨28, _⟩ => ⟨S32768x1024, .f32⟩
  | .hbm, ⟨29, _⟩ => ⟨S512x1024, .f32⟩
  | .hbm, ⟨30, _⟩ => ⟨S512x1024, .bf16⟩
  | .hbm, ⟨31, _⟩ => ⟨S512x2048, .f32⟩
  | .hbm, ⟨32, _⟩ => ⟨S512x2048, .bf16⟩
  | .hbm, ⟨33, _⟩ => ⟨S1024x1024, .f32⟩
  | .hbm, ⟨34, _⟩ => ⟨S1024x1024, .bf16⟩
  | .hbm, ⟨35, _⟩ => ⟨S1024, .f32⟩
  | .hbm, ⟨36, _⟩ => ⟨S1x1024, .f32⟩
  | .hbm, ⟨37, _⟩ => ⟨S32768x1024, .f32⟩
  | .hbm, ⟨38, _⟩ => ⟨S32768x1024, .bf16⟩
  | .hbm, ⟨39, _⟩ => ⟨S16x32768, .f32⟩
  | .local _ .vmem, ⟨0, _⟩ => ⟨S1024x512, .bf16⟩
  | .local _ .vmem, ⟨1, _⟩ => ⟨S1024x512, .bf16⟩
  | .local _ .vmem, ⟨2, _⟩ => ⟨S4x1024x128, .f32⟩
  | .local _ .vmem, ⟨3, _⟩ => ⟨S4x1024x128, .f32⟩
  | .local _ .vmem, ⟨4, _⟩ => ⟨S1024x2048, .bf16⟩
  | .local _ .vmem, ⟨5, _⟩ => ⟨S1024x2048, .bf16⟩
  | .local _ .vmem, ⟨6, _⟩ => ⟨S1024x1024, .f32⟩
  | .local _ .vmem, ⟨7, _⟩ => ⟨S1024x1024, .f32⟩
  | .local _ .vmem, ⟨8, _⟩ => ⟨S512x1024, .bf16⟩
  | .local _ .vmem, ⟨9, _⟩ => ⟨S512x2048, .bf16⟩
  | .local _ .vmem, ⟨10, _⟩ => ⟨S1024x1024, .bf16⟩
  | .local _ .vmem, ⟨11, _⟩ => ⟨S1x1024, .f32⟩
  | .local _ .vmem, ⟨12, _⟩ => ⟨S2048x256, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x1024, .bf16⟩
  | .local _ .vmem, ⟨17, _⟩ => ⟨S16x1024, .f32⟩
  | .local _ .vmem, ⟨18, _⟩ => ⟨S16x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_c_0 : Ref sig .tc := ⟨.hbm, 17, rfl⟩
abbrev main_call1_v0 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_call2_v0 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21_0 : Ref sig .tc := ⟨.hbm, 37, rfl⟩
abbrev main_v21_1 : Ref sig .tc := ⟨.hbm, 38, rfl⟩
abbrev main_v21_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel4Ideal.lean ====
variable {F : FTy → Type} [FloatOps F] [Named F]
def κ : String → Option EReal := fun
  | "mask" => some ⊥
  | _ => none
-- ==== Reference4Ideal.lean ====
abbrev S32768x512 : Shape := ⟨2, ![32768, 512]⟩
abbrev S4x32768x128 : Shape := ⟨3, ![4, 32768, 128]⟩
abbrev S32768x2048 : Shape := ⟨2, ![32768, 2048]⟩
abbrev S4x8192x1024 : Shape := ⟨3, ![4, 8192, 1024]⟩
abbrev S1x512x1024 : Shape := ⟨3, ![1, 512, 1024]⟩
abbrev S1x512x2048 : Shape := ⟨3, ![1, 512, 2048]⟩
abbrev S1x1024x1024 : Shape := ⟨3, ![1, 1024, 1024]⟩
abbrev S1x1024 : Shape := ⟨2, ![1, 1024]⟩
abbrev S1x1024x16 : Shape := ⟨3, ![1, 1024, 16]⟩
abbrev S32768x1024 : Shape := ⟨2, ![32768, 1024]⟩
abbrev S512x1024 : Shape := ⟨2, ![512, 1024]⟩
abbrev S32768x4x128 : Shape := ⟨3, ![32768, 4, 128]⟩
abbrev S512x2048 : Shape := ⟨2, ![512, 2048]⟩
abbrev S_ : Shape := ⟨0, ![]⟩
abbrev S1024x1024 : Shape := ⟨2, ![1024, 1024]⟩
abbrev S1024 : Shape := ⟨1, ![1024]⟩
abbrev S32768 : Shape := ⟨1, ![32768]⟩
abbrev S32768x1 : Shape := ⟨2, ![32768, 1]⟩
abbrev S1024x16 : Shape := ⟨2, ![1024, 16]⟩
abbrev S32768x16 : Shape := ⟨2, ![32768, 16]⟩
abbrev S16x32768 : Shape := ⟨2, ![16, 32768]⟩

abbrev nBuf : Space → Nat
  | .hbm => 71
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S4x32768x128, .f32⟩
  | .hbm, ⟨2, _⟩ => ⟨S32768x2048, .bf16⟩
  | .hbm, ⟨3, _⟩ => ⟨S4x8192x1024, .f32⟩
  | .hbm, ⟨4, _⟩ => ⟨S1x512x1024, .f32⟩
  | .hbm, ⟨5, _⟩ => ⟨S1x512x2048, .f32⟩
  | .hbm, ⟨6, _⟩ => ⟨S1x1024x1024, .f32⟩
  | .hbm, ⟨7, _⟩ => ⟨S1x1024, .f32⟩
  | .hbm, ⟨8, _⟩ => ⟨S1x1024x16, .f32⟩
  | .hbm, ⟨9, _⟩ => ⟨S32768x1024, .f32⟩
  | .hbm, ⟨10, _⟩ => ⟨S32768x512, .f32⟩
  | .hbm, ⟨11, _⟩ => ⟨S512x1024, .f32⟩
  | .hbm, ⟨12, _⟩ => ⟨S32768x1024, .f32⟩
  | .hbm, ⟨13, _⟩ => ⟨S32768x4x128, .f32⟩
  | .hbm, ⟨14, _⟩ => ⟨S32768x512, .f32⟩
  | .hbm, ⟨15, _⟩ => ⟨S512x2048, .f32⟩
  | .hbm, ⟨16, _⟩ => ⟨S32768x2048, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768x1024, .f32⟩
  | .hbm, ⟨23, _⟩ => ⟨S32768x1024, .f32⟩
  | .hbm, ⟨24, _⟩ => ⟨S_, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x2048, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S1024x1024, .f32⟩
  | .hbm, ⟨35, _⟩ => ⟨S32768x1024, .f32⟩
  | .hbm, ⟨36, _⟩ => ⟨S32768x1024, .f32⟩
  | .hbm, ⟨37, _⟩ => ⟨S1024, .f32⟩
  | .hbm, ⟨38, _⟩ => ⟨S32768x1024, .f32⟩
  | .hbm, ⟨39, _⟩ => ⟨S_, .f32⟩
  | .hbm, ⟨40, _⟩ => ⟨S32768, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S32768x1, .f32⟩
  | .hbm, ⟨49, _⟩ => ⟨S32768x1024, .f32⟩
  | .hbm, ⟨50, _⟩ => ⟨S32768x1024, .f32⟩
  | .hbm, ⟨51, _⟩ => ⟨S1x1024, .f32⟩
  | .hbm, ⟨52, _⟩ => ⟨S32768x1024, .f32⟩
  | .hbm, ⟨53, _⟩ => ⟨S32768x1024, .f32⟩
  | .hbm, ⟨54, _⟩ => ⟨S1024x16, .f32⟩
  | .hbm, ⟨55, _⟩ => ⟨S32768x16, .f32⟩
  | .hbm, ⟨56, _⟩ => ⟨S_, .f32⟩
  | .hbm, ⟨57, _⟩ => ⟨S32768, .f32⟩
  | .hbm, ⟨58, _⟩ => ⟨S_, .f32⟩
  | .hbm, ⟨59, _⟩ => ⟨S32768, .f32⟩
  | .hbm, ⟨60, _⟩ => ⟨S32768, .f32⟩
  | .hbm, ⟨61, _⟩ => ⟨S32768x1, .f32⟩
  | .hbm, ⟨62, _⟩ => ⟨S32768x16, .f32⟩
  | .hbm, ⟨63, _⟩ => ⟨S32768x16, .f32⟩
  | .hbm, ⟨64, _⟩ => ⟨S32768x16, .f32⟩
  | .hbm, ⟨65, _⟩ => ⟨S_, .f32⟩
  | .hbm, ⟨66, _⟩ => ⟨S32768, .f32⟩
  | .hbm, ⟨67, _⟩ => ⟨S32768x1, .f32⟩
  | .hbm, ⟨68, _⟩ => ⟨S32768x16, .f32⟩
  | .hbm, ⟨69, _⟩ => ⟨S32768x16, .f32⟩
  | .hbm, ⟨70, _⟩ => ⟨S16x32768, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_4 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_6 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== Kernel5.lean ====
abbrev S32768x1024 : Shape := ⟨2, ![32768, 1024]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S64x8x64 : Shape := ⟨3, ![64, 8, 64]⟩
abbrev S512x64 : Shape := ⟨2, ![512, 64]⟩
abbrev S512x64x8 : Shape := ⟨3, ![512, 64, 8]⟩
abbrev S64x1x1 : Shape := ⟨3, ![64, 1, 1]⟩
abbrev S128 : Shape := ⟨1, ![128]⟩
abbrev S1x128x1 : Shape := ⟨3, ![1, 128, 1]⟩
abbrev S1x1x128 : Shape := ⟨3, ![1, 1, 128]⟩
abbrev S64x128x1 : Shape := ⟨3, ![64, 128, 1]⟩
abbrev S64x128x128 : Shape := ⟨3, ![64, 128, 128]⟩
abbrev S8x8 : Shape := ⟨2, ![8, 8]⟩
abbrev S1x1x8x8x1 : Shape := ⟨5, ![1, 1, 8, 8, 1]⟩
abbrev S8x8x128x128 : Shape := ⟨4, ![8, 8, 128, 128]⟩
abbrev S8x128x8x128 : Shape := ⟨4, ![8, 128, 8, 128]⟩
abbrev S8x128x8x1x128 : Shape := ⟨5, ![8, 128, 8, 1, 128]⟩
abbrev S8x128x8x8x128 : Shape := ⟨5, ![8, 128, 8, 8, 128]⟩
abbrev S8x1024x1024 : Shape := ⟨3, ![8, 1024, 1024]⟩
abbrev S4x64x128x1024 : Shape := ⟨4, ![4, 64, 128, 1024]⟩
abbrev S1x64x16x1024 : Shape := ⟨4, ![1, 64, 16, 1024]⟩
abbrev S64x16x1024 : Shape := ⟨3, ![64, 16, 1024]⟩
abbrev S64x8x1024 : Shape := ⟨3, ![64, 8, 1024]⟩
abbrev S512x1024 : Shape := ⟨2, ![512, 1024]⟩
abbrev S4x128x64x512 : Shape := ⟨4, ![4, 128, 64, 512]⟩
abbrev S1x16x128x1024 : Shape := ⟨4, ![1, 16, 128, 1024]⟩
abbrev S2x1024x1024 : Shape := ⟨3, ![2, 1024, 1024]⟩
abbrev S1x128x16x512 : Shape := ⟨4, ![1, 128, 16, 512]⟩
abbrev S1x8x128x1024 : Shape := ⟨4, ![1, 8, 128, 1024]⟩
abbrev S8x128x1024 : Shape := ⟨3, ![8, 128, 1024]⟩
abbrev S1024x1024 : Shape := ⟨2, ![1024, 1024]⟩
abbrev S1x1024x1024 : Shape := ⟨3, ![1, 1024, 1024]⟩
abbrev S1024x512 : Shape := ⟨2, ![1024, 512]⟩
abbrev S128x8x512 : Shape := ⟨3, ![128, 8, 512]⟩
abbrev S128x16x512 : Shape := ⟨3, ![128, 16, 512]⟩
abbrev S32768x512 : Shape := ⟨2, ![32768, 512]⟩

abbrev nBuf : Space → Nat
  | .hbm => 178
  | .vmem => 14
  | .smem => 0
  | _ => 0

abbrev hbmTy0_0 (i : Nat) : BufTy := match i % 128 with
  | 0 => ⟨S32768x1024, .bf16⟩
  | 1 => ⟨S64, .i32⟩
  | 2 => ⟨S64x1, .i32⟩
  | 3 => ⟨S1x64, .i32⟩
  | 4 => ⟨S64x64, .i32⟩
  | 5 => ⟨S64x64, .i32⟩
  | 6 => ⟨S64x64, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S64x64, .i32⟩
  | 14 => ⟨S64x64, .i32⟩
  | 15 => ⟨S_, .i32⟩
  | 16 => ⟨S64x64, .i32⟩
  | 17 => ⟨S64x64, .i1⟩
  | 18 => ⟨S_, .i32⟩
  | 19 => ⟨S64x64, .i32⟩
  | 20 => ⟨S64x64, .i1⟩
  | 21 => ⟨S_, .i32⟩
  | 22 => ⟨S_, .i1⟩
  | 23 => ⟨S64x64, .i1⟩
  | 24 => ⟨S64x64, .i1⟩
  | 25 => ⟨S64x64, .i1⟩
  | 26 => ⟨S64x64, .i32⟩
  | 27 => ⟨S64x64, .i32⟩
  | 28 => ⟨S64x64, .i32⟩
  | 29 => ⟨S64x64, .f32⟩
  | 30 => ⟨S_, .f32⟩
  | 31 => ⟨S64x64, .f32⟩
  | 32 => ⟨S64x64, .f32⟩
  | 33 => ⟨S512, .i32⟩
  | 34 => ⟨S512x1, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S512x1, .i32⟩
  | 42 => ⟨S512x1, .i32⟩
  | 43 => ⟨S_, .i32⟩
  | 44 => ⟨S512x1, .i32⟩
  | 45 => ⟨S512x1, .i1⟩
  | 46 => ⟨S_, .i32⟩
  | 47 => ⟨S512x1, .i32⟩
  | 48 => ⟨S512x1, .i1⟩
  | 49 => ⟨S_, .i32⟩
  | 50 => ⟨S_, .i1⟩
  | 51 => ⟨S512x1, .i1⟩
  | 52 => ⟨S512x1, .i1⟩
  | 53 => ⟨S512x1, .i1⟩
  | 54 => ⟨S512x1, .i32⟩
  | 55 => ⟨S512x1, .i32⟩
  | 56 => ⟨S512x1, .i32⟩
  | 57 => ⟨S1x512, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S1x512, .i32⟩
  | 65 => ⟨S1x512, .i32⟩
  | 66 => ⟨S_, .i32⟩
  | 67 => ⟨S1x512, .i32⟩
  | 68 => ⟨S1x512, .i1⟩
  | 69 => ⟨S_, .i32⟩
  | 70 => ⟨S1x512, .i32⟩
  | 71 => ⟨S1x512, .i1⟩
  | 72 => ⟨S_, .i32⟩
  | 73 => ⟨S_, .i1⟩
  | 74 => ⟨S1x512, .i1⟩
  | 75 => ⟨S1x512, .i1⟩
  | 76 => ⟨S1x512, .i1⟩
  | 77 => ⟨S1x512, .i32⟩
  | 78 => ⟨S1x512, .i32⟩
  | 79 => ⟨S1x512, .i32⟩
  | 80 => ⟨S512x512, .i32⟩
  | 81 => ⟨S512x512, .i32⟩
  | 82 => ⟨S512x512, .i1⟩
  | 83 => ⟨S512x512, .f32⟩
  | 84 => ⟨S_, .f32⟩
  | 85 => ⟨S512x512, .f32⟩
  | 86 => ⟨S512x512, .f32⟩
  | 87 => ⟨S64x64, .f32⟩
  | 88 => ⟨S64x8x64, .f32⟩
  | 89 => ⟨S512x64, .f32⟩
  | 90 => ⟨S512x64x8, .f32⟩
  | 91 => ⟨S512x512, .f32⟩
  | 92 => ⟨S512x512, .f32⟩
  | 93 => ⟨S512x512, .bf16⟩
  | 94 => ⟨S64x64, .f32⟩
  | 95 => ⟨S64x8x64, .f32⟩
  | 96 => ⟨S512x64, .f32⟩
  | 97 => ⟨S512x64x8, .f32⟩
  | 98 => ⟨S512x512, .f32⟩
  | 99 => ⟨S512x512, .f32⟩
  | 100 => ⟨S512x512, .bf16⟩
  | 101 => ⟨S64, .i32⟩
  | 102 => ⟨S64x1x1, .i32⟩
  | 103 => ⟨S128, .i32⟩
  | 104 => ⟨S1x128x1, .i32⟩
  | 105 => ⟨S128, .i32⟩
  | 106 => ⟨S1x1x128, .i32⟩
  | 107 => ⟨S_, .i32⟩
  | 108 => ⟨S1x128x1, .i32⟩
  | 109 => ⟨S1x128x1, .i32⟩
  | 110 => ⟨S64x128x1, .i32⟩
  | 111 => ⟨S64x128x1, .i32⟩
  | 112 => ⟨S64x128x1, .i32⟩
  | 113 => ⟨S64x128x128, .i32⟩
  | 114 => ⟨S64x128x128, .i32⟩
  | 115 => ⟨S64x128x128, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S64x128x128, .i32⟩
  | 123 => ⟨S64x128x128, .i32⟩
  | 124 => ⟨S_, .i32⟩
  | 125 => ⟨S64x128x128, .i32⟩
  | 126 => ⟨S64x128x128, .i1⟩
  | 127 => ⟨S_, .i32⟩
  | _ => ⟨S32768x1024, .bf16⟩

abbrev hbmTy0_1 (i : Nat) : BufTy := match i % 128 with
  | 0 => ⟨S64x128x128, .i32⟩
  | 1 => ⟨S64x128x128, .i1⟩
  | 2 => ⟨S_, .i32⟩
  | 3 => ⟨S_, .i1⟩
  | 4 => ⟨S64x128x128, .i1⟩
  | 5 => ⟨S64x128x128, .i1⟩
  | 6 => ⟨S64x128x128, .i1⟩
  | 7 => ⟨S64x128x128, .i32⟩
  | 8 => ⟨S64x128x128, .i32⟩
  | 9 => ⟨S64x128x128, .i32⟩
  | 10 => ⟨S64x128x128, .f32⟩
  | 11 => ⟨S_, .f32⟩
  | 12 => ⟨S64x128x128, .f32⟩
  | 13 => ⟨S64x128x128, .f32⟩
  | 14 => ⟨S8x8, .i32⟩
  | 15 => ⟨S8x8, .i32⟩
  | 16 => ⟨S_, .i32⟩
  | 17 => ⟨S8x8, .i32⟩
  | 18 => ⟨S8x8, .i32⟩
  | 19 => ⟨S8x8, .i1⟩
  | 20 => ⟨S8x8, .bf16⟩
  | 21 => ⟨S1x1x8x8x1, .bf16⟩
  | 22 => ⟨S64x128x128, .f32⟩
  | 23 => ⟨S_, .f32⟩
  | 24 => ⟨S64x128x128, .f32⟩
  | 25 => ⟨S64x128x128, .f32⟩
  | 26 => ⟨S64x128x128, .bf16⟩
  | 27 => ⟨S8x8x128x128, .bf16⟩
  | 28 => ⟨S8x128x8x128, .bf16⟩
  | 29 => ⟨S8x128x8x1x128, .bf16⟩
  | 30 => ⟨S8x128x8x8x128, .bf16⟩
  | 31 => ⟨S8x128x8x8x128, .bf16⟩
  | 32 => ⟨S8x128x8x8x128, .bf16⟩
  | 33 => ⟨S8x1024x1024, .bf16⟩
  | 34 => ⟨S64x128x128, .f32⟩
  | 35 => ⟨S_, .f32⟩
  | 36 => ⟨S64x128x128, .f32⟩
  | 37 => ⟨S64x128x128, .f32⟩
  | 38 => ⟨S64x128x128, .bf16⟩
  | 39 => ⟨S8x8x128x128, .bf16⟩
  | 40 => ⟨S8x128x8x128, .bf16⟩
  | 41 => ⟨S8x128x8x1x128, .bf16⟩
  | 42 => ⟨S8x128x8x8x128, .bf16⟩
  | 43 => ⟨S8x128x8x8x128, .bf16⟩
  | 44 => ⟨S8x128x8x8x128, .bf16⟩
  | 45 => ⟨S8x1024x1024, .bf16⟩
  | 46 => ⟨S4x64x128x1024, .bf16⟩
  | 47 => ⟨S4x64x128x1024, .bf16⟩
  | 48 => ⟨S4x128x64x512, .bf16⟩
  | 49 => ⟨S32768x512, .bf16⟩
  | _ => ⟨S32768x1024, .bf16⟩

abbrev hbmTy (i : Nat) : BufTy := match i / 128 with
  | 0 => hbmTy0_0 i
  | 1 => hbmTy0_1 i
  | _ => ⟨S32768x1024, .bf16⟩

abbrev bufTy : (tb : Table) → Fin (tcTables nBuf tb) → BufTy
  | .hbm, ⟨i, _⟩ => hbmTy i
  | .local _ .vmem, ⟨0, _⟩ => ⟨S1x64x16x1024, .bf16⟩
  | .local _ .vmem, ⟨1, _⟩ => ⟨S1x64x16x1024, .bf16⟩
  | .local _ .vmem, ⟨2, _⟩ => ⟨S512x512, .bf16⟩
  | .local _ .vmem, ⟨3, _⟩ => ⟨S512x512, .bf16⟩
  | .local _ .vmem, ⟨4, _⟩ => ⟨S1x64x16x1024, .bf16⟩
  | .local _ .vmem, ⟨5, _⟩ => ⟨S1x64x16x1024, .bf16⟩
  | .local _ .vmem, ⟨6, _⟩ => ⟨S1x16x128x1024, .bf16⟩
  | .local _ .vmem, ⟨7, _⟩ => ⟨S1x16x128x1024, .bf16⟩
  | .local _ .vmem, ⟨8, _⟩ => ⟨S2x1024x1024, .bf16⟩
  | .local _ .vmem, ⟨9, _⟩ => ⟨S2x1024x1024, .bf16⟩
  | .local _ .vmem, ⟨10, _⟩ => ⟨S2x1024x1024, .bf16⟩
  | .local _ .vmem, ⟨11, _⟩ => ⟨S2x1024x1024, .bf16⟩
  | .local _ .vmem, ⟨12, _⟩ => ⟨S1x128x16x512, .bf16⟩
  | .local _ .vmem, ⟨13, _⟩ => ⟨S1x128x16x512, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c_0 : Ref sig .tc := ⟨.hbm, 35, rfl⟩
abbrev main_call1_v0 : Ref sig .tc := ⟨.hbm, 36, rfl⟩
abbrev main_call1_c : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_v5 : Ref sig .tc := ⟨.hbm, 44, rfl⟩
abbrev main_call1_v6 : Ref sig .tc := ⟨.hbm, 45, rfl⟩
abbrev main_call1_c_2 : Ref sig .tc := ⟨.hbm, 46, rfl⟩
abbrev main_call1_v7 : Ref sig .tc := ⟨.hbm, 47, rfl⟩
abbrev main_call1_v8 : Ref sig .tc := ⟨.hbm, 48, rfl⟩
abbrev main_call1_c_3 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_v12 : Ref sig .tc := ⟨.hbm, 56, rfl⟩
abbrev main_v13 : Ref sig .tc := ⟨.hbm, 57, rfl⟩
abbrev main_c_1 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v14 : Ref sig .tc := ⟨.hbm, 79, rfl⟩
abbrev main_v15 : Ref sig .tc := ⟨.hbm, 80, rfl⟩
abbrev main_v16 : Ref sig .tc := ⟨.hbm, 81, rfl⟩
abbrev main_v17 : Ref sig .tc := ⟨.hbm, 82, rfl⟩
abbrev main_v18 : Ref sig .tc := ⟨.hbm, 83, rfl⟩
abbrev main_cst_2 : Ref sig .tc := ⟨.hbm, 84, rfl⟩
abbrev main_v19 : Ref sig .tc := ⟨.hbm, 85, rfl⟩
abbrev main_v20 : Ref sig .tc := ⟨.hbm, 86, rfl⟩
abbrev main_v21 : Ref sig .tc := ⟨.hbm, 87, rfl⟩
abbrev main_v22 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_c_3 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_v48 : Ref sig .tc := ⟨.hbm, 115, rfl⟩
abbrev main_c_4 : Ref sig .tc := ⟨.hbm, 116, rfl⟩
abbrev main_call3_v0 : Ref sig .tc := ⟨.hbm, 117, rfl⟩
abbrev main_call3_c : Ref sig .tc := ⟨.hbm, 118, rfl⟩
abbrev main_call3_v1 : Ref sig .tc := ⟨.hbm, 119, rfl⟩
abbrev main_call3_c_0 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_call3_c_1 : Ref sig .tc := ⟨.hbm, 124, rfl⟩
abbrev main_call3_v5 : Ref sig .tc := ⟨.hbm, 125, rfl⟩
abbrev main_call3_v6 : Ref sig .tc := ⟨.hbm, 126, rfl⟩
abbrev main_call3_c_2 : Ref sig .tc := ⟨.hbm, 127, rfl⟩
abbrev main_call3_v7 : Ref sig .tc := ⟨.hbm, 128, rfl⟩
abbrev main_call3_v8 : Ref sig .tc := ⟨.hbm, 129, rfl⟩
abbrev main_call3_c_3 : Ref sig .tc := ⟨.hbm, 130, rfl⟩
abbrev main_call3_v9 : Ref sig .tc := ⟨.hbm, 131, rfl⟩
abbrev main_call3_v10 : Ref sig .tc := ⟨.hbm, 132, rfl⟩
abbrev main_call3_v11 : Ref sig .tc := ⟨.hbm, 133, rfl⟩
abbrev main_call3_v12 : Ref sig .tc := ⟨.hbm, 134, rfl⟩
abbrev main_call3_v13 : Ref sig .tc := ⟨.hbm, 135, rfl⟩
abbrev main_call3_v14 : Ref sig .tc := ⟨.hbm, 136, rfl⟩
abbrev main_v49 : Ref sig .tc := ⟨.hbm, 137, rfl⟩
abbrev main_v50 : Ref sig .tc := ⟨.hbm, 138, rfl⟩
abbrev main_cst_5 : Ref sig .tc := ⟨.hbm, 139, rfl⟩
abbrev main_v51 : Ref sig .tc := ⟨.hbm, 140, rfl⟩
abbrev main_v52 : Ref sig .tc := ⟨.hbm, 141, rfl⟩
abbrev main_v53 : Ref sig .tc := ⟨.hbm, 142, rfl⟩
abbrev main_v54 : Ref sig .tc := ⟨.hbm, 143, rfl⟩
abbrev main_c_6 : Ref sig .tc := ⟨.hbm, 144, rfl⟩
abbrev main_v55 : Ref sig .tc := ⟨.hbm, 145, rfl⟩
abbrev main_v56 : Ref sig .tc := ⟨.hbm, 146, rfl⟩
abbrev main_v57 : Ref sig .tc := ⟨.hbm, 147, rfl⟩
abbrev main_v58 : Ref sig .tc := ⟨.hbm, 148, rfl⟩
abbrev main_v59 : Ref sig .tc := ⟨.hbm, 149, rfl⟩
abbrev main_v60 : Ref sig .tc := ⟨.hbm, 150, rfl⟩
abbrev main_cst_7 : Ref sig .tc := ⟨.hbm, 151, rfl⟩
abbrev main_v61 : Ref sig .tc := ⟨.hbm, 152, rfl⟩
abbrev main_v62 : Ref sig .tc := ⟨.hbm, 153, rfl⟩
abbrev main_v63 : Ref sig .tc := ⟨.hbm, 154, rfl⟩
abbrev main_v64 : Ref sig .tc := ⟨.hbm, 155, rfl⟩
abbrev main_v65 : Ref sig .tc := ⟨.hbm, 156, rfl⟩
abbrev main_v66 : Ref sig .tc := ⟨.hbm, 157, rfl⟩
abbrev main_v67 : Ref sig .tc := ⟨.hbm, 158, rfl⟩
abbrev main_v68 : Ref sig .tc := ⟨.hbm, 159, rfl⟩
abbrev main_v69 : Ref sig .tc := ⟨.hbm, 160, rfl⟩
abbrev main_v70 : Ref sig .tc := ⟨.hbm, 161, rfl⟩
abbrev main_v71 : Ref sig .tc := ⟨.hbm, 162, rfl⟩
abbrev main_cst_8 : Ref sig .tc := ⟨.hbm, 163, rfl⟩
abbrev main_v72 : Ref sig .tc := ⟨.hbm, 164, rfl⟩
abbrev main_v73 : Ref sig .tc := ⟨.hbm, 165, rfl⟩
abbrev main_v74 : Ref sig .tc := ⟨.hbm, 166, rfl⟩
abbrev main_v75 : Ref sig .tc := ⟨.hbm, 167, rfl⟩
abbrev main_v76 : Ref sig .tc := ⟨.hbm, 168, rfl⟩
abbrev main_v77 : Ref sig .tc := ⟨.hbm, 169, rfl⟩
abbrev main_v78 : Ref sig .tc := ⟨.hbm, 170, rfl⟩
abbrev main_v79 : Ref sig .tc := ⟨.hbm, 171, rfl⟩
abbrev main_v80 : Ref sig .tc := ⟨.hbm, 172, rfl⟩
abbrev main_v81 : Ref sig .tc := ⟨.hbm, 173, rfl⟩
abbrev main_v82 : Ref sig .tc := ⟨.hbm, 174, rfl⟩
abbrev main_v83 : Ref sig .tc := ⟨.hbm, 175, rfl⟩
abbrev main_v84 : Ref sig .tc := ⟨.hbm, 176, rfl⟩
abbrev main_v85 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x64x16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

abbrev stage1_0 : Fin 2 → Memref sig .tc .vmem S1x16x128x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x128x16x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== Reference5Ideal.lean ====
abbrev S32768x1024 : Shape := ⟨2, ![32768, 1024]⟩
abbrev S4x8192x1024 : Shape := ⟨3, ![4, 8192, 1024]⟩
abbrev S4x8192x512 : Shape := ⟨3, ![4, 8192, 512]⟩
abbrev S8192 : Shape := ⟨1, ![8192]⟩
abbrev S8192x1 : Shape := ⟨2, ![8192, 1]⟩
abbrev S1x8192 : Shape := ⟨2, ![1, 8192]⟩
abbrev S_ : Shape := ⟨0, ![]⟩
abbrev S8192x8192 : Shape := ⟨2, ![8192, 8192]⟩
abbrev S4x512x8192 : Shape := ⟨3, ![4, 512, 8192]⟩
abbrev S32768x512 : Shape := ⟨2, ![32768, 512]⟩

abbrev nBuf : Space → Nat
  | .hbm => 102
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S4x8192x1024, .f32⟩
  | .hbm, ⟨3, _⟩ => ⟨S4x8192x512, .f32⟩
  | .hbm, ⟨4, _⟩ => ⟨S4x8192x512, .f32⟩
  | .hbm, ⟨5, _⟩ => ⟨S8192, .i32⟩
  | .hbm, ⟨6, _⟩ => ⟨S8192x1, .i32⟩
  | .hbm, ⟨7, _⟩ => ⟨S8192, .i32⟩
  | .hbm, ⟨8, _⟩ => ⟨S1x8192, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S1x8192, .i32⟩
  | .hbm, ⟨16, _⟩ => ⟨S1x8192, .i32⟩
  | .hbm, ⟨17, _⟩ => ⟨S_, .i32⟩
  | .hbm, ⟨18, _⟩ => ⟨S1x8192, .i32⟩
  | .hbm, ⟨19, _⟩ => ⟨S1x8192, .i1⟩
  | .hbm, ⟨20, _⟩ => ⟨S_, .i32⟩
  | .hbm, ⟨21, _⟩ => ⟨S1x8192, .i32⟩
  | .hbm, ⟨22, _⟩ => ⟨S1x8192, .i1⟩
  | .hbm, ⟨23, _⟩ => ⟨S_, .i32⟩
  | .hbm, ⟨24, _⟩ => ⟨S_, .i1⟩
  | .hbm, ⟨25, _⟩ => ⟨S1x8192, .i1⟩
  | .hbm, ⟨26, _⟩ => ⟨S1x8192, .i1⟩
  | .hbm, ⟨27, _⟩ => ⟨S1x8192, .i1⟩
  | .hbm, ⟨28, _⟩ => ⟨S1x8192, .i32⟩
  | .hbm, ⟨29, _⟩ => ⟨S1x8192, .i32⟩
  | .hbm, ⟨30, _⟩ => ⟨S1x8192, .i32⟩
  | .hbm, ⟨31, _⟩ => ⟨S1x8192, .i32⟩
  | .hbm, ⟨32, _⟩ => ⟨S8192x8192, .i32⟩
  | .hbm, ⟨33, _⟩ => ⟨S8192x8192, .i32⟩
  | .hbm, ⟨34, _⟩ => ⟨S8192x8192, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S8192x8192, .i32⟩
  | .hbm, ⟨42, _⟩ => ⟨S8192x8192, .i32⟩
  | .hbm, ⟨43, _⟩ => ⟨S_, .i32⟩
  | .hbm, ⟨44, _⟩ => ⟨S8192x8192, .i32⟩
  | .hbm, ⟨45, _⟩ => ⟨S8192x8192, .i1⟩
  | .hbm, ⟨46, _⟩ => ⟨S_, .i32⟩
  | .hbm, ⟨47, _⟩ => ⟨S8192x8192, .i32⟩
  | .hbm, ⟨48, _⟩ => ⟨S8192x8192, .i1⟩
  | .hbm, ⟨49, _⟩ => ⟨S_, .i32⟩
  | .hbm, ⟨50, _⟩ => ⟨S_, .i1⟩
  | .hbm, ⟨51, _⟩ => ⟨S8192x8192, .i1⟩
  | .hbm, ⟨52, _⟩ => ⟨S8192x8192, .i1⟩
  | .hbm, ⟨53, _⟩ => ⟨S8192x8192, .i1⟩
  | .hbm, ⟨54, _⟩ => ⟨S8192x8192, .i32⟩
  | .hbm, ⟨55, _⟩ => ⟨S8192x8192, .i32⟩
  | .hbm, ⟨56, _⟩ => ⟨S8192x8192, .i32⟩
  | .hbm, ⟨57, _⟩ => ⟨S8192x8192, .i32⟩
  | .hbm, ⟨58, _⟩ => ⟨S8192x8192, .i32⟩
  | .hbm, ⟨59, _⟩ => ⟨S8192x8192, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S8192x8192, .i32⟩
  | .hbm, ⟨67, _⟩ => ⟨S8192x8192, .i32⟩
  | .hbm, ⟨68, _⟩ => ⟨S_, .i32⟩
  | .hbm, ⟨69, _⟩ => ⟨S8192x8192, .i32⟩
  | .hbm, ⟨70, _⟩ => ⟨S8192x8192, .i1⟩
  | .hbm, ⟨71, _⟩ => ⟨S_, .i32⟩
  | .hbm, ⟨72, _⟩ => ⟨S8192x8192, .i32⟩
  | .hbm, ⟨73, _⟩ => ⟨S8192x8192, .i1⟩
  | .hbm, ⟨74, _⟩ => ⟨S_, .i32⟩
  | .hbm, ⟨75, _⟩ => ⟨S_, .i1⟩
  | .hbm, ⟨76, _⟩ => ⟨S8192x8192, .i1⟩
  | .hbm, ⟨77, _⟩ => ⟨S8192x8192, .i1⟩
  | .hbm, ⟨78, _⟩ => ⟨S8192x8192, .i1⟩
  | .hbm, ⟨79, _⟩ => ⟨S8192x8192, .i32⟩
  | .hbm, ⟨80, _⟩ => ⟨S8192x8192, .i32⟩
  | .hbm, ⟨81, _⟩ => ⟨S8192x8192, .i32⟩
  | .hbm, ⟨82, _⟩ => ⟨S8192x8192, .i32⟩
  | .hbm, ⟨83, _⟩ => ⟨S8192x8192, .f32⟩
  | .hbm, ⟨84, _⟩ => ⟨S_, .f32⟩
  | .hbm, ⟨85, _⟩ => ⟨S8192x8192, .f32⟩
  | .hbm, ⟨86, _⟩ => ⟨S8192x8192, .f32⟩
  | .hbm, ⟨87, _⟩ => ⟨S8192x8192, .f32⟩
  | .hbm, ⟨88, _⟩ => ⟨S_, .f32⟩
  | .hbm, ⟨89, _⟩ => ⟨S8192x8192, .f32⟩
  | .hbm, ⟨90, _⟩ => ⟨S8192x8192, .f32⟩
  | .hbm, ⟨91, _⟩ => ⟨S4x512x8192, .f32⟩
  | .hbm, ⟨92, _⟩ => ⟨S4x8192x512, .f32⟩
  | .hbm, ⟨93, _⟩ => ⟨S8192x8192, .f32⟩
  | .hbm, ⟨94, _⟩ => ⟨S_, .f32⟩
  | .hbm, ⟨95, _⟩ => ⟨S8192x8192, .f32⟩
  | .hbm, ⟨96, _⟩ => ⟨S8192x8192, .f32⟩
  | .hbm, ⟨97, _⟩ => ⟨S4x512x8192, .f32⟩
  | .hbm, ⟨98, _⟩ => ⟨S4x8192x512, .f32⟩
  | .hbm, ⟨99, _⟩ => ⟨S4x8192x512, .f32⟩
  | .hbm, ⟨100, _⟩ => ⟨S32768x512, .f32⟩
  | .hbm, ⟨101, _⟩ => ⟨S32768x512, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c_0 : Ref sig .tc := ⟨.hbm, 35, rfl⟩
abbrev main_call1_v0 : Ref sig .tc := ⟨.hbm, 36, rfl⟩
abbrev main_call1_c : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_v5 : Ref sig .tc := ⟨.hbm, 44, rfl⟩
abbrev main_call1_v6 : Ref sig .tc := ⟨.hbm, 45, rfl⟩
abbrev main_call1_c_2 : Ref sig .tc := ⟨.hbm, 46, rfl⟩
abbrev main_call1_v7 : Ref sig .tc := ⟨.hbm, 47, rfl⟩
abbrev main_call1_v8 : Ref sig .tc := ⟨.hbm, 48, rfl⟩
abbrev main_call1_c_3 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_c_1 : Ref sig .tc := ⟨.hbm, 60, rfl⟩
abbrev main_call2_v0 : Ref sig .tc := ⟨.hbm, 61, rfl⟩
abbrev main_call2_c : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_c_1 : Ref sig .tc := ⟨.hbm, 68, rfl⟩
abbrev main_call2_v5 : Ref sig .tc := ⟨.hbm, 69, rfl⟩
abbrev main_call2_v6 : Ref sig .tc := ⟨.hbm, 70, rfl⟩
abbrev main_call2_c_2 : Ref sig .tc := ⟨.hbm, 71, rfl⟩
abbrev main_call2_v7 : Ref sig .tc := ⟨.hbm, 72, rfl⟩
abbrev main_call2_v8 : Ref sig .tc := ⟨.hbm, 73, rfl⟩
abbrev main_call2_c_3 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_v17 : Ref sig .tc := ⟨.hbm, 81, rfl⟩
abbrev main_v18 : Ref sig .tc := ⟨.hbm, 82, rfl⟩
abbrev main_v19 : Ref sig .tc := ⟨.hbm, 83, rfl⟩
abbrev main_cst : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_cst_2 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_cst_3 : Ref sig .tc := ⟨.hbm, 94, rfl⟩
abbrev main_v28 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩

abbrev nD : Nat := 1
abbrev τ : Topo := Topo.v7x

variable {F : FTy → Type} [FloatOps F]
-- ==== Proof.Mixout.Body.lean ====
/- One grid point of the output projection's kernel, read element by element. -/
module

public import proofs.«01_k».proof.Proof.Gen.Kernel3Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel3Ideal.Mixout

open Cert.Kernel3Ideal Cert.Kernel3Ideal.Gen Idealize.ShloMosaic Idealize.ShloMosaic.TcCoe

/-- The sum of a row of 512 channels against one column. -/
def lin {n : ℕ} (f w : Fin n → EReal) : EReal := ∑ k : Fin n, f k * w k

/-- The two branches merged by their gates, one channel: the Fourier row `f`, the state-space row `y`. -/
def mix (f y : Fin 512 → EReal) (gt : Fin 2048 → EReal) (wf : Fin 512 → Fin 1024 → EReal) (wg : Fin 512 → Fin 2048 → EReal) (c : Fin 1024) : EReal :=
  gt ⟨c.val, by omega⟩ * lin f (fun k => wf k c)
    + gt ⟨1024 + c.val, by omega⟩ * (lin y (fun k => wg k ⟨c.val, by omega⟩) * Ideal.logistic (lin y fun k => wg k ⟨1024 + c.val, by omega⟩))

/-- The row `a` normalised by its root mean square and weighted by `g`. -/
def norm (a g : Fin 1024 → EReal) (c : Fin 1024) : EReal :=
  a c * Ideal.rsqrt (Ideal.div (∑ k : Fin 1024, a k * a k) (Scalar.ofBits (F := Ideal) .f32 0x44800000#32) + Scalar.ofBits (F := Ideal) .f32 0x358637BD#32) * g c

/-- The four planes of 256 rows side by side. -/
def planes (a b c d : Vec Ideal S1x256x128 .f32) (r : Fin 256) (k : Fin 512) : EReal :=
  if h : k.val < 128 then a (ix3 0 r ⟨k.val, h⟩) else if h : k.val - 128 < 128 then b (ix3 0 r ⟨k.val - 128, h⟩)
  else if h : k.val - 128 - 128 < 128 then c (ix3 0 r ⟨k.val - 128 - 128, h⟩) else d (ix3 0 r ⟨k.val - 128 - 128 - 128, by omega⟩)

theorem pay27_apply (a b c d : Vec Ideal S1x256x128 .f32) (r : Fin 256) (k : Fin 512) : k0_pay27 a b c d (ix2 r k) = planes a b c d r k := by
  pointwise [k0_pay27, planes]

theorem pay18_apply (a b c d : Vec Ideal S1x256x128 .f32) (w : Vec Ideal S512x2048 .bf16) (r : Fin 256) (l : Fin 1024) :
    k0_pay18 a b c d w (ix2 r l) = lin (fun k => planes a b c d r k) (fun k => w (ix2 k ⟨l.val, by omega⟩))
      * Ideal.logistic (lin (fun k => planes a b c d r k) fun k => w (ix2 k ⟨1024 + l.val, by omega⟩)) := by
  pointwise [k0_pay18, lin, planes, Ideal.logistic]

theorem pay17_apply (f : Vec Ideal S256x512 .bf16) (w : Vec Ideal S512x1024 .bf16) (r : Fin 256) (l : Fin 1024) :
    k0_pay17 f w (ix2 r l) = lin (fun k => f (ix2 r k)) (fun k => w (ix2 k l)) := by
  pointwise [k0_pay17, lin]

theorem pay26_apply (f : Vec Ideal S256x512 .bf16) (w : Vec Ideal S512x1024 .bf16) (r : Fin 256) (l : Fin 1024) :
    k0_pay26 f w (ix2 r l) = lin (fun k => f (ix2 r k)) (fun k => w (ix2 k l)) := by
  pointwise [k0_pay26, lin]

/-- One merged row of a quarter, from its loads. -/
def mixRow (f : Vec Ideal S256x512 .bf16) (wf : Vec Ideal S512x1024 .bf16) (a b c d : Vec Ideal S1x256x128 .f32) (wg : Vec Ideal S512x2048 .bf16)
    (gt : Vec Ideal S256x2048 .bf16) (r : Fin 256) (l : Fin 1024) : EReal :=
  mix (fun k => f (ix2 r k)) (fun k => planes a b c d r k) (fun k => gt (ix2 r k)) (fun k l => wf (ix2 k l)) (fun k l => wg (ix2 k l)) l

theorem pay3_apply (f : Vec Ideal S256x512 .bf16) (wf : Vec Ideal S512x1024 .bf16) (a b c d : Vec Ideal S1x256x128 .f32) (wg : Vec Ideal S512x2048 .bf16)
    (gt : Vec Ideal S256x2048 .bf16) (r : Fin 256) (l : Fin 1024) : k0_pay3 f wf a b c d wg gt (ix2 r l) = mixRow f wf a b c d wg gt r l := by
  pointwise [k0_pay3, mixRow, mix, lin, planes, Ideal.logistic]

theorem pay11_apply (f : Vec Ideal S256x512 .bf16) (wf : Vec Ideal S512x1024 .bf16) (a b c d : Vec Ideal S1x256x128 .f32) (wg : Vec Ideal S512x2048 .bf16)
    (gt : Vec Ideal S256x2048 .bf16) (r : Fin 256) (l : Fin 1024) : k0_pay11 f wf a b c d wg gt (ix2 r l) = mixRow f wf a b c d wg gt r l := by
  pointwise [k0_pay11, mixRow, mix, lin, planes, Ideal.logistic]

/-- The residual stream's row after the merged row's projection. -/
def res (x mr : Fin 1024 → EReal) (wo : Fin 1024 → Fin 1024 → EReal) (c : Fin 1024) : EReal := x c + lin mr fun k => wo k c

variable (f : Vec Ideal S256x512 .bf16) (wf : Vec Ideal S512x1024 .bf16) (a b c d : Vec Ideal S1x256x128 .f32) (wg : Vec Ideal S512x2048 .bf16)
  (gt : Vec Ideal S256x2048 .bf16) (x : Vec Ideal S256x1024 .f32) (wo : Vec Ideal S1024x1024 .bf16) (g : Vec Ideal S1x1024 .f32)

/-- One row of a quarter's first result, from its loads. -/
def resRow (r : Fin 256) (l : Fin 1024) : EReal :=
  res (fun k => x (ix2 r k)) (fun k => mixRow f wf a b c d wg gt r k) (fun k l => wo (ix2 k l)) l

theorem pay5_apply (r : Fin 256) (l : Fin 1024) :
    k0_pay5 (k0_pay2 x) (k0_pay3 f wf a b c d wg gt) (k0_pay4 wo) (ix2 r l) = resRow f wf a b c d wg gt x wo r l := by
  unfold resRow
  simp only [← pay3_apply]
  generalize k0_pay3 f wf a b c d wg gt = z
  pointwise [k0_pay5, k0_pay2, k0_pay4, res, lin]

theorem pay12_apply (r : Fin 256) (l : Fin 1024) :
    k0_pay12 (k0_pay11 f wf a b c d wg gt) x wo (ix2 r l) = resRow f wf a b c d wg gt x wo r l := by
  unfold resRow
  simp only [← pay11_apply]
  generalize k0_pay11 f wf a b c d wg gt = z
  pointwise [k0_pay12, res, lin]

theorem pay19_apply (r : Fin 256) (l : Fin 1024) :
    k0_pay19 (k0_pay17 f wf) (k0_pay18 a b c d wg) gt x wo (ix2 r l) = resRow f wf a b c d wg gt x wo r l := by
  unfold resRow mixRow mix
  simp only [← pay17_apply, ← pay18_apply]
  generalize k0_pay17 f wf = z
  generalize k0_pay18 a b c d wg = z'
  pointwise [k0_pay19, res, lin]

theorem pay29_apply (r : Fin 256) (l : Fin 1024) :
    k0_pay29 (k0_pay26 f wf) (k0_pay27 a b c d) (k0_pay28 wg) gt x wo (ix2 r l) = resRow f wf a b c d wg gt x wo r l := by
  unfold resRow mixRow mix
  simp only [← pay26_apply, ← pay27_apply]
  generalize k0_pay26 f wf = z
  generalize k0_pay27 a b c d = z'
  pointwise [k0_pay29, k0_pay28, res, lin, Ideal.logistic]

/-- The second result is the first one's rows, normalised. -/
theorem pay7_apply (r : Fin 256) (l : Fin 1024) :
    k0_pay7 (k0_pay2 x) (k0_pay3 f wf a b c d wg gt) (k0_pay4 wo) g (ix2 r l)
      = norm (fun k => resRow f wf a b c d wg gt x wo r k) (fun k => g (ix2 0 k)) l := by
  simp only [← pay5_apply]
  generalize k0_pay3 f wf a b c d wg gt = z
  pointwise [k0_pay7, k0_pay6, k0_pay5, norm]

theorem pay14_apply (r : Fin 256) (l : Fin 1024) :
    k0_pay14 (k0_pay11 f wf a b c d wg gt) x wo g (ix2 r l)
      = norm (fun k => resRow f wf a b c d wg gt x wo r k) (fun k => g (ix2 0 k)) l := by
  simp only [← pay12_apply]
  generalize k0_pay11 f wf a b c d wg gt = z
  pointwise [k0_pay14, k0_pay13, k0_pay12, norm]

theorem pay21_apply (r : Fin 256) (l : Fin 1024) :
    k0_pay21 (k0_pay17 f wf) (k0_pay18 a b c d wg) gt x wo g (ix2 r l)
      = norm (fun k => resRow f wf a b c d wg gt x wo r k) (fun k => g (ix2 0 k)) l := by
  simp only [← pay19_apply]
  generalize k0_pay17 f wf = z
  generalize k0_pay18 a b c d wg = z'
  pointwise [k0_pay21, k0_pay20, k0_pay19, norm]

theorem pay31_apply (r : Fin 256) (l : Fin 1024) :
    k0_pay31 (k0_pay26 f wf) (k0_pay27 a b c d) (k0_pay28 wg) gt x wo g (ix2 r l)
      = norm (fun k => resRow f wf a b c d wg gt x wo r k) (fun k => g (ix2 0 k)) l := by
  simp only [← pay29_apply]
  generalize k0_pay26 f wf = z
  generalize k0_pay27 a b c d = z'
  pointwise [k0_pay31, k0_pay30, k0_pay29, norm]

end Cert.Kernel3Ideal.Mixout

end
-- ==== Proof.Mixout.Block.lean ====
/- What one grid point of the output projection's kernel leaves in its two blocks, element by element. -/
module

public import proofs.«01_k».proof.Proof.Mixout.Body

@[expose] public section

set_option maxRecDepth 16384

noncomputable section

namespace Cert.Kernel3Ideal.Mixout

open Cert.Kernel3Ideal Cert.Kernel3Ideal.Gen Idealize.ShloMosaic Idealize.ShloMosaic.TcCoe

variable (x0 : Vec Ideal S1024x512 .bf16) (x1 : Vec Ideal S4x1024x128 .f32) (x2 : Vec Ideal S1024x2048 .bf16) (x3 : Vec Ideal S1024x1024 .f32)
  (x4 : Vec Ideal S512x1024 .bf16) (x5 : Vec Ideal S512x2048 .bf16) (x6 : Vec Ideal S1024x1024 .bf16) (x7 : Vec Ideal S1x1024 .f32) (x8 : Vec Ideal S2048x256 .bf16)

/-- A row of the residual stream, from the point's blocks. -/
def resAt (r l : Fin 1024) : EReal :=
  res (fun k => x3 (ix2 r k))
    (fun j => mix (fun k => x0 (ix2 r k)) (fun k => x1 (ix3 ⟨k.val / 128, by omega⟩ r ⟨k.val % 128, by omega⟩)) (fun k => x2 (ix2 r k))
      (fun k l => x4 (ix2 k l)) (fun k l => x5 (ix2 k l)) j)
    (fun k l => x6 (ix2 k l)) l

/-- Loads of 256 rows. -/
theorem ld_f (o : ℕ) (h) (a : Fin 256) (j : Fin 512) (r : Fin 1024) (hr : r.val = o + a.val) :
    View.ld x0 (Rect.unit (s := S1024x512) ![o, 0] S256x512.size h) (ix2 a j) = x0 (ix2 r j) := by
  refine congrArg x0 ?_
  blk_ext
  · refine (Rect.idx_unit_val _ _ h _ _).trans ?_
    exact hr.symm
  · refine (Rect.idx_unit_val _ _ h _ _).trans ?_
    exact Nat.zero_add _

theorem ld_gate (o : ℕ) (h) (a : Fin 256) (j : Fin 2048) (r : Fin 1024) (hr : r.val = o + a.val) :
    View.ld x2 (Rect.unit (s := S1024x2048) ![o, 0] S256x2048.size h) (ix2 a j) = x2 (ix2 r j) := by
  refine congrArg x2 ?_
  blk_ext
  · refine (Rect.idx_unit_val _ _ h _ _).trans ?_
    exact hr.symm
  · refine (Rect.idx_unit_val _ _ h _ _).trans ?_
    exact Nat.zero_add _

theorem ld_x (o : ℕ) (h) (a : Fin 256) (j : Fin 1024) (r : Fin 1024) (hr : r.val = o + a.val) :
    View.ld x3 (Rect.unit (s := S1024x1024) ![o, 0] S256x1024.size h) (ix2 a j) = x3 (ix2 r j) := by
  refine congrArg x3 ?_
  blk_ext
  · refine (Rect.idx_unit_val _ _ h _ _).trans ?_
    exact hr.symm
  · refine (Rect.idx_unit_val _ _ h _ _).trans ?_
    exact Nat.zero_add _

theorem ld_plane (q o : ℕ) (h) (a : Fin 256) (j : Fin 128) (Q : Fin 4) (r : Fin 1024) (hQ : Q.val = q) (hr : r.val = o + a.val) :
    View.ld x1 (Rect.unit (s := S4x1024x128) ![q, o, 0] S1x256x128.size h) (ix3 0 a j) = x1 (ix3 Q r j) := by
  refine congrArg x1 ?_
  blk_ext
  · refine (Rect.idx_unit_val _ _ h _ _).trans ?_
    exact hQ.symm
  · refine (Rect.idx_unit_val _ _ h _ _).trans ?_
    exact hr.symm
  · refine (Rect.idx_unit_val _ _ h _ _).trans ?_
    exact Nat.zero_add _

/-- The four planes' loads are the block's channels in order. -/
theorem planes_ld (o : ℕ) (h0) (h1) (h2) (h3) (a : Fin 256) (k : Fin 512) (r : Fin 1024) (hr : r.val = o + a.val) :
    planes (View.ld x1 (Rect.unit (s := S4x1024x128) ![0, o, 0] S1x256x128.size h0)) (View.ld x1 (Rect.unit (s := S4x1024x128) ![1, o, 0] S1x256x128.size h1))
      (View.ld x1 (Rect.unit (s := S4x1024x128) ![2, o, 0] S1x256x128.size h2)) (View.ld x1 (Rect.unit (s := S4x1024x128) ![3, o, 0] S1x256x128.size h3)) a k
      = x1 (ix3 ⟨k.val / 128, by omega⟩ r ⟨k.val % 128, by omega⟩) := by
  have key : ∀ (q : ℕ) (h) (j : Fin 128), q * 128 + j.val = k.val → View.ld x1 (Rect.unit (s := S4x1024x128) ![q, o, 0] S1x256x128.size h) (ix3 0 a j)
      = x1 (ix3 ⟨k.val / 128, by omega⟩ r ⟨k.val % 128, by omega⟩) := fun q h j hk => by
    have hj : j = ⟨k.val % 128, by omega⟩ := Fin.ext (by show j.val = k.val % 128; omega)
    rw [hj]
    exact ld_plane x1 q o h a _ _ r (by show k.val / 128 = q; omega) hr
  unfold planes
  split_ifs with p0 p1 p2
  · exact key 0 h0 ⟨k.val, p0⟩ (by show 0 * 128 + k.val = k.val; omega)
  · exact key 1 h1 ⟨k.val - 128, p1⟩ (by show 1 * 128 + (k.val - 128) = k.val; omega)
  · exact key 2 h2 ⟨k.val - 128 - 128, p2⟩ (by show 2 * 128 + (k.val - 128 - 128) = k.val; omega)
  · exact key 3 h3 ⟨k.val - 128 - 128 - 128, by omega⟩ (by show 3 * 128 + (k.val - 128 - 128 - 128) = k.val; omega)

/-- A quarter's rows are the block's, at the rows loaded. -/
theorem resRow_ld (o : ℕ) (hf) (h0) (h1) (h2) (h3) (hg) (hx) (a : Fin 256) (r : Fin 1024) (hr : r.val = o + a.val) (l : Fin 1024) :
    resRow (View.ld x0 (Rect.unit (s := S1024x512) ![o, 0] S256x512.size hf)) x4
      (View.ld x1 (Rect.unit (s := S4x1024x128) ![0, o, 0] S1x256x128.size h0)) (View.ld x1 (Rect.unit (s := S4x1024x128) ![1, o, 0] S1x256x128.size h1))
      (View.ld x1 (Rect.unit (s := S4x1024x128) ![2, o, 0] S1x256x128.size h2)) (View.ld x1 (Rect.unit (s := S4x1024x128) ![3, o, 0] S1x256x128.size h3)) x5
      (View.ld x2 (Rect.unit (s := S1024x2048) ![o, 0] S256x2048.size hg)) (View.ld x3 (Rect.unit (s := S1024x1024) ![o, 0] S256x1024.size hx)) x6 a l
      = resAt x0 x1 x2 x3 x4 x5 x6 r l := by
  unfold resRow mixRow resAt
  simp only [ld_f x0 o hf a _ r hr, ld_gate x2 o hg a _ r hr, ld_x x3 o hx a _ r hr, planes_ld x1 o h0 h1 h2 h3 a _ r hr]

theorem ld4 : View.ld x4 r0_1 = x4 := View.ld_unit_lit (h := by decide) ..
theorem ld5 : View.ld x5 r0_6 = x5 := View.ld_unit_lit (h := by decide) ..
theorem ld6 : View.ld x6 r0_9 = x6 := View.ld_unit_lit (h := by decide) ..
theorem ld7 : View.ld x7 r0_10 = x7 := View.ld_unit_lit (h := by decide) ..

/-- The first result's block. -/
theorem out9_apply (r l : Fin 1024) : out0_9 x0 x1 x2 x3 x4 x5 x6 x7 x8 (ix2 r l) = resAt x0 x1 x2 x3 x4 x5 x6 r l := by
  unfold_out out0_9
  rw [ld4, ld5, ld6]
  canon_tiles x h
  all_goals obtain ⟨a, d, rfl⟩ : ∃ (a : Fin 256) (d : Fin 1024), x = ix2 a d := ⟨x 0, x 1, eq_ix2 x⟩
  all_goals obtain rfl : l = d := Fin.ext h1
  · rw [pay29_apply]
    exact resRow_ld x0 x1 x2 x3 x4 x5 x6 768 _ _ _ _ _ _ _ a r h0 l
  · rw [pay19_apply]
    exact resRow_ld x0 x1 x2 x3 x4 x5 x6 512 _ _ _ _ _ _ _ a r h0 l
  · rw [pay12_apply]
    exact resRow_ld x0 x1 x2 x3 x4 x5 x6 256 _ _ _ _ _ _ _ a r h0 l
  · rw [pay5_apply]
    exact resRow_ld x0 x1 x2 x3 x4 x5 x6 0 _ _ _ _ _ _ _ a r (by rw [Nat.zero_add]; exact h0) l

/-- The second result's block. -/
theorem out10_apply (r l : Fin 1024) : out0_10 x0 x1 x2 x3 x4 x5 x6 x7 x8 (ix2 r l)
    = norm (fun k => resAt x0 x1 x2 x3 x4 x5 x6 r k) (fun k => x7 (ix2 0 k)) l := by
  unfold_out out0_10
  rw [ld4, ld5, ld6, ld7]
  canon_tiles x h
  all_goals obtain ⟨a, d, rfl⟩ : ∃ (a : Fin 256) (d : Fin 1024), x = ix2 a d := ⟨x 0, x 1, eq_ix2 x⟩
  all_goals obtain rfl : l = d := Fin.ext h1
  · rw [pay31_apply]
    exact congrArg (fun p => norm p _ _) (funext fun k => resRow_ld x0 x1 x2 x3 x4 x5 x6 768 _ _ _ _ _ _ _ a r h0 k)
  · rw [pay21_apply]
    exact congrArg (fun p => norm p _ _) (funext fun k => resRow_ld x0 x1 x2 x3 x4 x5 x6 512 _ _ _ _ _ _ _ a r h0 k)
  · rw [pay14_apply]
    exact congrArg (fun p => norm p _ _) (funext fun k => resRow_ld x0 x1 x2 x3 x4 x5 x6 256 _ _ _ _ _ _ _ a r h0 k)
  · rw [pay7_apply]
    exact congrArg (fun p => norm p _ _) (funext fun k => resRow_ld x0 x1 x2 x3 x4 x5 x6 0 _ _ _ _ _ _ _ a r (by rw [Nat.zero_add]; exact h0) k)

end Cert.Kernel3Ideal.Mixout

end
-- ==== Proof.Mixout.Equation.lean ====
/- The output projection's two result arrays, entry by entry in the arguments. -/
module

public import proofs.«01_k».proof.Proof.Mixout.Block

@[expose] public section

set_option maxRecDepth 16384

noncomputable section

namespace Cert.Kernel3Ideal.Mixout

open Cert.Kernel3Ideal Cert.Kernel3Ideal.Gen Idealize.ShloMosaic Idealize.ShloMosaic.TcCoe

/-- The residual stream's entry at token `R`, column `l`. -/
def resOf (f : Vec Ideal S32768x512 .bf16) (ys : Vec Ideal S4x32768x128 .f32) (gt : Vec Ideal S32768x2048 .bf16) (x : Vec Ideal S4x8192x1024 .f32)
    (wf : Vec Ideal S1x512x1024 .f32) (wg : Vec Ideal S1x512x2048 .f32) (wo : Vec Ideal S1x1024x1024 .f32) (R : Fin 32768) (l : Fin 1024) : EReal :=
  res (fun k => x (ix3 ⟨R.val / 8192, by omega⟩ ⟨R.val % 8192, by omega⟩ k))
    (fun j => mix (fun k => f (ix2 R k)) (fun k => ys (ix3 ⟨k.val / 128, by omega⟩ R ⟨k.val % 128, by omega⟩)) (fun k => gt (ix2 R k))
      (fun k l => wf (ix3 0 k l)) (fun k l => wg (ix3 0 k l)) j)
    (fun k l => wo (ix3 0 k l)) l

/-- The normalised residual stream's entry. -/
def normOf (f : Vec Ideal S32768x512 .bf16) (ys : Vec Ideal S4x32768x128 .f32) (gt : Vec Ideal S32768x2048 .bf16) (x : Vec Ideal S4x8192x1024 .f32)
    (wf : Vec Ideal S1x512x1024 .f32) (wg : Vec Ideal S1x512x2048 .f32) (wo : Vec Ideal S1x1024x1024 .f32) (g : Vec Ideal S1x1024 .f32)
    (R : Fin 32768) (l : Fin 1024) : EReal :=
  norm (fun k => resOf f ys gt x wf wg wo R k) (fun k => g (ix2 0 k)) l

/-- Which block each window shows at point `t`. -/
theorem idx : ∀ t : Fin grid0.N, win0_0.index t = ![t.val, 0] ∧ win0_1.index t = ![0, t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0]
    ∧ win0_9.index t = ![t.val, 0] ∧ win0_10.index t = ![t.val, 0] :=
  (by decide +kernel)

/-- The host's reshapes, entry by entry. -/
theorem rows_apply (x : Vec Ideal S4x8192x1024 .f32) (b : Fin 4) (s : Fin 8192) (j : Fin 1024) :
    shapeCast S32768x1024 x shapeCasts_S4x8192x1024_S32768x1024 (ix2 ⟨b.val * 8192 + s.val, by omega⟩ j) = x (ix3 b s j) := by
  pointwise!

theorem row_apply (x : Vec Ideal S4x8192x1024 .f32) (R : Fin 32768) (j : Fin 1024) :
    shapeCast S32768x1024 x shapeCasts_S4x8192x1024_S32768x1024 (ix2 R j) = x (ix3 ⟨R.val / 8192, by omega⟩ ⟨R.val % 8192, by omega⟩ j) := by
  have e : R = ⟨R.val / 8192 * 8192 + R.val % 8192, by omega⟩ := Fin.ext (by show R.val = R.val / 8192 * 8192 + R.val % 8192; omega)
  exact (congrArg (fun R => shapeCast S32768x1024 x shapeCasts_S4x8192x1024_S32768x1024 (ix2 R j)) e).trans
    (rows_apply x ⟨R.val / 8192, by omega⟩ ⟨R.val % 8192, by omega⟩ j)

variable (m : (ℓ : Loc nD τ sig) → Buf (Elt Ideal) ℓ)

theorem x_eq (c : Dev nD) : (V m c main_v12 : Vec Ideal S32768x1024 .f32) = shapeCast S32768x1024 (m (c.tc.loc main_arg3) : Vec Ideal S4x8192x1024 .f32) shapeCasts_S4x8192x1024_S32768x1024 := by
  simp only [V, hostOps0, hostOps0_1, hostOps0_2, hostOps0_3, hostOps0_4, hostOps0_5, hostOps0_6, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  rfl

theorem wf_eq (c : Dev nD) (j : Fin 512) (l : Fin 1024) : (V m c main_v14 : Vec Ideal S512x1024 .bf16) (ix2 j l) = (m (c.tc.loc main_arg4) : Vec Ideal S1x512x1024 .f32) (ix3 0 j l) := by
  simp only [V, hostOps0, hostOps0_1, hostOps0_2, hostOps0_3, hostOps0_4, hostOps0_5, hostOps0_6, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  pointwise

theorem wg_eq (c : Dev nD) (j : Fin 512) (l : Fin 2048) : (V m c main_v16 : Vec Ideal S512x2048 .bf16) (ix2 j l) = (m (c.tc.loc main_arg5) : Vec Ideal S1x512x2048 .f32) (ix3 0 j l) := by
  simp only [V, hostOps0, hostOps0_1, hostOps0_2, hostOps0_3, hostOps0_4, hostOps0_5, hostOps0_6, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  pointwise

theorem wo_eq (c : Dev nD) (j l : Fin 1024) : (V m c main_v18 : Vec Ideal S1024x1024 .bf16) (ix2 j l) = (m (c.tc.loc main_arg6) : Vec Ideal S1x1024x1024 .f32) (ix3 0 j l) := by
  simp only [V, hostOps0, hostOps0_1, hostOps0_2, hostOps0_3, hostOps0_4, hostOps0_5, hostOps0_6, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  pointwise

theorem g_eq (c : Dev nD) (j : Fin 1024) : (V m c main_v20 : Vec Ideal S1x1024 .f32) (ix2 0 j) = (m (c.tc.loc main_arg7) : Vec Ideal S1x1024 .f32) (ix2 0 j) := by
  simp only [V, hostOps0, hostOps0_1, hostOps0_2, hostOps0_3, hostOps0_4, hostOps0_5, hostOps0_6, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  pointwise

theorem f_eq (c : Dev nD) : (V m c main_arg0 : Vec Ideal S32768x512 .bf16) = m (c.tc.loc main_arg0) := by
  simp only [V, hostOps0, hostOps0_1, hostOps0_2, hostOps0_3, hostOps0_4, hostOps0_5, hostOps0_6, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp

theorem ys_eq (c : Dev nD) : (V m c main_arg1 : Vec Ideal S4x32768x128 .f32) = m (c.tc.loc main_arg1) := by
  simp only [V, hostOps0, hostOps0_1, hostOps0_2, hostOps0_3, hostOps0_4, hostOps0_5, hostOps0_6, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp

theorem gt_eq (c : Dev nD) : (V m c main_arg2 : Vec Ideal S32768x2048 .bf16) = m (c.tc.loc main_arg2) := by
  simp only [V, hostOps0, hostOps0_1, hostOps0_2, hostOps0_3, hostOps0_4, hostOps0_5, hostOps0_6, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp

/-- The blocks, read in the arguments. -/
theorem read_f (c : Dev nD) (t : Fin cfg0.N) (r : Fin 1024) (j : Fin 512) (R : Fin 32768) (h : t.val * 1024 + r.val = R.val) :
    (iblk m c 0 t : Vec Ideal S1024x512 .bf16) (ix2 r j) = (m (c.tc.loc main_arg0) : Vec Ideal S32768x512 .bf16) (ix2 R j) := by
  have e : (iblk m c 0 t : Vec Ideal S1024x512 .bf16) (ix2 r j) = (V m c main_arg0 : Vec Ideal S32768x512 .bf16) (ix2 R j) := by
    blk_ext! [iblk, idx t]
  rw [e, f_eq]

theorem read_ys (c : Dev nD) (t : Fin cfg0.N) (q : Fin 4) (r : Fin 1024) (j : Fin 128) (R : Fin 32768) (h : t.val * 1024 + r.val = R.val) :
    (iblk m c 1 t : Vec Ideal S4x1024x128 .f32) (ix3 q r j) = (m (c.tc.loc main_arg1) : Vec Ideal S4x32768x128 .f32) (ix3 q R j) := by
  have e : (iblk m c 1 t : Vec Ideal S4x1024x128 .f32) (ix3 q r j) = (V m c main_arg1 : Vec Ideal S4x32768x128 .f32) (ix3 q R j) := by
    blk_ext! [iblk, idx t]
  rw [e, ys_eq]

theorem read_gt (c : Dev nD) (t : Fin cfg0.N) (r : Fin 1024) (j : Fin 2048) (R : Fin 32768) (h : t.val * 1024 + r.val = R.val) :
    (iblk m c 2 t : Vec Ideal S1024x2048 .bf16) (ix2 r j) = (m (c.tc.loc main_arg2) : Vec Ideal S32768x2048 .bf16) (ix2 R j) := by
  have e : (iblk m c 2 t : Vec Ideal S1024x2048 .bf16) (ix2 r j) = (V m c main_arg2 : Vec Ideal S32768x2048 .bf16) (ix2 R j) := by
    blk_ext! [iblk, idx t]
  rw [e, gt_eq]

theorem read_x (c : Dev nD) (t : Fin cfg0.N) (r j : Fin 1024) (R : Fin 32768) (h : t.val * 1024 + r.val = R.val) :
    (iblk m c 3 t : Vec Ideal S1024x1024 .f32) (ix2 r j)
      = (m (c.tc.loc main_arg3) : Vec Ideal S4x8192x1024 .f32) (ix3 ⟨R.val / 8192, by omega⟩ ⟨R.val % 8192, by omega⟩ j) := by
  have e : (iblk m c 3 t : Vec Ideal S1024x1024 .f32) (ix2 r j) = (V m c main_v12 : Vec Ideal S32768x1024 .f32) (ix2 R j) := by
    blk_ext! [iblk, idx t]
  rw [e, x_eq]
  exact row_apply _ R j

theorem read_wf (c : Dev nD) (t : Fin cfg0.N) (j : Fin 512) (l : Fin 1024) :
    (iblk m c 4 t : Vec Ideal S512x1024 .bf16) (ix2 j l) = (m (c.tc.loc main_arg4) : Vec Ideal S1x512x1024 .f32) (ix3 0 j l) := by
  have e : (iblk m c 4 t : Vec Ideal S512x1024 .bf16) (ix2 j l) = (V m c main_v14 : Vec Ideal S512x1024 .bf16) (ix2 j l) := by
    blk_ext! [iblk, idx t]
  rw [e, wf_eq]

theorem read_wg (c : Dev nD) (t : Fin cfg0.N) (j : Fin 512) (l : Fin 2048) :
    (iblk m c 5 t : Vec Ideal S512x2048 .bf16) (ix2 j l) = (m (c.tc.loc main_arg5) : Vec Ideal S1x512x2048 .f32) (ix3 0 j l) := by
  have e : (iblk m c 5 t : Vec Ideal S512x2048 .bf16) (ix2 j l) = (V m c main_v16 : Vec Ideal S512x2048 .bf16) (ix2 j l) := by
    blk_ext! [iblk, idx t]
  rw [e, wg_eq]

theorem read_wo (c : Dev nD) (t : Fin cfg0.N) (j l : Fin 1024) :
    (iblk m c 6 t : Vec Ideal S1024x1024 .bf16) (ix2 j l) = (m (c.tc.loc main_arg6) : Vec Ideal S1x1024x1024 .f32) (ix3 0 j l) := by
  have e : (iblk m c 6 t : Vec Ideal S1024x1024 .bf16) (ix2 j l) = (V m c main_v18 : Vec Ideal S1024x1024 .bf16) (ix2 j l) := by
    blk_ext! [iblk, idx t]
  rw [e, wo_eq]

theorem read_g (c : Dev nD) (t : Fin cfg0.N) (j : Fin 1024) :
    (iblk m c 7 t : Vec Ideal S1x1024 .f32) (ix2 0 j) = (m (c.tc.loc main_arg7) : Vec Ideal S1x1024 .f32) (ix2 0 j) := by
  have e : (iblk m c 7 t : Vec Ideal S1x1024 .f32) (ix2 0 j) = (V m c main_v20 : Vec Ideal S1x1024 .f32) (ix2 0 j) := by
    blk_ext! [iblk, idx t]
  rw [e, g_eq]

/-- A block's row of the residual stream, in the arguments. -/
theorem res_args (c : Dev nD) (t : Fin cfg0.N) (r l : Fin 1024) (R : Fin 32768) (h : t.val * 1024 + r.val = R.val) :
    resAt (iblk m c 0 t) (iblk m c 1 t) (iblk m c 2 t) (iblk m c 3 t) (iblk m c 4 t) (iblk m c 5 t) (iblk m c 6 t) r l
      = resOf (m (c.tc.loc main_arg0)) (m (c.tc.loc main_arg1)) (m (c.tc.loc main_arg2)) (m (c.tc.loc main_arg3)) (m (c.tc.loc main_arg4)) (m (c.tc.loc main_arg5)) (m (c.tc.loc main_arg6)) R l := by
  unfold resAt resOf
  refine congrFun (congr (congr (congrArg res (funext fun k => ?_)) (funext fun j => congrFun
    (congr (congr (congr (congr (congrArg mix (funext fun k => ?_)) (funext fun k => ?_)) (funext fun k => ?_)) (funext fun k => funext fun l => ?_)) (funext fun k => funext fun l => ?_)) j))
    (funext fun k => funext fun l => ?_)) l
  · exact read_x m c t r k R h
  · exact read_f m c t r k R h
  · exact read_ys m c t _ r _ R h
  · exact read_gt m c t r k R h
  · exact read_wf m c t k l
  · exact read_wg m c t k l
  · exact read_wo m c t k l

/-- The residual stream: the first result. -/
theorem arr_x1 (c : Dev nD) : (dats m 0 c).arrAt 9 cfg0.N
    = (fun i => resOf (m (c.tc.loc main_arg0)) (m (c.tc.loc main_arg1)) (m (c.tc.loc main_arg2)) (m (c.tc.loc main_arg3)) (m (c.tc.loc main_arg4)) (m (c.tc.loc main_arg5)) (m (c.tc.loc main_arg6)) (i 0) (i 1) : Vec Ideal S32768x1024 .f32) := by
  refine (dats m 0 c).arrAt_eq_of_covers 9 _ (by decide +kernel) fun t hf y => ?_
  blk_simp
  rw [after0_9]
  obtain ⟨r, l, rfl⟩ : ∃ (r l : Fin 1024), y = ix2 r l := ⟨y 0, y 1, eq_ix2 y⟩
  have ht : t.val < 32 := lt_of_lt_of_eq t.isLt N_0
  have e : (win0_9.blk t).view.emb (ix2 r l) = ix2 ⟨t.val * 1024 + r.val, by omega⟩ l := by
    blk_ext [idx t]
  rw [out9_apply, res_args m c t r l ⟨t.val * 1024 + r.val, by omega⟩ rfl, e]
  rfl

/-- The residual stream normalised: the second result. -/
theorem arr_h2 (c : Dev nD) : (dats m 0 c).arrAt 10 cfg0.N
    = (fun i => normOf (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (i 0) (i 1) : Vec Ideal S32768x1024 .bf16) := by
  refine (dats m 0 c).arrAt_eq_of_covers 10 _ (by decide +kernel) fun t hf y => ?_
  blk_simp
  rw [after0_10]
  obtain ⟨r, l, rfl⟩ : ∃ (r l : Fin 1024), y = ix2 r l := ⟨y 0, y 1, eq_ix2 y⟩
  have ht : t.val < 32 := lt_of_lt_of_eq t.isLt N_0
  have e : (win0_10.blk t).view.emb (ix2 r l) = ix2 ⟨t.val * 1024 + r.val, by omega⟩ l := by
    blk_ext [idx t]
  rw [out10_apply, e]
  refine congrFun (congr (congrArg norm (funext fun k => ?_)) (funext fun k => ?_)) l
  · exact res_args m c t r k ⟨t.val * 1024 + r.val, by omega⟩ rfl
  · exact read_g m c t k

end Cert.Kernel3Ideal.Mixout

end
-- ==== Proof.Mixout.Plain.lean ====
/- The reference's residual stream and its normalisation, entry by entry: the same expressions. -/
module

public import proofs.«01_k».proof.Proof.Mixout.Equation
public import proofs.«01_k».proof.Proof.Gen.Reference3Ideal.Run

@[expose] public section

set_option maxRecDepth 16384

noncomputable section

namespace Cert.Reference3Ideal.Mixout

open Cert.Reference3Ideal Cert.Reference3Ideal.Gen Idealize.ShloMosaic Idealize.ShloMosaic.TcCoe
open Cert.Kernel3Ideal.Mixout (lin mix res resOf normOf)

/-- The channels of a token side by side: entry `k` is channel `k % 128` of group `k / 128`. -/
theorem flat_apply (y : Vec Ideal S4x32768x128 .f32) (R : Fin 32768) (q : Fin 4) (k : Fin 128) :
    shapeCast S32768x512 (transpose S32768x4x128 [1, 0, 2] y transposes_S4x32768x128_S32768x4x128_1_0_2) shapeCasts_S32768x4x128_S32768x512
      (ix2 R ⟨q.val * 128 + k.val, by omega⟩) = y (ix3 q R k) := by
  pointwise!

theorem chan_apply (y : Vec Ideal S4x32768x128 .f32) (R : Fin 32768) (k : Fin 512) :
    shapeCast S32768x512 (transpose S32768x4x128 [1, 0, 2] y transposes_S4x32768x128_S32768x4x128_1_0_2) shapeCasts_S32768x4x128_S32768x512 (ix2 R k)
      = y (ix3 ⟨k.val / 128, by omega⟩ R ⟨k.val % 128, by omega⟩) := by
  have e : k = ⟨k.val / 128 * 128 + k.val % 128, by omega⟩ := Fin.ext (by show k.val = k.val / 128 * 128 + k.val % 128; omega)
  exact (congrArg (fun k => shapeCast S32768x512 (transpose S32768x4x128 [1, 0, 2] y transposes_S4x32768x128_S32768x4x128_1_0_2) shapeCasts_S32768x4x128_S32768x512 (ix2 R k)) e).trans
    (flat_apply y R ⟨k.val / 128, by omega⟩ ⟨k.val % 128, by omega⟩)

/-- The tokens in rows. -/
theorem row_apply (x : Vec Ideal S4x8192x1024 .f32) (R : Fin 32768) (j : Fin 1024) :
    shapeCast S32768x1024 x shapeCasts_S4x8192x1024_S32768x1024 (ix2 R j) = x (ix3 ⟨R.val / 8192, by omega⟩ ⟨R.val % 8192, by omega⟩ j) :=
  Cert.Kernel3Ideal.Mixout.row_apply x R j

/-- The state-space channels' projection, both halves. -/
def gluAll (ys : Vec Ideal S4x32768x128 .f32) (wg : Vec Ideal S1x512x2048 .f32) : FVec Ideal S32768x2048 .f32 :=
  Host.dotGeneral dot_S32768x512_S512x2048_S32768x2048_1_0_0_1_n_n none (shapeCast _ (transpose S32768x4x128 [1, 0, 2] ys transposes_S4x32768x128_S32768x4x128_1_0_2) shapeCasts_S32768x4x128_S32768x512 : FVec Ideal S32768x512 .f32) (shapeCast _ wg shapeCasts_S1x512x2048_S512x2048 : FVec Ideal S512x2048 .f32)

theorem glu_apply (ys : Vec Ideal S4x32768x128 .f32) (wg : Vec Ideal S1x512x2048 .f32) (R : Fin 32768) (l : Fin 2048) :
    gluAll ys wg (ix2 R l) = lin (fun k => ys (ix3 ⟨k.val / 128, by omega⟩ R ⟨k.val % 128, by omega⟩)) (fun k => wg (ix3 0 k l)) := by
  pointwise [gluAll, lin, chan_apply]

/-- The two gated branches added. -/
def mixAll (f : Vec Ideal S32768x512 .bf16) (y : FVec Ideal S32768x2048 .f32) (gt : Vec Ideal S32768x2048 .bf16) (wf : Vec Ideal S1x512x1024 .f32) : FVec Ideal S32768x1024 .f32 :=
  addf (mulf (extractStridedSlice S32768x1024 ![0, 0] (extf .f32 gt bitsLt_bf16_f32) slices_S32768x2048_S32768x1024_0_0) (Host.dotGeneral dot_S32768x512_S512x1024_S32768x1024_1_0_0_1_n_n none (extf .f32 f bitsLt_bf16_f32) (shapeCast _ wf shapeCasts_S1x512x1024_S512x1024 : FVec Ideal S512x1024 .f32))) (mulf (extractStridedSlice S32768x1024 ![0, 1024] (extf .f32 gt bitsLt_bf16_f32) slices_S32768x2048_S32768x1024_0_1024) (mulf (extractStridedSlice S32768x1024 ![0, 0] y slices_S32768x2048_S32768x1024_0_0) (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extractStridedSlice S32768x1024 ![0, 1024] y slices_S32768x2048_S32768x1024_0_1024)))))))

variable (f : Vec Ideal S32768x512 .bf16) (ys : Vec Ideal S4x32768x128 .f32) (gt : Vec Ideal S32768x2048 .bf16) (x : Vec Ideal S4x8192x1024 .f32)
  (wf : Vec Ideal S1x512x1024 .f32) (wg : Vec Ideal S1x512x2048 .f32) (wo : Vec Ideal S1x1024x1024 .f32)

theorem mix_apply (R : Fin 32768) (l : Fin 1024) : mixAll f (gluAll ys wg) gt wf (ix2 R l)
    = mix (fun k => f (ix2 R k)) (fun k => ys (ix3 ⟨k.val / 128, by omega⟩ R ⟨k.val % 128, by omega⟩)) (fun k => gt (ix2 R k))
      (fun k l => wf (ix3 0 k l)) (fun k l => wg (ix3 0 k l)) l := by
  pointwise [mixAll, mix, lin, glu_apply]
  rfl

/-- The residual stream. -/
def resAll (f : Vec Ideal S32768x512 .bf16) (ys : Vec Ideal S4x32768x128 .f32) (gt : Vec Ideal S32768x2048 .bf16) (x : Vec Ideal S4x8192x1024 .f32)
  (wf : Vec Ideal S1x512x1024 .f32) (wg : Vec Ideal S1x512x2048 .f32) (wo : Vec Ideal S1x1024x1024 .f32) : FVec Ideal S32768x1024 .f32 :=
  addf (shapeCast _ x shapeCasts_S4x8192x1024_S32768x1024 : FVec Ideal S32768x1024 .f32) (Host.dotGeneral dot_S32768x1024_S1024x1024_S32768x1024_1_0_0_1_n_n none (mixAll f (gluAll ys wg) gt wf) (shapeCast _ wo shapeCasts_S1x1024x1024_S1024x1024 : FVec Ideal S1024x1024 .f32))

theorem res_apply (R : Fin 32768) (l : Fin 1024) : resAll f ys gt x wf wg wo (ix2 R l) = resOf f ys gt x wf wg wo R l := by
  pointwise [resAll, resOf, res, lin, mix_apply, row_apply]

/-- A stream's rows normalised. -/
def normAll (a : FVec Ideal S32768x1024 .f32) (g : Vec Ideal S1x1024 .f32) : FVec Ideal S32768x1024 .bf16 :=
  truncf .bf16 (mulf (mulf a (broadcastInDim S32768x1024 ![0, 1] bcast_S32768x1_S32768x1024_0_1 (Host.rsqrt (addf (Host.divf (broadcastInDim S32768x1 ![0] bcast_S32768_S32768x1_0 (Host.reduceAdd (mulf a a) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast _ g shapeCasts_S1x1024_S1024)))) bitsLt_bf16_f32

theorem norm_apply (a : FVec Ideal S32768x1024 .f32) (g : Vec Ideal S1x1024 .f32) (R : Fin 32768) (l : Fin 1024) :
    normAll a g (ix2 R l) = Cert.Kernel3Ideal.Mixout.norm (fun k => a (ix2 R k)) (fun k => g (ix2 0 k)) l := by
  unfold Cert.Kernel3Ideal.Mixout.norm
  pointwise [normAll]

/-- The two results as whole arrays. -/
theorem x1_eq : resAll f ys gt x wf wg wo = (fun i => resOf f ys gt x wf wg wo (i 0) (i 1) : Vec Ideal S32768x1024 .f32) := by
  funext i
  obtain ⟨R, l, rfl⟩ : ∃ (R : Fin 32768) (l : Fin 1024), i = ix2 R l := ⟨i 0, i 1, eq_ix2 i⟩
  exact res_apply f ys gt x wf wg wo R l

theorem h2_eq (g : Vec Ideal S1x1024 .f32) : normAll (resAll f ys gt x wf wg wo) g
    = (fun i => normOf f ys gt x wf wg wo g (i 0) (i 1) : Vec Ideal S32768x1024 .bf16) := by
  funext i
  obtain ⟨R, l, rfl⟩ : ∃ (R : Fin 32768) (l : Fin 1024), i = ix2 R l := ⟨i 0, i 1, eq_ix2 i⟩
  refine (norm_apply _ g R l).trans ?_
  exact congrArg (fun p => Cert.Kernel3Ideal.Mixout.norm p _ l) (funext fun k => res_apply f ys gt x wf wg wo R k)

/-- The second result's generated term is the one above. -/
theorem term_h2 (m : (ℓ : Loc nD τ sig) → Buf (Elt Ideal) ℓ) (c : Dev nD) :
    Value.res_main_v40 m c = normAll (resAll (m (c.tc.loc main_arg0)) (m (c.tc.loc main_arg1)) (m (c.tc.loc main_arg2)) (m (c.tc.loc main_arg3)) (m (c.tc.loc main_arg4)) (m (c.tc.loc main_arg5)) (m (c.tc.loc main_arg6))) (m (c.tc.loc main_arg7)) := rfl

end Cert.Reference3Ideal.Mixout

end
-- ==== Proof.Router.Soft.lean ====
/- The arithmetic of the router: finite normalised rows, a product split in two halves, and a masked softmax. -/
module

public import proofs.«01_k».proof.Proof.Mixout.Body

@[expose] public section

noncomputable section

namespace Cert.Kernel4Ideal.Router

open Idealize.ShloMosaic
open Cert.Kernel3Ideal.Mixout (lin)

/-- A finite extended real. -/
def IsFin (x : EReal) : Prop := x ≠ ⊥ ∧ x ≠ ⊤

theorem IsFin.coe (r : ℝ) : IsFin (r : EReal) := ⟨EReal.coe_ne_bot r, EReal.coe_ne_top r⟩

theorem IsFin.exists {x : EReal} (h : IsFin x) : ∃ r : ℝ, x = r := ⟨x.toReal, (EReal.coe_toReal h.2 h.1).symm⟩

theorem IsFin.sub_self {x : EReal} (h : IsFin x) : x - x = 0 := EReal.sub_self h.2 h.1

theorem square_nonneg (x : EReal) : 0 ≤ x * x := by
  induction x using EReal.rec with
  | bot => rw [EReal.bot_mul_bot]; exact le_top
  | coe r => rw [← EReal.coe_mul]; exact EReal.coe_nonneg.2 (mul_self_nonneg r)
  | top => rw [EReal.top_mul_top]; exact le_top

/-- A finite square is a finite number's. -/
theorem of_square {x : EReal} (h : x * x ≠ ⊤) : IsFin x := by
  refine ⟨fun e => h ?_, fun e => h ?_⟩
  · rw [e, EReal.bot_mul_bot]
  · rw [e, EReal.top_mul_top]

/-- The two literals of the mean square: 1024 and a positive number. -/
theorem count_eq : (Scalar.ofBits (F := Ideal) .f32 0x44800000#32 : EReal) = ((1024 : ℝ) : EReal) := by
  show Ideal.ofBits .f32 0x44800000#32 = _
  simp [Ideal.ofBits, Ideal.ieee]
  rw [← EReal.coe_mul]
  norm_num

theorem eps_pos : ∃ e : ℝ, 0 < e ∧ (Scalar.ofBits (F := Ideal) .f32 0x358637BD#32 : EReal) = (e : EReal) := by
  refine ⟨8796093 * (2 : ℝ) ^ (-43 : ℤ), by positivity, ?_⟩
  show Ideal.ofBits .f32 0x358637BD#32 = _
  simp [Ideal.ofBits, Ideal.ieee]

/-- A row's normalisation is finite wherever its weight is: a row with an infinite entry is normalised to zeros. -/
theorem norm_finite (a g : Fin 1024 → EReal) (c : Fin 1024) (hg : IsFin (g c)) : IsFin (Cert.Kernel3Ideal.Mixout.norm a g c) := by
  obtain ⟨w, hw⟩ := hg.exists
  obtain ⟨e, he, hb⟩ := eps_pos
  have hs : a c * a c ≤ ∑ k : Fin 1024, a k * a k :=
    Finset.single_le_sum (f := fun k => a k * a k) (fun k _ => square_nonneg (a k)) (Finset.mem_univ c)
  unfold Cert.Kernel3Ideal.Mixout.norm
  rw [hw, hb, count_eq, Ideal.div_coe (by norm_num)]
  generalize (∑ k : Fin 1024, a k * a k) = S at hs
  induction S using EReal.rec with
  | bot => exact absurd ((square_nonneg (a c)).trans hs) (by simp)
  | coe s =>
    obtain ⟨b, hb⟩ := (of_square (ne_top_of_le_ne_top (EReal.coe_ne_top s) hs)).exists
    rw [hb, ← EReal.coe_mul] at hs
    have hs0 : 0 ≤ s := (mul_self_nonneg b).trans (EReal.coe_le_coe_iff.1 hs)
    have hp : 0 < s * (1 / 1024) + e := by positivity
    rw [hb, ← EReal.coe_mul, ← EReal.coe_add, Ideal.rsqrt_coe, if_neg hp.not_gt, if_neg hp.ne', ← EReal.coe_mul, ← EReal.coe_mul]
    exact IsFin.coe _
  | top =>
    rw [EReal.top_mul_coe_of_pos (by norm_num), EReal.top_add_coe, Ideal.rsqrt_top, mul_zero, zero_mul]
    exact IsFin.coe 0

/-- A product's second halves vanish when its factors are finite. -/
theorem halves (z w v u t : Fin 1024 → EReal) (hz : ∀ k, IsFin (z k)) (hv : ∀ k, v k = 0) :
    (∑ k, z k * w k + ∑ k, (z k - z k) * u k) + (∑ k, z k * v k + ∑ k, (z k - z k) * t k) = lin z w := by
  have e : ∀ k, z k - z k = 0 := fun k => (hz k).sub_self
  simp only [e, hv, zero_mul, mul_zero, Finset.sum_const_zero, add_zero]
  rfl

/-- The softmax of sixteen logits. -/
def soft (L : Fin 16 → EReal) (e : Fin 16) : EReal :=
  Ideal.div (Ideal.exp (L e - Finset.fold max ⊥ L Finset.univ)) (∑ x, Ideal.exp (L x - Finset.fold max ⊥ L Finset.univ))

/-- Lanes at −∞ count neither in the maximum nor in the sum. -/
theorem soft_masked (L : Fin 16 → EReal) (v : Fin 128 → EReal) (h : ∀ l : Fin 128, v l = if h : l.val < 16 then L ⟨l.val, h⟩ else ⊥) (e : Fin 16) :
    Ideal.div (Ideal.exp (v ⟨e.val, by omega⟩ - Finset.fold max ⊥ v Finset.univ)) (∑ x, Ideal.exp (v x - Finset.fold max ⊥ v Finset.univ)) = soft L e := by
  have hM : Finset.fold max ⊥ v Finset.univ = Finset.fold max ⊥ L Finset.univ := by
    refine le_antisymm ?_ ?_
    · refine Finset.fold_max_le _ |>.2 ⟨bot_le, fun l _ => ?_⟩
      rw [h]
      split_ifs with p
      · exact Finset.le_fold_max _ |>.2 (.inr ⟨_, Finset.mem_univ _, le_rfl⟩)
      · exact bot_le
    · refine Finset.fold_max_le _ |>.2 ⟨bot_le, fun l _ => ?_⟩
      refine Finset.le_fold_max _ |>.2 (.inr ⟨⟨l.val, by omega⟩, Finset.mem_univ _, ?_⟩)
      rw [h, dif_pos l.isLt]
  have hS : ∀ M : EReal, (∑ x, Ideal.exp (v x - M)) = ∑ x, Ideal.exp (L x - M) := fun M => by
    refine (Fin.sum_univ_add (a := 16) (b := 112) fun x => Ideal.exp (v x - M)).trans ?_
    have z : (∑ x : Fin 112, Ideal.exp (v (Fin.natAdd 16 x) - M)) = 0 :=
      Finset.sum_eq_zero fun x _ => by
        rw [h, dif_neg (by show ¬ 16 + x.val < 16; omega), EReal.bot_sub, Ideal.exp_bot]
    rw [z, add_zero]
    exact Finset.sum_congr rfl fun x _ => by rw [h, dif_pos (by show x.val < 16; exact x.isLt)]; rfl
  unfold soft
  rw [hM, hS, h, dif_pos e.isLt]

end Cert.Kernel4Ideal.Router

end
-- ==== Proof.Router.Body.lean ====
/- The router's affinities of 256 rows, from the rows' normalised values. -/
module

public import proofs.«01_k».proof.Proof.Router.Soft
public import proofs.«01_k».proof.Proof.Gen.Kernel4Ideal.Value

@[expose] public section

set_option maxRecDepth 16384

noncomputable section

namespace Cert.Kernel4Ideal.Router

open Cert.Kernel4Ideal Cert.Kernel4Ideal.Gen Idealize.ShloMosaic Idealize.ShloMosaic.TcCoe
open Cert.Kernel3Ideal.Mixout (lin resRow)

/-- The masked logits of 256 rows: the product's two halves added, the lanes past the experts at the mask. -/
def logits (z : FVec Ideal S256x1024 .f32) (w : Vec Ideal S2048x256 .bf16) : FVec Ideal S256x128 .f32 :=
  have p : FVec Ideal S256x256 .f32 := matmul dot_S256x2048_S2048x256_S256x256_1_0_0_1_n_n none
    (concatenate S256x2048 1 [⟨S256x1024, (truncf .bf16 z bitsLt_bf16_f32 : FVec Ideal S256x1024 .bf16)⟩, ⟨S256x1024, (truncf .bf16 (subf z (extf .f32 (truncf .bf16 z bitsLt_bf16_f32) bitsLt_bf16_f32)) bitsLt_bf16_f32 : FVec Ideal S256x1024 .bf16)⟩]
      concatenates_S256x1024_S256x1024_S256x2048_d1 : FVec Ideal S256x2048 .bf16)
    (shapeCast S2048x256 w shapeCasts_S2048x256_S2048x256 : FVec Ideal S2048x256 .bf16) (constant S256x256 .f32 0x00000000#32)
  select (cmpi .slt (iota .tc S256x128 32 [1] iota_S256x128_d1_w32) (broadcast S256x128 16#32))
    (addf (extractStridedSlice S256x128 ![0, 0] p slices_S256x256_o0_0_S256x128) (extractStridedSlice S256x128 ![0, 128] p slices_S256x256_o0_128_S256x128))
    (broadcast S256x128 (Named.named (F := Ideal) κ "mask" (φ := .f32) 0xF149F2CA#32))

variable (f : Vec Ideal S256x512 .bf16) (wf : Vec Ideal S512x1024 .bf16) (a b c d : Vec Ideal S1x256x128 .f32) (wg : Vec Ideal S512x2048 .bf16)
  (gt : Vec Ideal S256x2048 .bf16) (x : Vec Ideal S256x1024 .f32) (wo : Vec Ideal S1024x1024 .bf16) (g : Vec Ideal S1x1024 .f32) (w : Vec Ideal S2048x256 .bf16)

/-- The four quarters' stores are the softmax of the same logits. -/
theorem pay1_eq : k0_pay1 (k0_pay32 (k0_pay26 f wf) (k0_pay27 a b c d) (k0_pay28 wg) gt x wo g) w
    = k0_pay16 (logits (k0_pay30 (k0_pay26 f wf) (k0_pay27 a b c d) (k0_pay28 wg) gt x wo g) w) := rfl

theorem pay25_eq : k0_pay25 (k0_pay23 (k0_pay17 f wf) (k0_pay18 a b c d wg) gt x wo g w) (k0_pay24 (k0_pay17 f wf) (k0_pay18 a b c d wg) gt x wo g w)
    = k0_pay16 (logits (k0_pay20 (k0_pay17 f wf) (k0_pay18 a b c d wg) gt x wo g) w) := rfl

theorem pay16_eq : k0_pay16 (k0_pay15 (k0_pay11 f wf a b c d wg gt) x wo g w)
    = k0_pay16 (logits (k0_pay13 (k0_pay11 f wf a b c d wg gt) x wo g) w) := rfl

theorem pay10_eq : k0_pay10 (k0_pay8 (k0_pay2 x) (k0_pay3 f wf a b c d wg gt) (k0_pay4 wo) g w) (k0_pay9 (k0_pay2 x) (k0_pay3 f wf a b c d wg gt) (k0_pay4 wo) g w)
    = k0_pay16 (logits (k0_pay6 (k0_pay2 x) (k0_pay3 f wf a b c d wg gt) (k0_pay4 wo) g) w) := rfl

theorem z30 (r : Fin 256) (l : Fin 1024) : k0_pay30 (k0_pay26 f wf) (k0_pay27 a b c d) (k0_pay28 wg) gt x wo g (ix2 r l)
    = Cert.Kernel3Ideal.Mixout.norm (fun k => resRow f wf a b c d wg gt x wo r k) (fun k => g (ix2 0 k)) l :=
  Cert.Kernel3Ideal.Mixout.pay31_apply f wf a b c d wg gt x wo g r l

theorem z20 (r : Fin 256) (l : Fin 1024) : k0_pay20 (k0_pay17 f wf) (k0_pay18 a b c d wg) gt x wo g (ix2 r l)
    = Cert.Kernel3Ideal.Mixout.norm (fun k => resRow f wf a b c d wg gt x wo r k) (fun k => g (ix2 0 k)) l :=
  Cert.Kernel3Ideal.Mixout.pay21_apply f wf a b c d wg gt x wo g r l

theorem z13 (r : Fin 256) (l : Fin 1024) : k0_pay13 (k0_pay11 f wf a b c d wg gt) x wo g (ix2 r l)
    = Cert.Kernel3Ideal.Mixout.norm (fun k => resRow f wf a b c d wg gt x wo r k) (fun k => g (ix2 0 k)) l :=
  Cert.Kernel3Ideal.Mixout.pay14_apply f wf a b c d wg gt x wo g r l

theorem z6 (r : Fin 256) (l : Fin 1024) : k0_pay6 (k0_pay2 x) (k0_pay3 f wf a b c d wg gt) (k0_pay4 wo) g (ix2 r l)
    = Cert.Kernel3Ideal.Mixout.norm (fun k => resRow f wf a b c d wg gt x wo r k) (fun k => g (ix2 0 k)) l :=
  Cert.Kernel3Ideal.Mixout.pay7_apply f wf a b c d wg gt x wo g r l

/-- The stored softmax of 128 lanes, its first sixteen turned into rows. -/
theorem soft_apply (v : FVec Ideal S256x128 .f32) (r : Fin 256) (e : Fin 16) : k0_pay16 v (ix2 e r)
    = Ideal.div (Ideal.exp (v (ix2 r ⟨e.val, by omega⟩) - Finset.fold max (Ideal.ofBits .f32 0xFF800000#32) (fun x => v (ix2 r x)) Finset.univ))
      (∑ x, Ideal.exp (v (ix2 r x) - Finset.fold max (Ideal.ofBits .f32 0xFF800000#32) (fun x => v (ix2 r x)) Finset.univ)) := by
  pointwise [k0_pay16]

theorem ninf_eq : Ideal.ofBits .f32 0xFF800000#32 = (⊥ : EReal) := by
  simp [Ideal.ofBits, Ideal.ieee]

/-- One lane of the logits before the mask. -/
def lane (z : Fin 1024 → EReal) (w : Vec Ideal S2048x256 .bf16) (e : Fin 128) : EReal :=
  (∑ k : Fin 1024, z k * w (ix2 ⟨k.val, by omega⟩ ⟨e.val, by omega⟩) + ∑ k : Fin 1024, (z k - z k) * w (ix2 ⟨1024 + k.val, by omega⟩ ⟨e.val, by omega⟩))
    + (∑ k : Fin 1024, z k * w (ix2 ⟨k.val, by omega⟩ ⟨128 + e.val, by omega⟩) + ∑ k : Fin 1024, (z k - z k) * w (ix2 ⟨1024 + k.val, by omega⟩ ⟨128 + e.val, by omega⟩))

theorem logits_apply (z : FVec Ideal S256x1024 .f32) (r : Fin 256) (e : Fin 128) : logits z w (ix2 r e)
    = Scalar.select (IntOp.cmpi .slt (BitVec.ofNat 32 e.val) 16#32) (lane (fun k => z (ix2 r k)) w e) (Named.named (F := Ideal) κ "mask" (φ := .f32) 0xF149F2CA#32) := by
  pointwise [logits, lane]

/-- The mask keeps the sixteen experts' lanes. -/
theorem keep : ∀ e : Fin 128, IntOp.cmpi .slt (BitVec.ofNat 32 e.val) 16#32 = if e.val < 16 then 1#1 else 0#1 := by decide

/-- A quarter's affinities are the softmax of its rows' products with the router's weights, when the rows are finite and
    the weights' second half is zero. -/
theorem piece (z : FVec Ideal S256x1024 .f32) (r : Fin 256) (e : Fin 16) (h : Fin 1024 → EReal) (W : Fin 1024 → Fin 16 → EReal)
    (hh : ∀ k, z (ix2 r k) = h k) (hz : ∀ k, IsFin (h k)) (hw : ∀ k e, w (ix2 ⟨k.val, by omega⟩ ⟨e.val, by omega⟩) = W k e)
    (hl : ∀ (k : Fin 1024) (e : Fin 16), w (ix2 ⟨k.val, by omega⟩ ⟨128 + e.val, by omega⟩) = (0 : EReal)) :
    k0_pay16 (logits z w) (ix2 e r) = soft (fun e => lin h fun k => W k e) e := by
  rw [soft_apply, ninf_eq]
  refine soft_masked (fun e => lin h fun k => W k e) (fun x => logits z w (ix2 r x)) (fun l => ?_) e
  rw [logits_apply, keep]
  split_ifs with p
  · refine Eq.trans (b := lane h w l) ?_ ?_
    · exact congrArg (fun z => lane z w l) (funext hh)
    refine (halves h _ _ _ _ hz fun k => hl k ⟨l.val, p⟩).trans ?_
    exact congrArg (lin h) (funext fun k => hw k ⟨l.val, p⟩)
  · rfl

end Cert.Kernel4Ideal.Router

end
-- ==== Proof.Router.Block.lean ====
/- What one grid point of the output projection's kernel leaves in the affinities' block, element by element. -/
module

public import proofs.«01_k».proof.Proof.Mixout.Block
public import proofs.«01_k».proof.Proof.Router.Body

@[expose] public section

set_option maxRecDepth 16384

noncomputable section

namespace Cert.Kernel4Ideal.Router

open Cert.Kernel4Ideal Cert.Kernel4Ideal.Gen Idealize.ShloMosaic Idealize.ShloMosaic.TcCoe
open Cert.Kernel3Ideal.Mixout (lin resRow resAt resRow_ld)

variable (x0 : Vec Ideal S1024x512 .bf16) (x1 : Vec Ideal S4x1024x128 .f32) (x2 : Vec Ideal S1024x2048 .bf16) (x3 : Vec Ideal S1024x1024 .f32)
  (x4 : Vec Ideal S512x1024 .bf16) (x5 : Vec Ideal S512x2048 .bf16) (x6 : Vec Ideal S1024x1024 .bf16) (x7 : Vec Ideal S1x1024 .f32) (x8 : Vec Ideal S2048x256 .bf16)

theorem ld4 : View.ld x4 r0_1 = x4 := View.ld_unit_lit (h := by decide) ..
theorem ld5 : View.ld x5 r0_6 = x5 := View.ld_unit_lit (h := by decide) ..
theorem ld6 : View.ld x6 r0_9 = x6 := View.ld_unit_lit (h := by decide) ..
theorem ld7 : View.ld x7 r0_10 = x7 := View.ld_unit_lit (h := by decide) ..
theorem ld8 : View.ld x8 r0_11 = x8 := View.ld_unit_lit (h := by decide) ..

/-- The block's row `r`, normalised. -/
def rowAt (r k : Fin 1024) : EReal :=
  Cert.Kernel3Ideal.Mixout.norm (fun k => resAt x0 x1 x2 x3 x4 x5 x6 r k) (fun k => x7 (ix2 0 k)) k

/-- The affinities' block. -/
theorem out11_apply (e : Fin 16) (r : Fin 1024) (W : Fin 1024 → Fin 16 → EReal) (hg : ∀ k, IsFin (x7 (ix2 0 k)))
    (hw : ∀ k e, x8 (ix2 ⟨k.val, by omega⟩ ⟨e.val, by omega⟩) = W k e)
    (hl : ∀ (k : Fin 1024) (e : Fin 16), x8 (ix2 ⟨k.val, by omega⟩ ⟨128 + e.val, by omega⟩) = (0 : EReal)) :
    out0_11 x0 x1 x2 x3 x4 x5 x6 x7 x8 (ix2 e r) = soft (fun e => lin (rowAt x0 x1 x2 x3 x4 x5 x6 x7 r) fun k => W k e) e := by
  have hz : ∀ k, IsFin (rowAt x0 x1 x2 x3 x4 x5 x6 x7 r k) := fun k => norm_finite _ _ k (hg k)
  unfold_out out0_11
  rw [ld4, ld5, ld6, ld7, ld8]
  canon_tiles x h
  all_goals obtain ⟨d, a, rfl⟩ : ∃ (d : Fin 16) (a : Fin 256), x = ix2 d a := ⟨x 0, x 1, eq_ix2 x⟩
  all_goals obtain rfl : e = d := Fin.ext h0
  · rw [pay1_eq]
    refine piece _ _ a e _ W (fun k => ?_) hz hw hl
    rw [z30]
    exact congrArg (fun p => Cert.Kernel3Ideal.Mixout.norm p _ k) (funext fun k => resRow_ld x0 x1 x2 x3 x4 x5 x6 768 _ _ _ _ _ _ _ a r h1 k)
  · rw [pay25_eq]
    refine piece _ _ a e _ W (fun k => ?_) hz hw hl
    rw [z20]
    exact congrArg (fun p => Cert.Kernel3Ideal.Mixout.norm p _ k) (funext fun k => resRow_ld x0 x1 x2 x3 x4 x5 x6 512 _ _ _ _ _ _ _ a r h1 k)
  · rw [pay16_eq]
    refine piece _ _ a e _ W (fun k => ?_) hz hw hl
    rw [z13]
    exact congrArg (fun p => Cert.Kernel3Ideal.Mixout.norm p _ k) (funext fun k => resRow_ld x0 x1 x2 x3 x4 x5 x6 256 _ _ _ _ _ _ _ a r h1 k)
  · rw [pay10_eq]
    refine piece _ _ a e _ W (fun k => ?_) hz hw hl
    rw [z6]
    exact congrArg (fun p => Cert.Kernel3Ideal.Mixout.norm p _ k) (funext fun k => resRow_ld x0 x1 x2 x3 x4 x5 x6 0 _ _ _ _ _ _ _ a r (by rw [Nat.zero_add]; exact h1) k)

end Cert.Kernel4Ideal.Router

end
-- ==== Proof.Router.Weights.lean ====
/- The router's weights as the kernel reads them: the two halves padded and stacked by the host. -/
module

public import proofs.«01_k».proof.Proof.Router.Block

@[expose] public section

set_option maxRecDepth 16384

noncomputable section

namespace Cert.Kernel4Ideal.Router

open Cert.Kernel4Ideal Cert.Kernel4Ideal.Gen Idealize.ShloMosaic Idealize.ShloMosaic.TcCoe

/-- The weights' rows. -/
def flat (w : Vec Ideal S1x1024x16 .f32) : FVec Ideal S1024x16 .f32 := shapeCast S1024x16 w shapeCasts_S1x1024x16_S1024x16

/-- Sixteen columns padded to 128 lanes. -/
def padded (a : FVec Ideal S1024x16 .bf16) : FVec Ideal S1024x128 .bf16 :=
  pad S1024x128 ![0, 0] ![0, 112] ![0, 0] a (sitofp .bf16 (constantI S_ 32 0#32) : FVec Ideal S_ .bf16) pads_S1024x16_S1024x128_000_01120 h_S_

/-- The first half of the weights. -/
def hi (w : Vec Ideal S1x1024x16 .f32) : FVec Ideal S1024x16 .bf16 := truncf .bf16 (flat w) bitsLt_bf16_f32

/-- The second half: what the first leaves. -/
def lo (w : Vec Ideal S1x1024x16 .f32) : FVec Ideal S1024x16 .bf16 :=
  truncf .bf16 (subf (flat w) (extf .f32 (hi w) bitsLt_bf16_f32)) bitsLt_bf16_f32

/-- The first rows of the stacked weights: both halves side by side. -/
def wide (w : Vec Ideal S1x1024x16 .f32) : FVec Ideal S1024x256 .bf16 :=
  concatenate S1024x256 1 [⟨S1024x128, padded (hi w)⟩, ⟨S1024x128, padded (lo w)⟩] concatenates_S1024x128_S1024x128_S1024x256_d1

/-- The stacked weights. -/
def stacked (w : Vec Ideal S1x1024x16 .f32) : FVec Ideal S2048x256 .bf16 :=
  concatenate S2048x256 0 [⟨S1024x256, wide w⟩,
    ⟨S1024x256, (concatenate S1024x256 1 [⟨S1024x128, padded (hi w)⟩, ⟨S1024x128, (broadcastInDim S1024x128 ![] bcast_S_S1024x128 (constant S_ .bf16 0x0000#16) : FVec Ideal S1024x128 .bf16)⟩]
      concatenates_S1024x128_S1024x128_S1024x256_d1 : FVec Ideal S1024x256 .bf16)⟩] concatenates_S1024x256_S1024x256_S2048x256_d0

theorem padded_apply (a : FVec Ideal S1024x16 .bf16) (k : Fin 1024) (e : Fin 16) : padded a (ix2 k ⟨e.val, by omega⟩) = a (ix2 k e) := by
  pointwise [padded]

theorem hi_apply (w : Vec Ideal S1x1024x16 .f32) (k : Fin 1024) (e : Fin 16) : hi w (ix2 k e) = w (ix3 0 k e) := by
  pointwise [hi, flat]

theorem lo_apply (w : Vec Ideal S1x1024x16 .f32) (k : Fin 1024) (e : Fin 16) (h : IsFin (w (ix3 0 k e))) : lo w (ix2 k e) = (0 : EReal) := by
  refine Eq.trans (b := w (ix3 0 k e) - w (ix3 0 k e)) ?_ h.sub_self
  pointwise [lo, hi, flat]

theorem stacked_left (w : Vec Ideal S1x1024x16 .f32) (k : Fin 1024) (e : Fin 16) :
    stacked w (ix2 ⟨k.val, by omega⟩ ⟨e.val, by omega⟩) = w (ix3 0 k e) := by
  refine Eq.trans (b := padded (hi w) (ix2 k ⟨e.val, by omega⟩)) ?_ ((padded_apply _ k e).trans (hi_apply w k e))
  pointwise [stacked, wide]
  exact dif_pos (by omega)

theorem stacked_right (w : Vec Ideal S1x1024x16 .f32) (k : Fin 1024) (e : Fin 16) (h : IsFin (w (ix3 0 k e))) :
    stacked w (ix2 ⟨k.val, by omega⟩ ⟨128 + e.val, by omega⟩) = (0 : EReal) := by
  refine Eq.trans (b := padded (lo w) (ix2 k ⟨e.val, by omega⟩)) ?_ ((padded_apply _ k e).trans (lo_apply w k e h))
  pointwise [stacked, wide]

variable (m : (ℓ : Loc nD τ sig) → Buf (Elt Ideal) ℓ)

theorem weights_eq (c : Dev nD) : (V m c main_v11 : Vec Ideal S2048x256 .bf16) = stacked (m (c.tc.loc main_arg8)) := by
  simp only [V, hostOps0, hostOps0_1, hostOps0_2, hostOps0_3, hostOps0_4, hostOps0_5, hostOps0_6, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp
  rfl

end Cert.Kernel4Ideal.Router

end
-- ==== Proof.Router.Equation.lean ====
/- The affinities' array, entry by entry in the arguments. -/
module

public import proofs.«01_k».proof.Proof.Mixout.Equation
public import proofs.«01_k».proof.Proof.Router.Weights

@[expose] public section

set_option maxRecDepth 16384

noncomputable section

namespace Cert.Kernel4Ideal.Router

open Cert.Kernel4Ideal Cert.Kernel4Ideal.Gen Idealize.ShloMosaic Idealize.ShloMosaic.TcCoe
open Cert.Kernel3Ideal.Mixout (lin resAt resOf normOf)

/-- Expert `e`'s affinity for token `R`. -/
def affOf (f : Vec Ideal S32768x512 .bf16) (ys : Vec Ideal S4x32768x128 .f32) (gt : Vec Ideal S32768x2048 .bf16) (x : Vec Ideal S4x8192x1024 .f32)
    (wf : Vec Ideal S1x512x1024 .f32) (wg : Vec Ideal S1x512x2048 .f32) (wo : Vec Ideal S1x1024x1024 .f32) (g : Vec Ideal S1x1024 .f32)
    (w : Vec Ideal S1x1024x16 .f32) (e : Fin 16) (R : Fin 32768) : EReal :=
  soft (fun e => lin (fun k => normOf f ys gt x wf wg wo g R k) fun k => w (ix3 0 k e)) e

/-- Which block the weights' and the affinities' windows show at point `t`. -/
theorem idx : ∀ t : Fin grid0.N, win0_8.index t = ![0, 0] ∧ win0_11.index t = ![0, t.val] :=
  (by decide +kernel)

variable (m : (ℓ : Loc nD τ sig) → Buf (Elt Ideal) ℓ)

theorem read_w (c : Dev nD) (t : Fin cfg0.N) (j : Fin 2048) (l : Fin 256) :
    (iblk m c 8 t : Vec Ideal S2048x256 .bf16) (ix2 j l) = stacked (m (c.tc.loc main_arg8)) (ix2 j l) := by
  have e : (iblk m c 8 t : Vec Ideal S2048x256 .bf16) (ix2 j l) = (V m c main_v11 : Vec Ideal S2048x256 .bf16) (ix2 j l) := by
    blk_ext! [iblk, idx t]
  rw [e, weights_eq]

theorem read_g (c : Dev nD) (t : Fin cfg0.N) (j : Fin 1024) :
    (iblk m c 7 t : Vec Ideal S1x1024 .f32) (ix2 0 j) = (m (c.tc.loc main_arg7) : Vec Ideal S1x1024 .f32) (ix2 0 j) :=
  Cert.Kernel3Ideal.Mixout.read_g m c t j

/-- A block's row normalised, in the arguments. -/
theorem row_args (c : Dev nD) (t : Fin cfg0.N) (r k : Fin 1024) (R : Fin 32768) (h : t.val * 1024 + r.val = R.val) :
    rowAt (iblk m c 0 t) (iblk m c 1 t) (iblk m c 2 t) (iblk m c 3 t) (iblk m c 4 t) (iblk m c 5 t) (iblk m c 6 t) (iblk m c 7 t) r k
      = normOf (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) R k := by
  unfold rowAt normOf
  refine congrFun (congr (congrArg Cert.Kernel3Ideal.Mixout.norm (funext fun l => ?_)) (funext fun l => ?_)) k
  · exact Cert.Kernel3Ideal.Mixout.res_args m c t r l R h
  · exact read_g m c t l

/-- The affinities: the third result, when the norm's and the router's weights are finite. -/
theorem arr_aff (c : Dev nD) (hg : ∀ k, IsFin ((m (c.tc.loc main_arg7) : Vec Ideal S1x1024 .f32) (ix2 0 k)))
    (hw : ∀ k e, IsFin ((m (c.tc.loc main_arg8) : Vec Ideal S1x1024x16 .f32) (ix3 0 k e))) : (dats m 0 c).arrAt 11 cfg0.N
    = (fun i => affOf (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (i 0) (i 1) : Vec Ideal S16x32768 .f32) := by
  refine (dats m 0 c).arrAt_eq_of_covers 11 _ (by decide +kernel) fun t hf y => ?_
  blk_simp
  rw [after0_11]
  obtain ⟨e, r, rfl⟩ : ∃ (e : Fin 16) (r : Fin 1024), y = ix2 e r := ⟨y 0, y 1, eq_ix2 y⟩
  have ht : t.val < 32 := lt_of_lt_of_eq t.isLt N_0
  have E : (win0_11.blk t).view.emb (ix2 e r) = ix2 e ⟨t.val * 1024 + r.val, by omega⟩ := by
    blk_ext [idx t]
  rw [out11_apply _ _ _ _ _ _ _ _ _ e r (fun k e => (m (c.tc.loc main_arg8) : Vec Ideal S1x1024x16 .f32) (ix3 0 k e))
    (fun k => by rw [read_g]; exact hg k) (fun k e => by rw [read_w]; exact stacked_left _ k e) (fun k e => by rw [read_w]; exact stacked_right _ k e (hw k e)), E]
  exact congrArg (fun z : Fin 1024 → EReal => soft (fun e => lin z fun k => (m (c.tc.loc main_arg8) : Vec Ideal S1x1024x16 .f32) (ix3 0 k e)) e)
    (funext fun k => row_args m c t r k ⟨t.val * 1024 + r.val, by omega⟩ rfl)

end Cert.Kernel4Ideal.Router

end
-- ==== Proof.Router.Plain.lean ====
/- The reference's affinities, entry by entry: the same softmax of the same products. -/
module

public import proofs.«01_k».proof.Proof.Mixout.Plain
public import proofs.«01_k».proof.Proof.Router.Equation
public import proofs.«01_k».proof.Proof.Gen.Reference4Ideal.Run

@[expose] public section

set_option maxRecDepth 16384

noncomputable section

namespace Cert.Reference4Ideal.Router

open Cert.Reference4Ideal Cert.Reference4Ideal.Gen Idealize.ShloMosaic Idealize.ShloMosaic.TcCoe
open Cert.Kernel3Ideal.Mixout (lin normOf)
open Cert.Kernel4Ideal.Router (soft affOf ninf_eq)

/-- The products of all tokens with the router's weights. -/
def logitsAll (h : FVec Ideal S32768x1024 .f32) (w : Vec Ideal S1x1024x16 .f32) : FVec Ideal S32768x16 .f32 :=
  Host.dotGeneral dot_S32768x1024_S1024x16_S32768x16_1_0_0_1_n_n none h (shapeCast _ w shapeCasts_S1x1024x16_S1024x16 : FVec Ideal S1024x16 .f32)

theorem logits_apply (h : FVec Ideal S32768x1024 .f32) (w : Vec Ideal S1x1024x16 .f32) (R : Fin 32768) (e : Fin 16) :
    logitsAll h w (ix2 R e) = lin (fun k => h (ix2 R k)) fun k => w (ix3 0 k e) := by
  pointwise [logitsAll, lin]

/-- The exponentials of the logits less their row's maximum. -/
def expAll (v : FVec Ideal S32768x16 .f32) : FVec Ideal S32768x16 .f32 :=
  Host.exp (subf v (broadcastInDim S32768x16 ![0, 1] bcast_S32768x1_S32768x16_0_1 (broadcastInDim S32768x1 ![0] bcast_S32768_S32768x1_0 (maximumf (broadcastInDim S32768 ![] bcast_S_S32768 (constant S_ .f32 0xFF800000#32)) (Host.reduce FloatOps.maximumf v (constant S_ .f32 0xFF800000#32) reducesTo_S32768x16_S32768_d1 h_S_)))))

/-- The softmax of every row, turned into one row for each expert. -/
def softAll (v : FVec Ideal S32768x16 .f32) : FVec Ideal S16x32768 .f32 :=
  transpose S16x32768 [1, 0] (Host.divf (expAll v) (broadcastInDim S32768x16 ![0, 1] bcast_S32768x1_S32768x16_0_1 (broadcastInDim S32768x1 ![0] bcast_S32768_S32768x1_0 (Host.reduceAdd (expAll v) (constant S_ .f32 0x00000000#32) reducesTo_S32768x16_S32768_d1 h_S_)))) transposes_S32768x16_S16x32768_1_0

theorem exp_apply (v : FVec Ideal S32768x16 .f32) (R : Fin 32768) (e : Fin 16) :
    expAll v (ix2 R e) = Ideal.exp (v (ix2 R e) - Finset.fold max ⊥ (fun e => v (ix2 R e)) Finset.univ) := by
  refine Eq.trans (b := Ideal.exp (v (ix2 R e) - max (Ideal.ofBits .f32 0xFF800000#32) (Finset.fold max (Ideal.ofBits .f32 0xFF800000#32) (fun e => v (ix2 R e)) Finset.univ))) ?_ ?_
  · pointwise [expAll]
  · rw [ninf_eq, max_eq_right bot_le]

theorem soft_apply (v : FVec Ideal S32768x16 .f32) (R : Fin 32768) (e : Fin 16) : softAll v (ix2 e R) = soft (fun e => v (ix2 R e)) e := by
  unfold soft
  pointwise [softAll, exp_apply]

/-- The affinities as a whole array. -/
theorem aff_eq (f : Vec Ideal S32768x512 .bf16) (ys : Vec Ideal S4x32768x128 .f32) (gt : Vec Ideal S32768x2048 .bf16) (x : Vec Ideal S4x8192x1024 .f32)
    (wf : Vec Ideal S1x512x1024 .f32) (wg : Vec Ideal S1x512x2048 .f32) (wo : Vec Ideal S1x1024x1024 .f32) (g : Vec Ideal S1x1024 .f32) (w : Vec Ideal S1x1024x16 .f32) :
    softAll (logitsAll (Cert.Reference3Ideal.Mixout.normAll (Cert.Reference3Ideal.Mixout.resAll f ys gt x wf wg wo) g : FVec Ideal S32768x1024 .bf16) w)
      = (fun i => affOf f ys gt x wf wg wo g w (i 0) (i 1) : Vec Ideal S16x32768 .f32) := by
  funext i
  obtain ⟨e, R, rfl⟩ : ∃ (e : Fin 16) (R : Fin 32768), i = ix2 e R := ⟨i 0, i 1, eq_ix2 i⟩
  rw [soft_apply, Cert.Reference3Ideal.Mixout.h2_eq]
  exact congrArg (fun L => soft L e) (funext fun e => logits_apply _ w R e)

/-- The generated term is the one above. -/
theorem term_aff (m : (ℓ : Loc nD τ sig) → Buf (Elt Ideal) ℓ) (c : Dev nD) :
    Value.res_main_v53 m c = softAll (logitsAll (Cert.Reference3Ideal.Mixout.normAll (Cert.Reference3Ideal.Mixout.resAll (m (c.tc.loc main_arg0)) (m (c.tc.loc main_arg1)) (m (c.tc.loc main_arg2)) (m (c.tc.loc main_arg3)) (m (c.tc.loc main_arg4)) (m (c.tc.loc main_arg5)) (m (c.tc.loc main_arg6))) (m (c.tc.loc main_arg7)) : FVec Ideal S32768x1024 .bf16) (m (c.tc.loc main_arg8))) := rfl

end Cert.Reference4Ideal.Router

end
-- ==== Proof.Router.Finite.lean ====
/- What the precondition says: the norm's scales and the router's weights are finite. -/
module

public import proofs.«01_k».proof.Defs
public import proofs.«01_k».proof.Proof.Router.Soft
public import proofs.«01_k».proof.Proof.Gen.Pre_weights_finite
public import Idealize.ShloMosaic.Lib.ReduceAll

@[expose] public section

noncomputable section

namespace Cert.Kernel4Ideal.Router

open Cert.Pre_weights_finite Idealize.ShloMosaic Idealize.ShloMosaic.TcCoe

attribute [local instance] Cert.Pre_weights_finite.Gen.facts

/-- A number whose magnitude is below +∞ is finite. -/
theorem of_below {x : EReal} (h : Ideal.cmp .olt (max x (-x)) (Ideal.ofBits .f32 0x7F800000#32) = 1#1) : IsFin x := by
  have e : Ideal.ofBits .f32 0x7F800000#32 = (⊤ : EReal) := by simp [Ideal.ofBits, Ideal.ieee]
  rw [e] at h
  refine ⟨fun hx => ?_, fun hx => ?_⟩ <;> subst hx <;> simp [Ideal.cmp] at h

variable {a0 : FVec Ideal S32768x512 .bf16} {a1 : FVec Ideal S4x32768x128 .f32} {a2 : FVec Ideal S32768x2048 .bf16} {a3 : FVec Ideal S4x8192x1024 .f32}
  {a4 : FVec Ideal S1x512x1024 .f32} {a5 : FVec Ideal S1x512x2048 .f32} {a6 : FVec Ideal S1x1024x1024 .f32} {g : FVec Ideal S1x1024 .f32} {w : FVec Ideal S1x1024x16 .f32}

instance : Subsingleton S_.Idx := ⟨fun a b => funext fun i => i.elim0⟩

theorem both (h : fn (F := Ideal) a0 a1 a2 a3 a4 a5 a6 g w = fun _ => 1#1) : (∀ i, IsFin (g i)) ∧ ∀ i, IsFin (w i) := by
  have e := congrFun h (fun i => i.elim0)
  obtain ⟨p, q⟩ := IntOp.andi_eq_one.1 e
  exact ⟨fun i => of_below (Host.reduce_andi_all _ _ _ _ _ p i), fun i => of_below (Host.reduce_andi_all _ _ _ _ _ q i)⟩

theorem scale_finite (h : fn (F := Ideal) a0 a1 a2 a3 a4 a5 a6 g w = fun _ => 1#1) (k : Fin 1024) : IsFin (g (ix2 0 k)) := (both h).1 _

theorem router_finite (h : fn (F := Ideal) a0 a1 a2 a3 a4 a5 a6 g w = fun _ => 1#1) (k : Fin 1024) (e : Fin 16) : IsFin (w (ix3 0 k e)) := (both h).2 _

end Cert.Kernel4Ideal.Router

end
-- ==== Proof.Ffn.Step.lean ====
/- One grid point of the feed-forward kernel, read element by element: what it adds to the accumulator. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Ffn

open Cert.KernelIdeal Cert.KernelIdeal.Gen Idealize.ShloMosaic Idealize.ShloMosaic.TcCoe

/-- One hidden unit: the gate `g` through SiLU, times the up-projection `u`. -/
def act (g u : EReal) : EReal := g * Ideal.logistic g * u

/-- What one block of 256 hidden units adds to output element `(b, c, d)` of the pair of sequences in `x`. -/
def part (x : Vec Ideal S2x1x1024x1024 .bf16) (wg wu : Vec Ideal S1x1024x256 .f32) (wd : Vec Ideal S1x256x1024 .f32)
    (b : Fin 2) (c d : Fin 1024) : EReal :=
  ∑ k : Fin 256, act (∑ j : Fin 1024, x (ix4 b 0 c j) * wg (ix3 0 j k)) (∑ j : Fin 1024, x (ix4 b 0 c j) * wu (ix3 0 j k))
    * wd (ix3 0 k d)

/-- The first 1024 rows: the payload of the first store. -/
theorem pay7_apply (wg wu : Vec Ideal S1x1024x256 .f32) (wd : Vec Ideal S1x256x1024 .f32) (x : Vec Ideal S1x1x1024x1024 .bf16)
    (a : Vec Ideal S1024x1024 .f32) (c d : Fin 1024) :
    k0_pay7 wg wu wd x a (ix2 c d) = a (ix2 c d) + ∑ k : Fin 256,
      act (∑ j : Fin 1024, x (ix4 0 0 c j) * wg (ix3 0 j k)) (∑ j : Fin 1024, x (ix4 0 0 c j) * wu (ix3 0 j k)) * wd (ix3 0 k d) := by
  pointwise [k0_pay7, k0_pay4, k0_pay5, k0_pay6]
  rfl

/-- The last 1024 rows: the payload of the second store. -/
theorem pay1_apply (wg wu : Vec Ideal S1x1024x256 .f32) (wd : Vec Ideal S1x256x1024 .f32) (x : Vec Ideal S1x1x1024x1024 .bf16)
    (a : Vec Ideal S1024x1024 .f32) (c d : Fin 1024) :
    k0_pay1 (k0_pay4 wg) (k0_pay5 wu) (k0_pay6 wd) (k0_pay8 x) (constant S1024x256 .f32 0x00000000#32) a (ix2 c d)
      = a (ix2 c d) + ∑ k : Fin 256,
      act (∑ j : Fin 1024, x (ix4 0 0 c j) * wg (ix3 0 j k)) (∑ j : Fin 1024, x (ix4 0 0 c j) * wu (ix3 0 j k)) * wd (ix3 0 k d) := by
  pointwise [k0_pay1, k0_pay4, k0_pay5, k0_pay6, k0_pay8]
  rfl

/-- Row `r` of the accumulator is row `r % 1024` of sequence `r / 1024` of the pair. -/
abbrev rowB (r : Fin 2048) : Fin 2 := ⟨r.val / 1024, by omega⟩
abbrev rowC (r : Fin 2048) : Fin 1024 := ⟨r.val % 1024, by omega⟩

/-- What the last point of a run writes back: the accumulator's row times the row's weight. -/
theorem pay2_apply (a : Vec Ideal S2048x1024 .f32) (v : Vec Ideal S2x1x1024x1 .f32) (b : Fin 2) (c d : Fin 1024) :
    k0_pay2 a v (ix4 b 0 c d) = a (ix2 ⟨b.val * 1024 + c.val, by omega⟩ d) * v (ix4 b 0 c 0) := by
  pointwise [k0_pay2]

/-- The accumulator after a point: what it held, plus the block's part. -/
def accum (x0 : Vec Ideal S2x1x1024x1024 .bf16) (x2 x3 : Vec Ideal S1x1024x256 .f32) (x4 : Vec Ideal S1x256x1024 .f32)
    (xs0 : Vec Ideal S2048x1024 .f32) : Vec Ideal S2048x1024 .f32 :=
  fun y => xs0 y + part x0 x2 x3 x4 (rowB (y 0)) (rowC (y 0)) (y 1)

/-- The two stores of a point are the two halves of `accum`. -/
theorem stores_pieces (x0 : Vec Ideal S2x1x1024x1024 .bf16) (x2 x3 : Vec Ideal S1x1024x256 .f32) (x4 : Vec Ideal S1x256x1024 .f32)
    (xs0 : Vec Ideal S2048x1024 .f32) :
    View.PiecesOf (Val := Elt Ideal) (s := S2048x1024) (e := .f32) (accum x0 x2 x3 x4 xs0)
      [⟨Rect.unit ![1024, 0] ![1024, 1024] inb_S2048x1024_S1024x1024_1024_0,
          k0_pay1 (k0_pay4 x2) (k0_pay5 x3) (k0_pay6 x4)
            (k0_pay8 (View.ld x0 (Rect.unit ![1, 0, 0, 0] ![1, 1, 1024, 1024] inb_S2x1x1024x1024_S1x1x1024x1024_1_0_0_0)))
            (constant S1024x256 FTy.f32 0#32)
            (View.ld xs0 (Rect.unit ![1024, 0] ![1024, 1024] inb_S2048x1024_S1024x1024_1024_0))⟩,
        ⟨Rect.unit ![0, 0] ![1024, 1024] inb_S2048x1024_S1024x1024_0_0,
          k0_pay7 x2 x3 x4 (View.ld x0 (Rect.unit ![0, 0, 0, 0] ![1, 1, 1024, 1024] inb_S2x1x1024x1024_S1x1x1024x1024_0_0_0_0))
            (View.ld xs0 (Rect.unit ![0, 0] ![1024, 1024] inb_S2048x1024_S1024x1024_0_0))⟩] := by
  refine ⟨fun x => ?_, fun x => ?_, trivial⟩
  · obtain ⟨c, d, rfl⟩ : ∃ (c d : Fin 1024), x = ix2 c d := ⟨x 0, x 1, eq_ix2 x⟩
    refine (pay1_apply ..).trans ?_
    have e : (Rect.unit (s := S2048x1024) ![1024, 0] ![1024, 1024] inb_S2048x1024_S1024x1024_1024_0).emb (ix2 c d) = ix2 ⟨1024 + c.val, by omega⟩ d := by
      blk_ext
    have hb : rowB ⟨1024 + c.val, by omega⟩ = 1 := Fin.ext (by show (1024 + c.val) / 1024 = 1; omega)
    have hc : rowC ⟨1024 + c.val, by omega⟩ = c := Fin.ext (by show (1024 + c.val) % 1024 = c.val; omega)
    unfold accum
    rw [e]
    show _ = xs0 _ + part x0 x2 x3 x4 (rowB ⟨1024 + c.val, by omega⟩) (rowC ⟨1024 + c.val, by omega⟩) d
    rw [hb, hc]
    unfold part
    pointwise
  · obtain ⟨c, d, rfl⟩ : ∃ (c d : Fin 1024), x = ix2 c d := ⟨x 0, x 1, eq_ix2 x⟩
    refine (pay7_apply ..).trans ?_
    have e : (Rect.unit (s := S2048x1024) ![0, 0] ![1024, 1024] inb_S2048x1024_S1024x1024_0_0).emb (ix2 c d) = ix2 ⟨c.val, by omega⟩ d := by
      blk_ext
    have hb : rowB ⟨c.val, by omega⟩ = 0 := Fin.ext (by show c.val / 1024 = 0; omega)
    have hc : rowC ⟨c.val, by omega⟩ = c := Fin.ext (by show c.val % 1024 = c.val; omega)
    unfold accum
    rw [e]
    show _ = xs0 _ + part x0 x2 x3 x4 (rowB ⟨c.val, by omega⟩) (rowC ⟨c.val, by omega⟩) d
    rw [hb, hc]
    unfold part
    pointwise

/-- The two stores cover the accumulator, whatever was stored before. -/
theorem stores_eq (x0 : Vec Ideal S2x1x1024x1024 .bf16) (x2 x3 : Vec Ideal S1x1024x256 .f32) (x4 : Vec Ideal S1x256x1024 .f32)
    (xs0 : Vec Ideal S2048x1024 .f32) (T : List (View.Piece (Elt Ideal) S2048x1024 .f32)) (y : S2048x1024.Idx) :
    View.canon (Val := Elt Ideal) (s := S2048x1024) (e := .f32)
      (⟨Rect.unit ![1024, 0] ![1024, 1024] inb_S2048x1024_S1024x1024_1024_0,
          k0_pay1 (k0_pay4 x2) (k0_pay5 x3) (k0_pay6 x4)
            (k0_pay8 (View.ld x0 (Rect.unit ![1, 0, 0, 0] ![1, 1, 1024, 1024] inb_S2x1x1024x1024_S1x1x1024x1024_1_0_0_0)))
            (constant S1024x256 FTy.f32 0#32)
            (View.ld xs0 (Rect.unit ![1024, 0] ![1024, 1024] inb_S2048x1024_S1024x1024_1024_0))⟩ ::
        ⟨Rect.unit ![0, 0] ![1024, 1024] inb_S2048x1024_S1024x1024_0_0,
          k0_pay7 x2 x3 x4 (View.ld x0 (Rect.unit ![0, 0, 0, 0] ![1, 1, 1024, 1024] inb_S2x1x1024x1024_S1x1x1024x1024_0_0_0_0))
            (View.ld xs0 (Rect.unit ![0, 0] ![1024, 1024] inb_S2048x1024_S1024x1024_0_0))⟩ :: T) y
      = accum x0 x2 x3 x4 xs0 y := by
  refine View.canon_append_of_piecesOf _ T [_, _] (stores_pieces x0 x2 x3 x4 xs0) y ?_
  have h0 : (y 0).val < 2048 := (y 0).isLt
  have h1 : (y 1).val < 1024 := (y 1).isLt
  by_cases h : (y 0).val < 1024
  · refine ⟨_, List.mem_cons_of_mem _ List.mem_cons_self, (?_ : y ∈ (Rect.unit (s := S2048x1024) ![0, 0] ![1024, 1024] inb_S2048x1024_S1024x1024_0_0).set)⟩
    refine Rect.mem_set_unit.mpr fun a => ?_
    match a with
    | ⟨0, _⟩ => exact ⟨Nat.zero_le _, by show (y 0).val < 0 + 1024; omega⟩
    | ⟨1, _⟩ => exact ⟨Nat.zero_le _, by show (y 1).val < 0 + 1024; omega⟩
  · refine ⟨_, List.mem_cons_self, (?_ : y ∈ (Rect.unit (s := S2048x1024) ![1024, 0] ![1024, 1024] inb_S2048x1024_S1024x1024_1024_0).set)⟩
    refine Rect.mem_set_unit.mpr fun a => ?_
    match a with
    | ⟨0, _⟩ => exact ⟨by show 1024 ≤ (y 0).val; omega, by show (y 0).val < 1024 + 1024; omega⟩
    | ⟨1, _⟩ => exact ⟨Nat.zero_le _, by show (y 1).val < 0 + 1024; omega⟩

/-- A point in the middle of a run adds its block's part to every element of the accumulator. -/
theorem sout_B (c : Dev nD) (i : grid0.Coords) (arg3 : Memref sig .tc .vmem S2x1x1024x1024 .bf16) (harg3 : arg3.IsWhole) (arg4 : Memref sig .tc .vmem S2x1x1024x1 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x256x1024 .f32) (harg7 : arg7.IsWhole) (arg8 : Memref sig .tc .vmem S2x1x1024x1024 .bf16) (harg8 : arg8.IsWhole) (arg9 : Memref sig .tc .vmem S2048x1024 .f32) (harg9 : arg9.IsWhole) (hc0 : ¬cond0_0 i) (hc1 : ¬cond0_1 i)
    (x0 : Vec Ideal S2x1x1024x1024 .bf16) (x1 : Vec Ideal S2x1x1024x1 .f32) (x2 : Vec Ideal S1x1024x256 .f32) (x3 : Vec Ideal S1x1024x256 .f32) (x4 : Vec Ideal S1x256x1024 .f32) (xs0 : Vec Ideal S2048x1024 .f32) (r : Fin 2048) (d : Fin 1024) :
    sout0_B_0 c i arg3 harg3 arg4 harg4 arg5 harg5 arg6 harg6 arg7 harg7 arg8 harg8 arg9 harg9 hc0 hc1 x0 x1 x2 x3 x4 xs0 (ix2 r d)
      = xs0 (ix2 r d) + part x0 x2 x3 x4 (rowB r) (rowC r) d := by
  frame_out
  exact stores_eq ..

/-- So does the last point of a run. -/
theorem sout_C (c : Dev nD) (i : grid0.Coords) (arg3 : Memref sig .tc .vmem S2x1x1024x1024 .bf16) (harg3 : arg3.IsWhole) (arg4 : Memref sig .tc .vmem S2x1x1024x1 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x256x1024 .f32) (harg7 : arg7.IsWhole) (arg8 : Memref sig .tc .vmem S2x1x1024x1024 .bf16) (harg8 : arg8.IsWhole) (arg9 : Memref sig .tc .vmem S2048x1024 .f32) (harg9 : arg9.IsWhole) (hc0 : ¬cond0_0 i) (hc1 : cond0_1 i)
    (x0 : Vec Ideal S2x1x1024x1024 .bf16) (x1 : Vec Ideal S2x1x1024x1 .f32) (x2 : Vec Ideal S1x1024x256 .f32) (x3 : Vec Ideal S1x1024x256 .f32) (x4 : Vec Ideal S1x256x1024 .f32) (xs0 : Vec Ideal S2048x1024 .f32) (r : Fin 2048) (d : Fin 1024) :
    sout0_C_0 c i arg3 harg3 arg4 harg4 arg5 harg5 arg6 harg6 arg7 harg7 arg8 harg8 arg9 harg9 hc0 hc1 x0 x1 x2 x3 x4 xs0 (ix2 r d)
      = xs0 (ix2 r d) + part x0 x2 x3 x4 (rowB r) (rowC r) d := by
  frame_out
  exact stores_eq ..

/-- The first point of a run starts from zero. -/
theorem sout_A (c : Dev nD) (i : grid0.Coords) (arg3 : Memref sig .tc .vmem S2x1x1024x1024 .bf16) (harg3 : arg3.IsWhole) (arg4 : Memref sig .tc .vmem S2x1x1024x1 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x256x1024 .f32) (harg7 : arg7.IsWhole) (arg8 : Memref sig .tc .vmem S2x1x1024x1024 .bf16) (harg8 : arg8.IsWhole) (arg9 : Memref sig .tc .vmem S2048x1024 .f32) (harg9 : arg9.IsWhole) (hc0 : cond0_0 i) (hc1 : ¬cond0_1 i)
    (x0 : Vec Ideal S2x1x1024x1024 .bf16) (x1 : Vec Ideal S2x1x1024x1 .f32) (x2 : Vec Ideal S1x1024x256 .f32) (x3 : Vec Ideal S1x1024x256 .f32) (x4 : Vec Ideal S1x256x1024 .f32) (r : Fin 2048) (d : Fin 1024) :
    sout0_A_0 c i arg3 harg3 arg4 harg4 arg5 harg5 arg6 harg6 arg7 harg7 arg8 harg8 arg9 harg9 hc0 hc1 x0 x1 x2 x3 x4 (ix2 r d)
      = part x0 x2 x3 x4 (rowB r) (rowC r) d := by
  frame_open
  simp (disch := decide) only [↓ View.readCov_skip, ↓ View.readCov_cons_toLoadRect, ↓ View.readCov_fill]
  frame_out
  have hz : (k0_pay3 : FVec Ideal S2048x1024 .f32) (ix2 r d) = 0 := by pointwise [k0_pay3]
  generalize (k0_pay3 : FVec Ideal S2048x1024 .f32) = z at hz ⊢
  rw [stores_eq x0 x2 x3 x4 z]
  show z (ix2 r d) + _ = _
  rw [hz, zero_add]
  rfl

/-- The last point of a run writes back the finished accumulator, each row times its weight. -/
theorem out_C (c : Dev nD) (i : grid0.Coords) (arg3 : Memref sig .tc .vmem S2x1x1024x1024 .bf16) (harg3 : arg3.IsWhole) (arg4 : Memref sig .tc .vmem S2x1x1024x1 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x256x1024 .f32) (harg7 : arg7.IsWhole) (arg8 : Memref sig .tc .vmem S2x1x1024x1024 .bf16) (harg8 : arg8.IsWhole) (arg9 : Memref sig .tc .vmem S2048x1024 .f32) (harg9 : arg9.IsWhole) (hc0 : ¬cond0_0 i) (hc1 : cond0_1 i)
    (x0 : Vec Ideal S2x1x1024x1024 .bf16) (x1 : Vec Ideal S2x1x1024x1 .f32) (x2 : Vec Ideal S1x1024x256 .f32) (x3 : Vec Ideal S1x1024x256 .f32) (x4 : Vec Ideal S1x256x1024 .f32) (xs0 : Vec Ideal S2048x1024 .f32) (b : Fin 2) (r d : Fin 1024) :
    out0_C_5 c i arg3 harg3 arg4 harg4 arg5 harg5 arg6 harg6 arg7 harg7 arg8 harg8 arg9 harg9 hc0 hc1 x0 x1 x2 x3 x4 xs0 (ix4 b 0 r d)
      = (xs0 (ix2 ⟨b.val * 1024 + r.val, by omega⟩ d) + part x0 x2 x3 x4 b r d) * x1 (ix4 b 0 r 0) := by
  frame_out
  refine (pay2_apply ..).trans ?_
  rw [View.readCov_eq_canon']
  dsimp only
  have he : (Rect.unit (s := S2048x1024) ![0, 0] ![2048, 1024] inb_S2048x1024_S2048x1024_0_0).emb (ix2 ⟨b.val * 1024 + r.val, by omega⟩ d)
      = ix2 ⟨b.val * 1024 + r.val, by omega⟩ d := by blk_ext
  rw [show (Rect.unit (s := S2048x1024) ![0, 0] ![2048, 1024] inb_S2048x1024_S2048x1024_0_0).toLoadRect.idx (ix2 ⟨b.val * 1024 + r.val, by omega⟩ d)
    = ix2 ⟨b.val * 1024 + r.val, by omega⟩ d from he, stores_eq]
  unfold accum
  have hb : rowB ⟨b.val * 1024 + r.val, by omega⟩ = b := Fin.ext (by show (b.val * 1024 + r.val) / 1024 = b.val; omega)
  have hc : rowC ⟨b.val * 1024 + r.val, by omega⟩ = r := Fin.ext (by show (b.val * 1024 + r.val) % 1024 = r.val; omega)
  show (_ + part x0 x2 x3 x4 (rowB ⟨b.val * 1024 + r.val, by omega⟩) (rowC ⟨b.val * 1024 + r.val, by omega⟩) d) * _ = _
  rw [hb, hc]

end Cert.KernelIdeal.Ffn

end
-- ==== Proof.Ffn.Fold.lean ====
/- The accumulator over a run of eleven grid points, and the result array in terms of the input blocks. -/
module

public import proofs.«01_k».proof.Proof.Ffn.Step

@[expose] public section

set_option maxRecDepth 16384

noncomputable section

namespace Cert.KernelIdeal.Ffn

open Cert.KernelIdeal Cert.KernelIdeal.Gen Idealize.ShloMosaic Idealize.ShloMosaic.TcCoe

variable (m : (ℓ : Loc nD τ sig) → Buf (Elt Ideal) ℓ)

/-- What point `t` adds at row `r`, column `d` of the accumulator. -/
def partAt (c : Dev nD) (t : Fin cfg0.N) (y : S2048x1024.Idx) : EReal :=
  part (iblk m c 0 t) (iblk m c 2 t) (iblk m c 3 t) (iblk m c 4 t) (rowB (y 0)) (rowC (y 0)) (y 1)

/-- The same with the row and the column written out. -/
theorem partAt_ix2 (c : Dev nD) (t : Fin cfg0.N) (r : Fin 2048) (d : Fin 1024) :
    partAt m c t (ix2 r d) = part (iblk m c 0 t) (iblk m c 2 t) (iblk m c 3 t) (iblk m c 4 t) (rowB r) (rowC r) d := rfl

/-- At a run's first point the accumulator holds that point's part alone. -/
theorem acc_first (c : Dev nD) (t : Fin cfg0.N) (h : t.val % 11 = 0) (y : S2048x1024.Idx) :
    (outsAt0 m c t.val t.isLt).2 y = 0 + partAt m c t y := by
  obtain ⟨r, d, rfl⟩ : ∃ (r : Fin 2048) (d : Fin 1024), y = ix2 r d := ⟨y 0, y 1, eq_ix2 y⟩
  rw [outsAt0_A m c t h (by omega), zero_add]
  dsimp only
  rw [sout_A, partAt_ix2]

/-- At every other point it holds what the point before left, plus the point's part. -/
theorem acc_next (c : Dev nD) (t : Fin cfg0.N) (h : ¬t.val % 11 = 0) (y : S2048x1024.Idx) :
    (outsAt0 m c t.val t.isLt).2 y
      = (outsAt0 m c (t.val - 1) (Nat.lt_of_le_of_lt (Nat.sub_le _ _) t.isLt)).2 y + partAt m c t y := by
  obtain ⟨r, d, rfl⟩ : ∃ (r : Fin 2048) (d : Fin 1024), y = ix2 r d := ⟨y 0, y 1, eq_ix2 y⟩
  by_cases h1 : t.val % 11 = 10
  · rw [outsAt0_C m c t h h1, partAt_ix2]
    dsimp only
    rw [sout_C]
  · rw [outsAt0_B m c t h h1, partAt_ix2]
    dsimp only
    rw [sout_B]

/-- At a run's last point it holds the sum of the eleven parts. -/
theorem acc_last (c : Dev nD) (t : Fin cfg0.N) (h : t.val % 11 = 10) (y : S2048x1024.Idx) :
    (outsAt0 m c t.val t.isLt).2 y
      = ∑ s : Fin 11, partAt m c ⟨11 * (t.val / 11) + s.val, Pipeline.run_point_lt_of_flush t h s⟩ y := by
  rw [Pipeline.eq_sum_fin_of_reset_step_apply_of_flush (fun n hn => (outsAt0 m c n hn).2) 11 (fun _ => (0 : EReal)) (partAt m c)
    (acc_first m c) (acc_next m c) t h y, zero_add]

/-- What a run's last point writes back: the sum of the eleven parts, times the row's weight. -/
theorem out_last (c : Dev nD) (t : Fin cfg0.N) (h : t.val % 11 = 10) (b : Fin 2) (r d : Fin 1024) :
    (outsAt0 m c t.val t.isLt).1 (ix4 b 0 r d)
      = (∑ s : Fin 11, part (iblk m c 0 ⟨11 * (t.val / 11) + s.val, Pipeline.run_point_lt_of_flush t h s⟩)
          (iblk m c 2 ⟨11 * (t.val / 11) + s.val, Pipeline.run_point_lt_of_flush t h s⟩)
          (iblk m c 3 ⟨11 * (t.val / 11) + s.val, Pipeline.run_point_lt_of_flush t h s⟩)
          (iblk m c 4 ⟨11 * (t.val / 11) + s.val, Pipeline.run_point_lt_of_flush t h s⟩) b r d) * iblk m c 1 t (ix4 b 0 r 0) := by
  have hacc := acc_last m c t h (ix2 ⟨b.val * 1024 + r.val, by omega⟩ d)
  have hb : rowB ⟨b.val * 1024 + r.val, by omega⟩ = b := Fin.ext (by show (b.val * 1024 + r.val) / 1024 = b.val; omega)
  have hc : rowC ⟨b.val * 1024 + r.val, by omega⟩ = r := Fin.ext (by show (b.val * 1024 + r.val) % 1024 = r.val; omega)
  have hn := acc_next m c t (by omega) (ix2 ⟨b.val * 1024 + r.val, by omega⟩ d)
  rw [hn] at hacc
  unfold partAt at hacc
  have hsimp : ∀ u : Fin cfg0.N, part (iblk m c 0 u) (iblk m c 2 u) (iblk m c 3 u) (iblk m c 4 u)
      (rowB ((ix2 ⟨b.val * 1024 + r.val, by omega⟩ d : S2048x1024.Idx) 0)) (rowC ((ix2 ⟨b.val * 1024 + r.val, by omega⟩ d : S2048x1024.Idx) 0))
      ((ix2 ⟨b.val * 1024 + r.val, by omega⟩ d : S2048x1024.Idx) 1)
      = part (iblk m c 0 u) (iblk m c 2 u) (iblk m c 3 u) (iblk m c 4 u) b r d := fun u => by
    show part _ _ _ _ (rowB ⟨b.val * 1024 + r.val, by omega⟩) (rowC ⟨b.val * 1024 + r.val, by omega⟩) d = _
    rw [hb, hc]
  simp only [hsimp] at hacc
  rw [← hacc, outsAt0_C m c t (by omega) h]
  dsimp only
  rw [out_C]

end Cert.KernelIdeal.Ffn

end
-- ==== Proof.Ffn.Equation.lean ====
/- The two programs' results at an index, both as one plain expression in the arguments. -/
module

public import proofs.«01_k».proof.Proof.Ffn.Fold
public import proofs.«01_k».proof.Proof.Gen.ReferenceIdeal.Run

@[expose] public section

set_option maxRecDepth 16384

noncomputable section

namespace Cert.KernelIdeal.Ffn

open Cert.KernelIdeal Cert.KernelIdeal.Gen Idealize.ShloMosaic Idealize.ShloMosaic.TcCoe

/-- One entry of the experts' feed-forward: example `b`, expert `e`, gathered row `r`, output feature `d`. -/
def ffnAt (x : Vec Ideal S4x16x1024x1024 .bf16) (v : Vec Ideal S4x16x1024x1 .f32) (wg wu : Vec Ideal S1x16x1024x2816 .f32)
    (wd : Vec Ideal S1x16x2816x1024 .f32) (b : Fin 4) (e : Fin 16) (r d : Fin 1024) : EReal :=
  (∑ l : Fin 2816, act (∑ j : Fin 1024, x (ix4 b e r j) * wg (ix4 0 e j l)) (∑ j : Fin 1024, x (ix4 b e r j) * wu (ix4 0 e j l))
    * wd (ix4 0 e l d)) * v (ix4 b e r 0)

/-- Which block each operand's window shows at point `t`: expert `t / 22`, pair of examples `t / 11 % 2`, hidden chunk `t % 11`. -/
theorem idx : ∀ t : Fin grid0.N, win0_0.index t = ![t.val / 11 % 2, t.val / 22, 0, 0] ∧ win0_1.index t = ![t.val / 11 % 2, t.val / 22, 0, 0]
    ∧ win0_2.index t = ![t.val / 22, 0, t.val % 11] ∧ win0_3.index t = ![t.val / 22, 0, t.val % 11]
    ∧ win0_4.index t = ![t.val / 22, t.val % 11, 0] :=
  (by decide +kernel)

variable (m : (ℓ : Loc nD τ sig) → Buf (Elt Ideal) ℓ)

/-- The gathered rows' block at point `t`. -/
theorem read_x (c : Dev nD) (t : Fin cfg0.N) (b : Fin 2) (r j : Fin 1024) (B : Fin 4) (E : Fin 16)
    (hB : t.val / 11 % 2 * 2 + b.val = B.val) (hE : t.val / 22 = E.val) :
    (iblk m c 0 t : Vec Ideal S2x1x1024x1024 .bf16) (ix4 b 0 r j)
      = (m (c.tc.loc main_arg0) : Vec Ideal S4x16x1024x1024 .bf16) (ix4 B E r j) := by
  blk_ext! [iblk, V, idx t]

/-- The rows' weights' block at point `t`. -/
theorem read_v (c : Dev nD) (t : Fin cfg0.N) (b : Fin 2) (r : Fin 1024) (B : Fin 4) (E : Fin 16)
    (hB : t.val / 11 % 2 * 2 + b.val = B.val) (hE : t.val / 22 = E.val) :
    (iblk m c 1 t : Vec Ideal S2x1x1024x1 .f32) (ix4 b 0 r 0)
      = (m (c.tc.loc main_arg1) : Vec Ideal S4x16x1024x1 .f32) (ix4 B E r 0) := by
  blk_ext! [iblk, V, idx t]

/-- The gate weights' block at point `t`. -/
theorem read_g (c : Dev nD) (t : Fin cfg0.N) (j : Fin 1024) (k : Fin 256) (E : Fin 16) (l : Fin 2816)
    (hE : t.val / 22 = E.val) (hl : t.val % 11 * 256 + k.val = l.val) :
    (iblk m c 2 t : Vec Ideal S1x1024x256 .f32) (ix3 0 j k)
      = (m (c.tc.loc main_arg2) : Vec Ideal S1x16x1024x2816 .f32) (ix4 0 E j l) := by
  blk_ext! [iblk, V, idx t]

/-- The up weights' block at point `t`. -/
theorem read_u (c : Dev nD) (t : Fin cfg0.N) (j : Fin 1024) (k : Fin 256) (E : Fin 16) (l : Fin 2816)
    (hE : t.val / 22 = E.val) (hl : t.val % 11 * 256 + k.val = l.val) :
    (iblk m c 3 t : Vec Ideal S1x1024x256 .f32) (ix3 0 j k)
      = (m (c.tc.loc main_arg3) : Vec Ideal S1x16x1024x2816 .f32) (ix4 0 E j l) := by
  blk_ext! [iblk, V, idx t]

/-- The down weights' block at point `t`. -/
theorem read_d (c : Dev nD) (t : Fin cfg0.N) (k : Fin 256) (d : Fin 1024) (E : Fin 16) (l : Fin 2816)
    (hE : t.val / 22 = E.val) (hl : t.val % 11 * 256 + k.val = l.val) :
    (iblk m c 4 t : Vec Ideal S1x256x1024 .f32) (ix3 0 k d)
      = (m (c.tc.loc main_arg4) : Vec Ideal S1x16x2816x1024 .f32) (ix4 0 E l d) := by
  blk_ext! [iblk, V, idx t]

/-- What a run's last point writes back, in the arguments. -/
theorem out_args (c : Dev nD) (t : Fin cfg0.N) (h : t.val % 11 = 10) (b : Fin 2) (r d : Fin 1024) (B : Fin 4) (E : Fin 16)
    (hB : t.val / 11 % 2 * 2 + b.val = B.val) (hE : t.val / 22 = E.val) :
    (outsAt0 m c t.val t.isLt).1 (ix4 b 0 r d)
      = ffnAt (m (c.tc.loc main_arg0)) (m (c.tc.loc main_arg1)) (m (c.tc.loc main_arg2)) (m (c.tc.loc main_arg3))
          (m (c.tc.loc main_arg4)) B E r d := by
  rw [out_last m c t h, ffnAt, read_v m c t b r B E hB hE]
  congr 1
  unfold part
  refine Fin.sum_mul_add_congr fun s k hl => ?_
  have hlt := Pipeline.run_point_lt_of_flush t h s
  have hB' : (11 * (t.val / 11) + s.val) / 11 % 2 * 2 + b.val = B.val := by have := s.isLt; omega
  have hE' : (11 * (t.val / 11) + s.val) / 22 = E.val := by have := s.isLt; omega
  have hl' : (11 * (t.val / 11) + s.val) % 11 * 256 + k.val = (⟨s.val * 256 + k.val, hl⟩ : Fin 2816).val := by
    have := s.isLt
    show (11 * (t.val / 11) + s.val) % 11 * 256 + k.val = s.val * 256 + k.val
    omega
  congr 1
  · congr 1
    · refine Finset.sum_congr rfl fun j _ => ?_
      rw [read_x m c ⟨_, hlt⟩ b r j B E hB' hE', read_g m c ⟨_, hlt⟩ j k E _ hE' hl']
    · refine Finset.sum_congr rfl fun j _ => ?_
      rw [read_x m c ⟨_, hlt⟩ b r j B E hB' hE', read_u m c ⟨_, hlt⟩ j k E _ hE' hl']
  · rw [read_d m c ⟨_, hlt⟩ k d E _ hE' hl']

/-- The kernel's result array, entry by entry. -/
theorem kernel_apply (c : Dev nD) (B : Fin 4) (E : Fin 16) (r d : Fin 1024) :
    (Value.G5 m c : Vec Ideal S4x16x1024x1024 .bf16) (ix4 B E r d)
      = ffnAt (m (c.tc.loc main_arg0)) (m (c.tc.loc main_arg1)) (m (c.tc.loc main_arg2)) (m (c.tc.loc main_arg3))
          (m (c.tc.loc main_arg4)) B E r d := by
  have hB := B.isLt
  have hE := E.isLt
  have hrun : Value.run5Of (ix4 B E r d) = B.val / 2 + 2 * E.val := by
    have hr := r.isLt
    have hd := d.isLt
    show 1 * (B.val / 2 - 0) + 2 * (E.val / 1 - 0) + 32 * (r.val / 1024 - 0) + 32 * (d.val / 1024 - 0) = _
    omega
  have hpt : Value.pt5Of (ix4 B E r d) = 11 * (B.val / 2 + 2 * E.val) + 10 := by
    unfold Value.pt5Of
    rw [hrun]
  have hlt : Value.pt5Of (ix4 B E r d) < cfg0.N := by
    rw [hpt, show cfg0.N = 352 from N_0]
    omega
  have hloc : Value.loc5Of (ix4 B E r d) = ix4 ⟨B.val % 2, Nat.mod_lt _ (by decide)⟩ 0 r d := by
    blk_ext
  unfold Value.G5
  rw [dif_pos hlt, ← Value.outsAt0_sweep m c _ hlt, hloc]
  exact out_args m c ⟨_, hlt⟩ (by show Value.pt5Of (ix4 B E r d) % 11 = 10; rw [hpt]; omega) _ r d B E
    (by show Value.pt5Of (ix4 B E r d) / 11 % 2 * 2 + B.val % 2 = B.val; rw [hpt]; omega)
    (by show Value.pt5Of (ix4 B E r d) / 22 = E.val; rw [hpt]; omega)

end Cert.KernelIdeal.Ffn

end
-- ==== Proof.Ffn.Plain.lean ====
/- The reference's result, entry by entry. -/
module

public import proofs.«01_k».proof.Proof.Ffn.Equation

@[expose] public section

set_option maxRecDepth 16384

noncomputable section

namespace Cert.ReferenceIdeal.Ffn

open Cert.ReferenceIdeal Cert.ReferenceIdeal.Gen Idealize.ShloMosaic Idealize.ShloMosaic.TcCoe

/-- A hidden projection of the gathered rows by one expert's weights. -/
theorem hidden_apply (x : FVec Ideal S4x16x1024x1024 .bf16) (w : FVec Ideal S1x16x1024x2816 .f32) (b : Fin 4) (e : Fin 16) (r : Fin 1024) (l : Fin 2816) :
    transpose S4x16x1024x2816 [2, 0, 3, 1] (Host.dotGeneral dot_S16x1024x2816_S4x16x1024x1024_S16x2816x4x1024_1_3_2_02_0_1 none (shapeCast _ w shapeCasts_S1x16x1024x2816_S16x1024x2816) (extf .f32 x bitsLt_bf16_f32)) transposes_S16x2816x4x1024_S4x16x1024x2816_2_0_3_1 (ix4 b e r l)
      = ∑ j : Fin 1024, x (ix4 b e r j) * w (ix4 0 e j l) := by
  pointwise!

/-- The projection back, of any hidden array. -/
theorem down_apply (h : FVec Ideal S4x16x1024x2816 .f32) (w : FVec Ideal S1x16x2816x1024 .f32) (b : Fin 4) (e : Fin 16) (r d : Fin 1024) :
    transpose S4x16x1024x1024 [2, 0, 3, 1] (Host.dotGeneral dot_S16x2816x1024_S4x16x1024x2816_S16x1024x4x1024_1_3_2_02_0_1 none (shapeCast _ w shapeCasts_S1x16x2816x1024_S16x2816x1024) h) transposes_S16x1024x4x1024_S4x16x1024x1024_2_0_3_1 (ix4 b e r d)
      = ∑ l : Fin 2816, h (ix4 b e r l) * w (ix4 0 e l d) := by
  pointwise!

/-- The gated activation, entry by entry. -/
theorem act_apply (g u : FVec Ideal S4x16x1024x2816 .f32) (b : Fin 4) (e : Fin 16) (r : Fin 1024) (l : Fin 2816) :
    mulf (mulf g (Host.divf (broadcastInDim S4x16x1024x2816 ![] bcast_S_S4x16x1024x2816 (constant S_ .f32 0x3F800000#32)) (addf (broadcastInDim S4x16x1024x2816 ![] bcast_S_S4x16x1024x2816 (constant S_ .f32 0x3F800000#32)) (Host.exp (Host.negf g))))) u (ix4 b e r l)
      = Cert.KernelIdeal.Ffn.act (g (ix4 b e r l)) (u (ix4 b e r l)) := by
  pointwise [Cert.KernelIdeal.Ffn.act, Ideal.logistic]

/-- The reference's whole result at an index. -/
theorem plain_apply (x : FVec Ideal S4x16x1024x1024 .bf16) (v : FVec Ideal S4x16x1024x1 .f32) (wg wu : FVec Ideal S1x16x1024x2816 .f32)
    (wd : FVec Ideal S1x16x2816x1024 .f32) (b : Fin 4) (e : Fin 16) (r d : Fin 1024) :
    truncf .bf16 (mulf (transpose S4x16x1024x1024 [2, 0, 3, 1] (Host.dotGeneral dot_S16x2816x1024_S4x16x1024x2816_S16x1024x4x1024_1_3_2_02_0_1 none (shapeCast _ wd shapeCasts_S1x16x2816x1024_S16x2816x1024) (mulf (mulf (transpose S4x16x1024x2816 [2, 0, 3, 1] (Host.dotGeneral dot_S16x1024x2816_S4x16x1024x1024_S16x2816x4x1024_1_3_2_02_0_1 none (shapeCast _ wg shapeCasts_S1x16x1024x2816_S16x1024x2816) (extf .f32 x bitsLt_bf16_f32)) transposes_S16x2816x4x1024_S4x16x1024x2816_2_0_3_1) (Host.divf (broadcastInDim S4x16x1024x2816 ![] bcast_S_S4x16x1024x2816 (constant S_ .f32 0x3F800000#32)) (addf (broadcastInDim S4x16x1024x2816 ![] bcast_S_S4x16x1024x2816 (constant S_ .f32 0x3F800000#32)) (Host.exp (Host.negf (transpose S4x16x1024x2816 [2, 0, 3, 1] (Host.dotGeneral dot_S16x1024x2816_S4x16x1024x1024_S16x2816x4x1024_1_3_2_02_0_1 none (shapeCast _ wg shapeCasts_S1x16x1024x2816_S16x1024x2816) (extf .f32 x bitsLt_bf16_f32)) transposes_S16x2816x4x1024_S4x16x1024x2816_2_0_3_1)))))) (transpose S4x16x1024x2816 [2, 0, 3, 1] (Host.dotGeneral dot_S16x1024x2816_S4x16x1024x1024_S16x2816x4x1024_1_3_2_02_0_1 none (shapeCast _ wu shapeCasts_S1x16x1024x2816_S16x1024x2816) (extf .f32 x bitsLt_bf16_f32)) transposes_S16x2816x4x1024_S4x16x1024x2816_2_0_3_1))) transposes_S16x1024x4x1024_S4x16x1024x1024_2_0_3_1) (broadcastInDim S4x16x1024x1024 ![0, 1, 2, 3] bcast_S4x16x1024x1_S4x16x1024x1024_0_1_2_3 v)) bitsLt_bf16_f32 (ix4 b e r d)
      = Cert.KernelIdeal.Ffn.ffnAt x v wg wu wd b e r d := by
  unfold Cert.KernelIdeal.Ffn.ffnAt
  have hv : broadcastInDim S4x16x1024x1024 ![0, 1, 2, 3] bcast_S4x16x1024x1_S4x16x1024x1024_0_1_2_3 v (ix4 b e r d) = v (ix4 b e r 0) := by pointwise
  rw [← hv]
  refine congrArg (fun z : EReal => z * _) ((down_apply ..).trans (Finset.sum_congr rfl fun l _ => ?_))
  refine congrArg (fun z : EReal => z * _) ((act_apply ..).trans ?_)
  rw [hidden_apply, hidden_apply]

end Cert.ReferenceIdeal.Ffn

end
-- ==== Proof.Inproj.Body.lean ====
/- One grid point of the input projection's kernel, read element by element. -/
module

public import proofs.«01_k».proof.Proof.Gen.Kernel2Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel2Ideal.Inproj

open Cert.Kernel2Ideal Cert.Kernel2Ideal.Gen Idealize.ShloMosaic Idealize.ShloMosaic.TcCoe

/-- One projected value: the row `a` normalised by its root mean square, weighted by `g`, against the column `w`. -/
def proj (a g w : Fin 1024 → EReal) : EReal :=
  ∑ j : Fin 1024, a j * Ideal.rsqrt (Ideal.div (∑ k : Fin 1024, a k * a k) (Scalar.ofBits (F := Ideal) .f32 0x44800000#32)
    + Scalar.ofBits (F := Ideal) .f32 0x358637BD#32) * g j * w j

/-- The projection of 256 rows, as each quarter of a block computes it. -/
theorem pay5_apply (x : Vec Ideal S256x1024 .f32) (g : Vec Ideal S1x1024 .f32) (w : Vec Ideal S1024x3072 .bf16) (r : Fin 256) (c : Fin 3072) :
    k0_pay5 x g w (ix2 r c) = proj (fun j => x (ix2 r j)) (fun j => g (ix2 0 j)) (fun j => w (ix2 j c)) := by
  pointwise [k0_pay5, proj]

theorem pay12_apply (x : Vec Ideal S256x1024 .f32) (g : Vec Ideal S1x1024 .f32) (w : Vec Ideal S1024x3072 .bf16) (r : Fin 256) (c : Fin 3072) :
    k0_pay12 x g w (ix2 r c) = proj (fun j => x (ix2 r j)) (fun j => g (ix2 0 j)) (fun j => w (ix2 j c)) := by
  pointwise [k0_pay12, proj]

theorem pay24_apply (x : Vec Ideal S256x1024 .f32) (g : Vec Ideal S1x1024 .f32) (w : Vec Ideal S1024x3072 .bf16) (r : Fin 256) (c : Fin 3072) :
    k0_pay24 (k0_pay21 x) (k0_pay22 g) (k0_pay23 x) w (ix2 r c) = proj (fun j => x (ix2 r j)) (fun j => g (ix2 0 j)) (fun j => w (ix2 j c)) := by
  pointwise [k0_pay24, k0_pay21, k0_pay22, k0_pay23, proj]

theorem pay31_apply (x : Vec Ideal S256x1024 .f32) (g : Vec Ideal S1x1024 .f32) (w : Vec Ideal S1024x3072 .bf16) (r : Fin 256) (c : Fin 3072) :
    k0_pay31 x g w (ix2 r c) = proj (fun j => x (ix2 r j)) (fun j => g (ix2 0 j)) (fun j => w (ix2 j c)) := by
  pointwise [k0_pay31, proj]

/-- The three kinds of entries a point writes, from its four input blocks. -/
def zAt (x0 : Vec Ideal S1024x1024 .f32) (x1 : Vec Ideal S1x1024 .f32) (x2 : Vec Ideal S1024x3072 .bf16) (r : Fin 1024) (c : Fin 3072) : EReal :=
  proj (fun j => x0 (ix2 r j)) (fun j => x1 (ix2 0 j)) (fun j => x2 (ix2 j c))

def pqAt (x0 : Vec Ideal S1024x1024 .f32) (x1 : Vec Ideal S1x1024 .f32) (x2 : Vec Ideal S1024x3072 .bf16) (x3 : Vec Ideal S512x1024 .bf16)
    (r c : Fin 1024) : EReal :=
  ∑ k : Fin 512, zAt x0 x1 x2 r ⟨k.val, by omega⟩ * x3 (ix2 k c)

/-- A load of 256 rows of the tokens' block. -/
theorem ld_rows (x0 : Vec Ideal S1024x1024 .f32) (o : ℕ) (h) (a : Fin 256) (j r : Fin 1024) (hr : r.val = o + a.val) :
    View.ld x0 (Rect.unit (s := S1024x1024) ![o, 0] S256x1024.size h) (ix2 a j) = x0 (ix2 r j) := by
  refine congrArg x0 ?_
  blk_ext
  · refine (Rect.idx_unit_val _ _ h _ _).trans ?_
    exact hr.symm
  · refine (Rect.idx_unit_val _ _ h _ _).trans ?_
    exact Nat.zero_add _

theorem ld_g (x1 : Vec Ideal S1x1024 .f32) : View.ld x1 r0_1 = x1 := View.ld_unit_lit (h := by decide) ..
theorem ld_w (x2 : Vec Ideal S1024x3072 .bf16) : View.ld x2 r0_2 = x2 := View.ld_unit_lit (h := by decide) ..
theorem ld_bd (x3 : Vec Ideal S512x1024 .bf16) : View.ld x3 r0_3 = x3 := View.ld_unit_lit (h := by decide) ..

/-- The projected channels of 256 rows through the table. -/
theorem pay6_apply (x : Vec Ideal S256x1024 .f32) (g : Vec Ideal S1x1024 .f32) (w : Vec Ideal S1024x3072 .bf16) (bd : Vec Ideal S512x1024 .bf16)
    (r : Fin 256) (c : Fin 1024) :
    k0_pay6 x g w bd (ix2 r c) = ∑ k : Fin 512, k0_pay5 x g w (ix2 r ⟨k.val, by omega⟩) * bd (ix2 k c) := by
  pointwise [k0_pay6]

theorem pay15_apply (x : Vec Ideal S256x1024 .f32) (g : Vec Ideal S1x1024 .f32) (w : Vec Ideal S1024x3072 .bf16) (bd : Vec Ideal S512x1024 .bf16)
    (r : Fin 256) (c : Fin 1024) :
    k0_pay15 (k0_pay13 x g w) (k0_pay14 bd) (constant S256x1024 FTy.f32 0#32) (ix2 r c)
      = ∑ k : Fin 512, k0_pay12 x g w (ix2 r ⟨k.val, by omega⟩) * bd (ix2 k c) := by
  pointwise [k0_pay15, k0_pay13, k0_pay14]

theorem pay25_apply (x : Vec Ideal S256x1024 .f32) (g : Vec Ideal S1x1024 .f32) (w : Vec Ideal S1024x3072 .bf16) (bd : Vec Ideal S512x1024 .bf16)
    (r : Fin 256) (c : Fin 1024) :
    k0_pay25 (k0_pay21 x) (k0_pay22 g) (k0_pay23 x) w bd (ix2 r c)
      = ∑ k : Fin 512, k0_pay24 (k0_pay21 x) (k0_pay22 g) (k0_pay23 x) w (ix2 r ⟨k.val, by omega⟩) * bd (ix2 k c) := by
  pointwise [k0_pay25]

theorem pay32_apply (x : Vec Ideal S256x1024 .f32) (g : Vec Ideal S1x1024 .f32) (w : Vec Ideal S1024x3072 .bf16) (bd : Vec Ideal S512x1024 .bf16)
    (r : Fin 256) (c : Fin 1024) :
    k0_pay32 x g w bd (ix2 r c) = ∑ k : Fin 512, k0_pay31 x g w (ix2 r ⟨k.val, by omega⟩) * bd (ix2 k c) := by
  pointwise [k0_pay32]

/-- 256 rows' projection is the block's, at the rows loaded. -/
theorem proj_rows (x0 : Vec Ideal S1024x1024 .f32) (x1 : Vec Ideal S1x1024 .f32) (x2 : Vec Ideal S1024x3072 .bf16) (o : ℕ) (h) (a : Fin 256)
    (r : Fin 1024) (hr : r.val = o + a.val) (c : Fin 3072) :
    proj (fun j => View.ld x0 (Rect.unit (s := S1024x1024) ![o, 0] S256x1024.size h) (ix2 a j)) (fun j => x1 (ix2 0 j)) (fun j => x2 (ix2 j c))
      = zAt x0 x1 x2 r c := by
  unfold zAt
  congr 1
  funext j
  exact ld_rows x0 o h a j r hr

/-- What a point leaves in the block of transformed channels. -/
theorem out4_apply (x0 : Vec Ideal S1024x1024 .f32) (x1 : Vec Ideal S1x1024 .f32) (x2 : Vec Ideal S1024x3072 .bf16) (x3 : Vec Ideal S512x1024 .bf16)
    (r c : Fin 1024) : out0_4 x0 x1 x2 x3 (ix2 r c) = pqAt x0 x1 x2 x3 r c := by
  unfold_out out0_4
  rw [ld_g, ld_w, ld_bd]
  canon_tiles x h
  all_goals obtain ⟨a, d, rfl⟩ : ∃ (a : Fin 256) (d : Fin 1024), x = ix2 a d := ⟨x 0, x 1, eq_ix2 x⟩
  all_goals obtain rfl : c = d := Fin.ext h1
  · rw [pay32_apply]
    refine Finset.sum_congr rfl fun k _ => ?_
    rw [pay31_apply, proj_rows x0 x1 x2 768 _ a r h0]
  · rw [pay25_apply]
    refine Finset.sum_congr rfl fun k _ => ?_
    rw [pay24_apply, proj_rows x0 x1 x2 512 _ a r h0]
  · rw [pay15_apply]
    refine Finset.sum_congr rfl fun k _ => ?_
    rw [pay12_apply, proj_rows x0 x1 x2 256 _ a r h0]
  · rw [pay6_apply]
    refine Finset.sum_congr rfl fun k _ => ?_
    rw [pay5_apply, proj_rows x0 x1 x2 0 _ a r (by rw [Nat.zero_add]; exact h0)]

/-- The gate of a projected value. -/
theorem gate_apply (z : FVec Ideal S256x3072 .f32) (r : Fin 256) (c : Fin 2048) :
    k0_pay11 z (ix2 r c) = Ideal.logistic (z (ix2 r ⟨1024 + c.val, by omega⟩)) ∧ k0_pay20 z (ix2 r c) = Ideal.logistic (z (ix2 r ⟨1024 + c.val, by omega⟩))
      ∧ k0_pay30 z (ix2 r c) = Ideal.logistic (z (ix2 r ⟨1024 + c.val, by omega⟩))
      ∧ k0_pay4 z (ix2 r c) = Ideal.logistic (z (ix2 r ⟨1024 + c.val, by omega⟩)) := by
  refine ⟨?_, ?_, ?_, ?_⟩
  · pointwise [k0_pay11, Ideal.logistic]
  · pointwise [k0_pay20, Ideal.logistic]
  · pointwise [k0_pay30, Ideal.logistic]
  · pointwise [k0_pay4, Ideal.logistic]

/-- What a point leaves in the block of gates. -/
theorem out6_apply (x0 : Vec Ideal S1024x1024 .f32) (x1 : Vec Ideal S1x1024 .f32) (x2 : Vec Ideal S1024x3072 .bf16) (x3 : Vec Ideal S512x1024 .bf16)
    (r : Fin 1024) (c : Fin 2048) : out0_6 x0 x1 x2 x3 (ix2 r c) = Ideal.logistic (zAt x0 x1 x2 r ⟨1024 + c.val, by omega⟩) := by
  unfold_out out0_6
  rw [ld_g, ld_w]
  canon_tiles x h
  all_goals obtain ⟨a, d, rfl⟩ : ∃ (a : Fin 256) (d : Fin 2048), x = ix2 a d := ⟨x 0, x 1, eq_ix2 x⟩
  all_goals obtain rfl : c = d := Fin.ext h1
  · rw [(gate_apply ..).2.2.2, pay31_apply, proj_rows x0 x1 x2 768 _ a r h0]
  · rw [(gate_apply ..).2.2.1, pay24_apply, proj_rows x0 x1 x2 512 _ a r h0]
  · rw [(gate_apply ..).2.1, pay12_apply, proj_rows x0 x1 x2 256 _ a r h0]
  · rw [(gate_apply ..).1, pay5_apply, proj_rows x0 x1 x2 0 _ a r (by rw [Nat.zero_add]; exact h0)]

/-- A slice of 128 projected channels of 256 rows, under a unit axis. -/
theorem plane_apply (z : FVec Ideal S256x3072 .f32) (r : Fin 256) (c : Fin 128) :
    k0_pay2 z (ix3 0 r c) = z (ix2 r ⟨768 + c.val, by omega⟩)
      ∧ k0_pay3 z (ix3 0 r c) = z (ix2 r ⟨896 + c.val, by omega⟩)
      ∧ k0_pay9 z (ix3 0 r c) = z (ix2 r ⟨768 + c.val, by omega⟩)
      ∧ k0_pay10 z (ix3 0 r c) = z (ix2 r ⟨896 + c.val, by omega⟩)
      ∧ k0_pay16 z (ix3 0 r c) = z (ix2 r ⟨512 + c.val, by omega⟩)
      ∧ k0_pay17 z (ix3 0 r c) = z (ix2 r ⟨640 + c.val, by omega⟩)
      ∧ k0_pay18 z (ix3 0 r c) = z (ix2 r ⟨768 + c.val, by omega⟩)
      ∧ k0_pay19 z (ix3 0 r c) = z (ix2 r ⟨896 + c.val, by omega⟩) := by
  refine ⟨?_, ?_, ?_, ?_, ?_, ?_, ?_, ?_⟩
  · pointwise [k0_pay2]
  · pointwise [k0_pay3]
  · pointwise [k0_pay9]
  · pointwise [k0_pay10]
  · pointwise [k0_pay16]
  · pointwise [k0_pay17]
  · pointwise [k0_pay18]
  · pointwise [k0_pay19]

theorem plane_apply_first (x : Vec Ideal S256x1024 .f32) (g : Vec Ideal S1x1024 .f32) (w : Vec Ideal S1024x3072 .bf16) (r : Fin 256) (c : Fin 128) :
    k0_pay7 x g w (ix3 0 r c) = k0_pay5 x g w (ix2 r ⟨512 + c.val, by omega⟩) ∧ k0_pay8 x g w (ix3 0 r c) = k0_pay5 x g w (ix2 r ⟨640 + c.val, by omega⟩) := by
  refine ⟨?_, ?_⟩
  · pointwise [k0_pay7]
  · pointwise [k0_pay8]

theorem plane_apply_third (x : Vec Ideal S256x1024 .f32) (g : Vec Ideal S1x1024 .f32) (w : Vec Ideal S1024x3072 .bf16) (r : Fin 256) (c : Fin 128) :
    k0_pay26 (k0_pay21 x) (k0_pay22 g) (k0_pay23 x) w (ix3 0 r c)
        = k0_pay24 (k0_pay21 x) (k0_pay22 g) (k0_pay23 x) w (ix2 r ⟨512 + c.val, by omega⟩)
      ∧ k0_pay27 (k0_pay21 x) (k0_pay22 g) (k0_pay23 x) w (ix3 0 r c)
        = k0_pay24 (k0_pay21 x) (k0_pay22 g) (k0_pay23 x) w (ix2 r ⟨640 + c.val, by omega⟩)
      ∧ k0_pay28 (k0_pay21 x) (k0_pay22 g) (k0_pay23 x) w (ix3 0 r c)
        = k0_pay24 (k0_pay21 x) (k0_pay22 g) (k0_pay23 x) w (ix2 r ⟨768 + c.val, by omega⟩)
      ∧ k0_pay29 (k0_pay21 x) (k0_pay22 g) (k0_pay23 x) w (ix3 0 r c)
        = k0_pay24 (k0_pay21 x) (k0_pay22 g) (k0_pay23 x) w (ix2 r ⟨896 + c.val, by omega⟩) := by
  refine ⟨?_, ?_, ?_, ?_⟩
  · pointwise [k0_pay26]
  · pointwise [k0_pay27]
  · pointwise [k0_pay28]
  · pointwise [k0_pay29]

theorem plane_apply_fourth (x : Vec Ideal S256x1024 .f32) (g : Vec Ideal S1x1024 .f32) (w : Vec Ideal S1024x3072 .bf16) (r : Fin 256) (c : Fin 128) :
    k0_pay33 x g w (ix3 0 r c) = k0_pay31 x g w (ix2 r ⟨512 + c.val, by omega⟩)
      ∧ k0_pay1 (k0_pay34 x g w) (ix3 0 r c) = k0_pay31 x g w (ix2 r ⟨640 + c.val, by omega⟩) := by
  refine ⟨?_, ?_⟩
  · pointwise [k0_pay33]
  · pointwise [k0_pay1, k0_pay34]

/-- A projected value, at two spellings of one row and one channel. -/
theorem proj_plane (x0 : Vec Ideal S1024x1024 .f32) (x1 : Vec Ideal S1x1024 .f32) (x2 : Vec Ideal S1024x3072 .bf16) (o : ℕ) (h) (a : Fin 256)
    (r : Fin 1024) (hr : r.val = o + a.val) (c c' : Fin 3072) (hc : c.val = c'.val) :
    proj (fun j => View.ld x0 (Rect.unit (s := S1024x1024) ![o, 0] S256x1024.size h) (ix2 a j)) (fun j => x1 (ix2 0 j)) (fun j => x2 (ix2 j c))
      = zAt x0 x1 x2 r c' := by
  rw [proj_rows x0 x1 x2 o h a r hr, Fin.ext hc]

/-- What a point leaves in the block of state-space channels, 128 channels of one plane at a time. -/
theorem out5_apply (x0 : Vec Ideal S1024x1024 .f32) (x1 : Vec Ideal S1x1024 .f32) (x2 : Vec Ideal S1024x3072 .bf16) (x3 : Vec Ideal S512x1024 .bf16)
    (q : Fin 4) (r : Fin 1024) (c : Fin 128) : out0_5 x0 x1 x2 x3 (ix3 q r c) = zAt x0 x1 x2 r ⟨512 + q.val * 128 + c.val, by omega⟩ := by
  unfold_out out0_5
  rw [ld_g, ld_w]
  canon_tiles x h
  all_goals obtain ⟨u, a, d, rfl⟩ : ∃ (u : Fin 1) (a : Fin 256) (d : Fin 128), x = ix3 u a d := ⟨x 0, x 1, x 2, eq_ix3 x⟩
  all_goals obtain rfl : u = 0 := Subsingleton.elim _ _
  all_goals obtain rfl : c = d := Fin.ext h2
  · rw [(plane_apply ..).2.1, pay31_apply]
    exact proj_plane x0 x1 x2 768 _ a r h1 _ _ (by have h0' : q.val = 3 + 0 := h0; show 896 + c.val = 512 + q.val * 128 + c.val; omega)
  · rw [(plane_apply ..).1, pay31_apply]
    exact proj_plane x0 x1 x2 768 _ a r h1 _ _ (by have h0' : q.val = 2 + 0 := h0; show 768 + c.val = 512 + q.val * 128 + c.val; omega)
  · rw [(plane_apply_fourth ..).2, pay31_apply]
    exact proj_plane x0 x1 x2 768 _ a r h1 _ _ (by have h0' : q.val = 1 + 0 := h0; show 640 + c.val = 512 + q.val * 128 + c.val; omega)
  · rw [(plane_apply_fourth ..).1, pay31_apply]
    exact proj_plane x0 x1 x2 768 _ a r h1 _ _ (by have h0' : q.val = 0 := h0; show 512 + c.val = 512 + q.val * 128 + c.val; omega)
  · rw [(plane_apply_third ..).2.2.2, pay24_apply]
    exact proj_plane x0 x1 x2 512 _ a r h1 _ _ (by have h0' : q.val = 3 + 0 := h0; show 896 + c.val = 512 + q.val * 128 + c.val; omega)
  · rw [(plane_apply_third ..).2.2.1, pay24_apply]
    exact proj_plane x0 x1 x2 512 _ a r h1 _ _ (by have h0' : q.val = 2 + 0 := h0; show 768 + c.val = 512 + q.val * 128 + c.val; omega)
  · rw [(plane_apply_third ..).2.1, pay24_apply]
    exact proj_plane x0 x1 x2 512 _ a r h1 _ _ (by have h0' : q.val = 1 + 0 := h0; show 640 + c.val = 512 + q.val * 128 + c.val; omega)
  · rw [(plane_apply_third ..).1, pay24_apply]
    exact proj_plane x0 x1 x2 512 _ a r h1 _ _ (by have h0' : q.val = 0 := h0; show 512 + c.val = 512 + q.val * 128 + c.val; omega)
  · rw [(plane_apply ..).2.2.2.2.2.2.2, pay12_apply]
    exact proj_plane x0 x1 x2 256 _ a r h1 _ _ (by have h0' : q.val = 3 + 0 := h0; show 896 + c.val = 512 + q.val * 128 + c.val; omega)
  · rw [(plane_apply ..).2.2.2.2.2.2.1, pay12_apply]
    exact proj_plane x0 x1 x2 256 _ a r h1 _ _ (by have h0' : q.val = 2 + 0 := h0; show 768 + c.val = 512 + q.val * 128 + c.val; omega)
  · rw [(plane_apply ..).2.2.2.2.2.1, pay12_apply]
    exact proj_plane x0 x1 x2 256 _ a r h1 _ _ (by have h0' : q.val = 1 + 0 := h0; show 640 + c.val = 512 + q.val * 128 + c.val; omega)
  · rw [(plane_apply ..).2.2.2.2.1, pay12_apply]
    exact proj_plane x0 x1 x2 256 _ a r h1 _ _ (by have h0' : q.val = 0 := h0; show 512 + c.val = 512 + q.val * 128 + c.val; omega)
  · rw [(plane_apply ..).2.2.2.1, pay5_apply]
    exact proj_plane x0 x1 x2 0 _ a r (by rw [Nat.zero_add]; exact h1) _ _ (by have h0' : q.val = 3 + 0 := h0; show 896 + c.val = 512 + q.val * 128 + c.val; omega)
  · rw [(plane_apply ..).2.2.1, pay5_apply]
    exact proj_plane x0 x1 x2 0 _ a r (by rw [Nat.zero_add]; exact h1) _ _ (by have h0' : q.val = 2 + 0 := h0; show 768 + c.val = 512 + q.val * 128 + c.val; omega)
  · rw [(plane_apply_first ..).2, pay5_apply]
    exact proj_plane x0 x1 x2 0 _ a r (by rw [Nat.zero_add]; exact h1) _ _ (by have h0' : q.val = 1 + 0 := h0; show 640 + c.val = 512 + q.val * 128 + c.val; omega)
  · rw [(plane_apply_first ..).1, pay5_apply]
    exact proj_plane x0 x1 x2 0 _ a r (by rw [Nat.zero_add]; exact h1) _ _ (by have h0' : q.val = 0 := h0; show 512 + c.val = 512 + q.val * 128 + c.val; omega)

end Cert.Kernel2Ideal.Inproj

end
-- ==== Proof.Inproj.Table.lean ====
/- The table of the channels' Fourier transform, entry by entry. -/
module

public import proofs.«01_k».proof.Proof.Inproj.Body

@[expose] public section

set_option maxRecDepth 16384

noncomputable section

namespace Cert.Kernel2Ideal.Inproj

open Cert.Kernel2Ideal Cert.Kernel2Ideal.Gen Idealize.ShloMosaic Idealize.ShloMosaic.TcCoe

variable (m : (ℓ : Loc nD τ sig) → Buf (Elt Ideal) ℓ)

/-- The table's two halves side by side. -/
def cat (u v : FVec Ideal S512x512 .f32) : FVec Ideal S512x1024 .f32 :=
  concatenate S512x1024 1 [⟨S512x512, u⟩, ⟨S512x512, v⟩] concatenates_S512x512_S512x512_S512x1024_d1

theorem cat_eq (u v : FVec Ideal S512x512 .f32) :
    concatenate S512x1024 1 [⟨S512x512, u⟩, ⟨S512x512, v⟩] concatenates_S512x512_S512x512_S512x1024_d1 = cat u v := rfl

theorem cat_left (u v : FVec Ideal S512x512 .f32) (r c : Fin 512) (d : Fin 1024) (h : c.val = d.val) : cat u v (ix2 r d) = u (ix2 r c) :=
  concatenate_pair_apply_left (t := S512x1024) (s₁ := S512x512) (s₂ := S512x512) 1 u v concatenates_S512x512_S512x512_S512x1024_d1 (ix2 r d) rfl (ix2 r c) fun b =>
    match b with
    | ⟨0, _⟩ => rfl
    | ⟨1, _⟩ => h

theorem cat_right (u v : FVec Ideal S512x512 .f32) (r c : Fin 512) (d : Fin 1024) (h : c.val + 512 = d.val) : cat u v (ix2 r d) = v (ix2 r c) :=
  concatenate_pair_apply_right (t := S512x1024) (s₁ := S512x512) (s₂ := S512x512) 1 u v concatenates_S512x512_S512x512_S512x1024_d1 (ix2 r d) rfl rfl (ix2 r c)
    (fun b hb => match b, hb with
      | ⟨0, _⟩, _ => rfl
      | ⟨1, _⟩, hb => absurd rfl hb) h

/-- The products of the channels' numbers, the modulus, and the products' remainders as the host computes them. -/
def prods : IVec S128x128 32 :=
  muli (broadcastInDim S128x128 ![0, 1] bcast_S128x1_S128x128_0_1 (broadcastInDim S128x1 ![0] bcast_S128_S128x1_0 (iotaInDim S128 32 0)))
    (broadcastInDim S128x128 ![0, 1] bcast_S1x128_S128x128_0_1 (broadcastInDim S1x128 ![1] bcast_S128_S1x128_1 (iotaInDim S128 32 0)))

def modulus : IVec S_ 32 :=
  select (cmpi .eq (id (constantI S_ 32 128#32)) (constantI S_ 32 0#32)) (constantI S_ 32 1#32) (id (constantI S_ 32 128#32))

def rems : IVec S128x128 32 := Host.remsi prods (broadcastInDim S128x128 ![] bcast_S_S128x128 modulus)

def words : IVec S128x128 32 :=
  select (andi (cmpi .ne (cmpi .slt rems (broadcastInDim S128x128 ![] bcast_S_S128x128 (constantI S_ 32 0#32)))
      (broadcastInDim S128x128 ![] bcast_S_S128x128 (cmpi .slt modulus (constantI S_ 32 0#32))))
      (cmpi .ne rems (broadcastInDim S128x128 ![] bcast_S_S128x128 (constantI S_ 32 0#32))))
    (addi rems (broadcastInDim S128x128 ![] bcast_S_S128x128 modulus)) rems

/-- The angles, and one block of the table for the real and the imaginary part. -/
def angles : FVec Ideal S128x128 .f32 :=
  mulf (broadcastInDim S128x128 ![] bcast_S_S128x128 (constant S_ .f32 0x3D490FDB#32)) (sitofp .f32 words)

def eye : FVec Ideal S4x4 .f32 :=
  uitofp .f32 (cmpi .eq (addi (iotaInDim S4x4 32 0) (broadcastInDim S4x4 ![] bcast_S_S4x4 (constantI S_ 32 0#32))) (iotaInDim S4x4 32 1))

/-- The Kronecker product of a 4 by 4 and a 128 by 128 array. -/
def kron (e : FVec Ideal S4x4 .f32) (t : FVec Ideal S128x128 .f32) : FVec Ideal S512x512 .f32 :=
  shapeCast S512x512 (mulf (broadcastInDim S4x128x4x128 ![0, 1, 2, 3] bcast_S4x1x4x1_S4x128x4x128_0_1_2_3 (broadcastInDim S4x1x4x1 ![0, 2] bcast_S4x4_S4x1x4x1_0_2 e))
    (broadcastInDim S4x128x4x128 ![0, 1, 2, 3] bcast_S1x128x1x128_S4x128x4x128_0_1_2_3 (broadcastInDim S1x128x1x128 ![1, 3] bcast_S128x128_S1x128x1x128_1_3 t)))
    shapeCasts_S4x128x4x128_S512x512

def scale : FVec Ideal S512x512 .f32 := broadcastInDim S512x512 ![] bcast_S_S512x512 (constant S_ .f32 0x3DB504F3#32)

theorem kron_apply (e : FVec Ideal S4x4 .f32) (t : FVec Ideal S128x128 .f32) (g g' : Fin 4) (k k' : Fin 128) :
    kron e t (ix2 ⟨g.val * 128 + k.val, by omega⟩ ⟨g'.val * 128 + k'.val, by omega⟩) = e (ix2 g g') * t (ix2 k k') := by
  unfold kron
  pointwise!

theorem eye_apply (g g' : Fin 4) : eye (ix2 g g') = if g = g' then 1 else 0 := by
  unfold eye
  pointwise
  fin_vals g with hg <;> fin_vals g' with hg' <;>
    (first | rw [if_pos (Fin.ext (hg.trans hg'.symm))] | rw [if_neg (fun h => by have := congrArg Fin.val h; omega)]) <;> rw [hg, hg']
  all_goals
    show ((_ : ℝ) : EReal) = _
    norm_num [IntOp.cmpi, IntOp.addi]
    try rfl

/-- The table the kernel is given. -/
theorem table_eq (c : Dev nD) :
    (V m c main_v31 : Vec Ideal S512x1024 .bf16)
      = truncf .bf16 (cat (mulf (kron eye (Host.cos angles)) scale) (mulf (Host.negf (kron eye (Host.sin angles))) scale)) bitsLt_bf16_f32 := by
  simp only [V, hostOps0, hostOps0_1, hostOps0_2, hostOps0_3, hostOps0_4, hostOps0_5, hostOps0_6, List.flatten_cons, List.flatten_nil, List.append_nil,
    List.cons_append, List.nil_append, StableHlo.TRef.binary, StableHlo.TRef.nullary, StableHlo.TRef.ternary, StableHlo.TRef.unary, StableHlo.TRef.toBuf,
    StableHlo.TRef.ofBuf, cast_eq, cat_eq]
  after_results_simp
  rfl

/-- The other three arrays the kernel is given: the tokens in rows, the norm's weights, the projection's weights. -/
theorem x_eq (c : Dev nD) :
    (V m c main_v0 : Vec Ideal S32768x1024 .f32) = shapeCast S32768x1024 (m (c.tc.loc main_arg0) : Vec Ideal S4x8192x1024 .f32) shapeCasts_S4x8192x1024_S32768x1024 := by
  simp only [V, hostOps0, hostOps0_1, hostOps0_2, hostOps0_3, hostOps0_4, hostOps0_5, hostOps0_6, List.flatten_cons, List.flatten_nil, List.append_nil,
    List.cons_append, List.nil_append, StableHlo.TRef.binary, StableHlo.TRef.nullary, StableHlo.TRef.ternary, StableHlo.TRef.unary, StableHlo.TRef.toBuf,
    StableHlo.TRef.ofBuf, cast_eq, cat_eq]
  after_results_simp
  rfl

theorem g_eq (c : Dev nD) (j : Fin 1024) :
    (V m c main_v2 : Vec Ideal S1x1024 .f32) (ix2 0 j) = (m (c.tc.loc main_arg1) : Vec Ideal S1x1024 .f32) (ix2 0 j) := by
  simp only [V, hostOps0, hostOps0_1, hostOps0_2, hostOps0_3, hostOps0_4, hostOps0_5, hostOps0_6, List.flatten_cons, List.flatten_nil, List.append_nil,
    List.cons_append, List.nil_append, StableHlo.TRef.binary, StableHlo.TRef.nullary, StableHlo.TRef.ternary, StableHlo.TRef.unary, StableHlo.TRef.toBuf,
    StableHlo.TRef.ofBuf, cast_eq, cat_eq]
  after_results_simp
  pointwise

theorem w_eq (c : Dev nD) (j : Fin 1024) (l : Fin 3072) :
    (V m c main_v4 : Vec Ideal S1024x3072 .bf16) (ix2 j l) = (m (c.tc.loc main_arg2) : Vec Ideal S1x1024x3072 .f32) (ix3 0 j l) := by
  simp only [V, hostOps0, hostOps0_1, hostOps0_2, hostOps0_3, hostOps0_4, hostOps0_5, hostOps0_6, List.flatten_cons, List.flatten_nil, List.append_nil,
    List.cons_append, List.nil_append, StableHlo.TRef.binary, StableHlo.TRef.nullary, StableHlo.TRef.ternary, StableHlo.TRef.unary, StableHlo.TRef.toBuf,
    StableHlo.TRef.ofBuf, cast_eq, cat_eq]
  after_results_simp
  pointwise

/-- A column's angle part, real and imaginary, at channel `k`: the cosine and the negated sine, scaled. -/
def cosAt (k k' : Fin 128) : EReal := (Host.cos angles : FVec Ideal S128x128 .f32) (ix2 k k') * Scalar.ofBits (F := Ideal) .f32 0x3DB504F3#32
def sinAt (k k' : Fin 128) : EReal := -((Host.sin angles : FVec Ideal S128x128 .f32) (ix2 k k')) * Scalar.ofBits (F := Ideal) .f32 0x3DB504F3#32

theorem table_re (c : Dev nD) (g g' : Fin 4) (k k' : Fin 128) :
    (V m c main_v31 : Vec Ideal S512x1024 .bf16) (ix2 ⟨g.val * 128 + k.val, by omega⟩ ⟨g'.val * 128 + k'.val, by omega⟩)
      = if g = g' then cosAt k k' else 0 := by
  rw [table_eq]
  refine (cat_left _ _ _ ⟨g'.val * 128 + k'.val, by omega⟩ _ rfl).trans ?_
  refine (congrArg (· * Scalar.ofBits (F := Ideal) .f32 0x3DB504F3#32) (kron_apply eye (Host.cos angles) g g' k k')).trans ?_
  rw [eye_apply]
  by_cases hg : g = g'
  · simp only [if_pos hg, one_mul, cosAt]
  · simp only [if_neg hg, zero_mul]

theorem table_im (c : Dev nD) (g g' : Fin 4) (k k' : Fin 128) :
    (V m c main_v31 : Vec Ideal S512x1024 .bf16) (ix2 ⟨g.val * 128 + k.val, by omega⟩ ⟨512 + (g'.val * 128 + k'.val), by omega⟩)
      = if g = g' then sinAt k k' else 0 := by
  rw [table_eq]
  refine (cat_right _ _ _ ⟨g'.val * 128 + k'.val, by omega⟩ _ (Nat.add_comm _ _)).trans ?_
  refine (congrArg (fun e : EReal => -e * Scalar.ofBits (F := Ideal) .f32 0x3DB504F3#32) (kron_apply eye (Host.sin angles) g g' k k')).trans ?_
  rw [eye_apply]
  by_cases hg : g = g'
  · simp only [if_pos hg, one_mul, sinAt]
  · simp only [if_neg hg, zero_mul, neg_zero]

end Cert.Kernel2Ideal.Inproj

end
-- ==== Proof.Inproj.Equation.lean ====
/- The kernel's three result arrays, entry by entry in the arguments. -/
module

public import proofs.«01_k».proof.Proof.Inproj.Body
public import proofs.«01_k».proof.Proof.Inproj.Table

@[expose] public section

set_option maxRecDepth 16384

noncomputable section

namespace Cert.Kernel2Ideal.Inproj

open Cert.Kernel2Ideal Cert.Kernel2Ideal.Gen Idealize.ShloMosaic Idealize.ShloMosaic.TcCoe

/-- The projection's value of example `b`, position `s`, column `l`. -/
def zOf (x : Vec Ideal S4x8192x1024 .f32) (g : Vec Ideal S1x1024 .f32) (w : Vec Ideal S1x1024x3072 .f32) (b : Fin 4) (s : Fin 8192) (l : Fin 3072) : EReal :=
  proj (fun j => x (ix3 b s j)) (fun j => g (ix2 0 j)) (fun j => w (ix3 0 j l))

/-- One entry of the transform of a group's 128 channels, with the table `t`. -/
def spec (x : Vec Ideal S4x8192x1024 .f32) (g : Vec Ideal S1x1024 .f32) (w : Vec Ideal S1x1024x3072 .f32) (t : Fin 128 → Fin 128 → EReal)
    (b : Fin 4) (s : Fin 8192) (q : Fin 4) (k' : Fin 128) : EReal :=
  ∑ k : Fin 128, zOf x g w b s ⟨q.val * 128 + k.val, by omega⟩ * t k k'

/-- Which block each window shows at point `t`. -/
theorem idx : ∀ t : Fin grid0.N, win0_0.index t = ![t.val, 0] ∧ win0_1.index t = ![0, 0] ∧ win0_2.index t = ![0, 0] ∧ win0_3.index t = ![0, 0]
    ∧ win0_4.index t = ![t.val, 0] ∧ win0_5.index t = ![0, t.val, 0] ∧ win0_6.index t = ![t.val, 0] :=
  (by decide +kernel)

variable (m : (ℓ : Loc nD τ sig) → Buf (Elt Ideal) ℓ)

/-- The tokens in rows. -/
theorem rows_apply (x : Vec Ideal S4x8192x1024 .f32) (b : Fin 4) (s : Fin 8192) (j : Fin 1024) :
    shapeCast S32768x1024 x shapeCasts_S4x8192x1024_S32768x1024 (ix2 ⟨b.val * 8192 + s.val, by omega⟩ j) = x (ix3 b s j) := by
  pointwise!

/-- A block of 1024 tokens. -/
theorem read_x (c : Dev nD) (t : Fin cfg0.N) (r j : Fin 1024) (b : Fin 4) (s : Fin 8192) (h : t.val * 1024 + r.val = b.val * 8192 + s.val) :
    (iblk m c 0 t : Vec Ideal S1024x1024 .f32) (ix2 r j) = (m (c.tc.loc main_arg0) : Vec Ideal S4x8192x1024 .f32) (ix3 b s j) := by
  have e : (iblk m c 0 t : Vec Ideal S1024x1024 .f32) (ix2 r j) = (V m c main_v0 : Vec Ideal S32768x1024 .f32) (ix2 ⟨b.val * 8192 + s.val, by omega⟩ j) := by
    blk_ext! [iblk, idx t]
  rw [e, x_eq]
  exact rows_apply _ b s j

theorem read_g (c : Dev nD) (t : Fin cfg0.N) (j : Fin 1024) :
    (iblk m c 1 t : Vec Ideal S1x1024 .f32) (ix2 0 j) = (m (c.tc.loc main_arg1) : Vec Ideal S1x1024 .f32) (ix2 0 j) := by
  have e : (iblk m c 1 t : Vec Ideal S1x1024 .f32) (ix2 0 j) = (V m c main_v2 : Vec Ideal S1x1024 .f32) (ix2 0 j) := by
    blk_ext! [iblk, idx t]
  rw [e, g_eq]

theorem read_w (c : Dev nD) (t : Fin cfg0.N) (j : Fin 1024) (l : Fin 3072) :
    (iblk m c 2 t : Vec Ideal S1024x3072 .bf16) (ix2 j l) = (m (c.tc.loc main_arg2) : Vec Ideal S1x1024x3072 .f32) (ix3 0 j l) := by
  have e : (iblk m c 2 t : Vec Ideal S1024x3072 .bf16) (ix2 j l) = (V m c main_v4 : Vec Ideal S1024x3072 .bf16) (ix2 j l) := by
    blk_ext! [iblk, idx t]
  rw [e, w_eq]

theorem read_t (c : Dev nD) (t : Fin cfg0.N) (j : Fin 512) (l : Fin 1024) :
    (iblk m c 3 t : Vec Ideal S512x1024 .bf16) (ix2 j l) = (V m c main_v31 : Vec Ideal S512x1024 .bf16) (ix2 j l) := by
  blk_ext! [iblk, idx t]

/-- A block's projection, in the arguments. -/
theorem z_args (c : Dev nD) (t : Fin cfg0.N) (r : Fin 1024) (l : Fin 3072) (b : Fin 4) (s : Fin 8192) (h : t.val * 1024 + r.val = b.val * 8192 + s.val) :
    zAt (iblk m c 0 t) (iblk m c 1 t) (iblk m c 2 t) r l = zOf (m (c.tc.loc main_arg0)) (m (c.tc.loc main_arg1)) (m (c.tc.loc main_arg2)) b s l := by
  unfold zAt zOf
  refine congr (congr (congrArg proj (funext fun j => ?_)) (funext fun j => ?_)) (funext fun j => ?_)
  · exact read_x m c t r j b s h
  · exact read_g m c t j
  · exact read_w m c t j l

/-- A sum over the 512 channels against one group's column of the table: only that group's 128 channels count. -/
theorem sum_group (z : Fin 512 → EReal) (T : Fin 512 → EReal) (w : Fin 128 → EReal) (q : Fin 4)
    (hT : ∀ (p : Fin 4) (k : Fin 128), T ⟨p.val * 128 + k.val, by omega⟩ = if p = q then w k else 0) :
    ∑ k : Fin 512, z k * T k = ∑ k : Fin 128, z ⟨q.val * 128 + k.val, by omega⟩ * w k := by
  rw [← Fin.sum_mul_add_congr (S := 4) (n := 128) (F := fun p k => z ⟨p.val * 128 + k.val, by omega⟩ * if p = q then w k else 0)
    (f := fun k => z k * T k) (fun p k hl => by rw [← hT p k])]
  rw [Finset.sum_eq_single q]
  · simp only [if_true]
  · intro p _ hp
    simp only [if_neg hp, mul_zero, Finset.sum_const_zero]
  · intro h
    exact absurd (Finset.mem_univ _) h

/-- A block's transform, in the arguments: real part, then imaginary part. -/
theorem pq_re (c : Dev nD) (t : Fin cfg0.N) (r : Fin 1024) (q : Fin 4) (k' : Fin 128) (b : Fin 4) (s : Fin 8192) (h : t.val * 1024 + r.val = b.val * 8192 + s.val) :
    pqAt (iblk m c 0 t) (iblk m c 1 t) (iblk m c 2 t) (iblk m c 3 t) r ⟨q.val * 128 + k'.val, by omega⟩
      = spec (m (c.tc.loc main_arg0)) (m (c.tc.loc main_arg1)) (m (c.tc.loc main_arg2)) cosAt b s q k' := by
  unfold pqAt spec
  rw [sum_group _ _ (fun k => cosAt k k') q fun p k => (read_t m c t _ _).trans (table_re m c p q k k')]
  exact Finset.sum_congr rfl fun k _ => congrArg (· * cosAt k k') (z_args m c t r _ b s h)

theorem pq_im (c : Dev nD) (t : Fin cfg0.N) (r : Fin 1024) (q : Fin 4) (k' : Fin 128) (b : Fin 4) (s : Fin 8192) (h : t.val * 1024 + r.val = b.val * 8192 + s.val) :
    pqAt (iblk m c 0 t) (iblk m c 1 t) (iblk m c 2 t) (iblk m c 3 t) r ⟨512 + (q.val * 128 + k'.val), by omega⟩
      = spec (m (c.tc.loc main_arg0)) (m (c.tc.loc main_arg1)) (m (c.tc.loc main_arg2)) sinAt b s q k' := by
  unfold pqAt spec
  rw [sum_group _ _ (fun k => sinAt k k') q fun p k => (read_t m c t _ _).trans (table_im m c p q k k')]
  exact Finset.sum_congr rfl fun k _ => congrArg (· * sinAt k k') (z_args m c t r _ b s h)

/-- The token and the column an entry of the transform's array belongs to. -/
def pqOf (x : Vec Ideal S4x8192x1024 .f32) (g : Vec Ideal S1x1024 .f32) (w : Vec Ideal S1x1024x3072 .f32) (R : Fin 32768) (l : Fin 1024) : EReal :=
  spec x g w (if l.val < 512 then cosAt else sinAt) ⟨R.val / 8192, by omega⟩ ⟨R.val % 8192, by omega⟩ ⟨l.val % 512 / 128, by omega⟩ ⟨l.val % 128, by omega⟩

theorem pq_args (c : Dev nD) (t : Fin cfg0.N) (r l : Fin 1024) (R : Fin 32768) (h : t.val * 1024 + r.val = R.val) :
    pqAt (iblk m c 0 t) (iblk m c 1 t) (iblk m c 2 t) (iblk m c 3 t) r l
      = pqOf (m (c.tc.loc main_arg0)) (m (c.tc.loc main_arg1)) (m (c.tc.loc main_arg2)) R l := by
  unfold pqOf
  have hR : t.val * 1024 + r.val = R.val / 8192 * 8192 + R.val % 8192 := by omega
  by_cases hl : l.val < 512
  · rw [if_pos hl]
    have e : l = ⟨l.val % 512 / 128 * 128 + l.val % 128, by omega⟩ := Fin.ext (by show l.val = l.val % 512 / 128 * 128 + l.val % 128; omega)
    exact (congrArg _ e).trans (pq_re m c t r ⟨l.val % 512 / 128, by omega⟩ ⟨l.val % 128, by omega⟩ ⟨R.val / 8192, by omega⟩ ⟨R.val % 8192, by omega⟩ hR)
  · rw [if_neg hl]
    have e : l = ⟨512 + (l.val % 512 / 128 * 128 + l.val % 128), by omega⟩ := Fin.ext (by show l.val = 512 + (l.val % 512 / 128 * 128 + l.val % 128); omega)
    exact (congrArg _ e).trans (pq_im m c t r ⟨l.val % 512 / 128, by omega⟩ ⟨l.val % 128, by omega⟩ ⟨R.val / 8192, by omega⟩ ⟨R.val % 8192, by omega⟩ hR)

/-- The channels' transform: the first result. -/
theorem arr_pq (c : Dev nD) : (dats m 0 c).arrAt 4 cfg0.N
    = (fun i => pqOf (m (c.tc.loc main_arg0)) (m (c.tc.loc main_arg1)) (m (c.tc.loc main_arg2)) (i 0) (i 1) : Vec Ideal S32768x1024 .bf16) := by
  refine (dats m 0 c).arrAt_eq_of_covers 4 _ (by decide +kernel) fun t hf y => ?_
  blk_simp
  rw [after0_4]
  obtain ⟨r, l, rfl⟩ : ∃ (r l : Fin 1024), y = ix2 r l := ⟨y 0, y 1, eq_ix2 y⟩
  have ht : t.val < 32 := lt_of_lt_of_eq t.isLt N_0
  have e : (win0_4.blk t).view.emb (ix2 r l) = ix2 ⟨t.val * 1024 + r.val, by omega⟩ l := by
    blk_ext [idx t]
  rw [out4_apply, pq_args m c t r l ⟨t.val * 1024 + r.val, by omega⟩ rfl, e]
  rfl

/-- The state-space channels' array. -/
def usOf (x : Vec Ideal S4x8192x1024 .f32) (g : Vec Ideal S1x1024 .f32) (w : Vec Ideal S1x1024x3072 .f32) (q : Fin 4) (R : Fin 32768) (l : Fin 128) : EReal :=
  zOf x g w ⟨R.val / 8192, by omega⟩ ⟨R.val % 8192, by omega⟩ ⟨512 + q.val * 128 + l.val, by omega⟩

theorem arr_us (c : Dev nD) : (dats m 0 c).arrAt 5 cfg0.N
    = (fun i => usOf (m (c.tc.loc main_arg0)) (m (c.tc.loc main_arg1)) (m (c.tc.loc main_arg2)) (i 0) (i 1) (i 2) : Vec Ideal S4x32768x128 .f32) := by
  refine (dats m 0 c).arrAt_eq_of_covers 5 _ (by decide +kernel) fun t hf y => ?_
  blk_simp
  rw [after0_5]
  obtain ⟨q, r, l, rfl⟩ : ∃ (q : Fin 4) (r : Fin 1024) (l : Fin 128), y = ix3 q r l := ⟨y 0, y 1, y 2, eq_ix3 y⟩
  have ht : t.val < 32 := lt_of_lt_of_eq t.isLt N_0
  have e : (win0_5.blk t).view.emb (ix3 q r l) = ix3 q ⟨t.val * 1024 + r.val, by omega⟩ l := by
    blk_ext [idx t]
  rw [out5_apply, z_args m c t r _ ⟨(t.val * 1024 + r.val) / 8192, by omega⟩ ⟨(t.val * 1024 + r.val) % 8192, by omega⟩
    (show _ = (t.val * 1024 + r.val) / 8192 * 8192 + (t.val * 1024 + r.val) % 8192 by omega), e]
  rfl

/-- The gates' array. -/
def gateOf (x : Vec Ideal S4x8192x1024 .f32) (g : Vec Ideal S1x1024 .f32) (w : Vec Ideal S1x1024x3072 .f32) (R : Fin 32768) (l : Fin 2048) : EReal :=
  Ideal.logistic (zOf x g w ⟨R.val / 8192, by omega⟩ ⟨R.val % 8192, by omega⟩ ⟨1024 + l.val, by omega⟩)

theorem arr_gate (c : Dev nD) : (dats m 0 c).arrAt 6 cfg0.N
    = (fun i => gateOf (m (c.tc.loc main_arg0)) (m (c.tc.loc main_arg1)) (m (c.tc.loc main_arg2)) (i 0) (i 1) : Vec Ideal S32768x2048 .bf16) := by
  refine (dats m 0 c).arrAt_eq_of_covers 6 _ (by decide +kernel) fun t hf y => ?_
  blk_simp
  rw [after0_6]
  obtain ⟨r, l, rfl⟩ : ∃ (r : Fin 1024) (l : Fin 2048), y = ix2 r l := ⟨y 0, y 1, eq_ix2 y⟩
  have ht : t.val < 32 := lt_of_lt_of_eq t.isLt N_0
  have e : (win0_6.blk t).view.emb (ix2 r l) = ix2 ⟨t.val * 1024 + r.val, by omega⟩ l := by
    blk_ext [idx t]
  rw [out6_apply, z_args m c t r _ ⟨(t.val * 1024 + r.val) / 8192, by omega⟩ ⟨(t.val * 1024 + r.val) % 8192, by omega⟩
    (show _ = (t.val * 1024 + r.val) / 8192 * 8192 + (t.val * 1024 + r.val) % 8192 by omega), e]
  rfl

end Cert.Kernel2Ideal.Inproj

end
-- ==== Proof.Inproj.Plain.lean ====
/- The reference's three results, entry by entry: the same expressions. -/
module

public import proofs.«01_k».proof.Proof.Inproj.Equation
public import proofs.«01_k».proof.Proof.Gen.Reference2Ideal.Run

@[expose] public section

set_option maxRecDepth 16384

noncomputable section

namespace Cert.Reference2Ideal.Inproj

open Cert.Reference2Ideal Cert.Reference2Ideal.Gen Idealize.ShloMosaic Idealize.ShloMosaic.TcCoe
open Cert.Kernel2Ideal.Inproj (proj zOf spec pqOf usOf gateOf angles words modulus rems prods cosAt sinAt)

/-- The projection of the normalised tokens. -/
def zAll (x : Vec Ideal S4x8192x1024 .f32) (g : Vec Ideal S1x1024 .f32) (w : Vec Ideal S1x1024x3072 .f32) : FVec Ideal S4x8192x3072 .f32 :=
  Host.dotGeneral dot_S4x8192x1024_S1024x3072_S4x8192x3072_2_0_01_1_n_n none (mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ g shapeCasts_S1x1024_S1024)))) (shapeCast _ w shapeCasts_S1x1024x3072_S1024x3072 : FVec Ideal S1024x3072 .f32)

theorem z_apply (x : Vec Ideal S4x8192x1024 .f32) (g : Vec Ideal S1x1024 .f32) (w : Vec Ideal S1x1024x3072 .f32) (b : Fin 4) (s : Fin 8192) (l : Fin 3072) :
    zAll x g w (ix3 b s l) = zOf x g w b s l := by
  pointwise [zAll, zOf, proj]

/-- The transform of one table: the groups of 128 channels against it. -/
def trans (z : FVec Ideal S4x8192x3072 .f32) (t : FVec Ideal S128x128 .f32) : FVec Ideal S32768x512 .f32 :=
  shapeCast _ (Host.dotGeneral dot_S32768x4x128_S128x128_S32768x4x128_2_0_01_1_n_n none (shapeCast _ (extractStridedSlice S4x8192x512 ![0, 0, 0] z slices_S4x8192x3072_S4x8192x512_0_0_0) shapeCasts_S4x8192x512_S32768x4x128) t) shapeCasts_S32768x4x128_S32768x512

theorem group_apply (z : FVec Ideal S4x8192x512 .f32) (b : Fin 4) (s : Fin 8192) (q : Fin 4) (k : Fin 128) :
    shapeCast S32768x4x128 z shapeCasts_S4x8192x512_S32768x4x128 (ix3 ⟨b.val * 8192 + s.val, by omega⟩ q k) = z (ix3 b s ⟨q.val * 128 + k.val, by omega⟩) := by
  pointwise!

theorem flat_apply (z : FVec Ideal S32768x4x128 .f32) (R : Fin 32768) (q : Fin 4) (k : Fin 128) :
    shapeCast S32768x512 z shapeCasts_S32768x4x128_S32768x512 (ix2 R ⟨q.val * 128 + k.val, by omega⟩) = z (ix3 R q k) := by
  pointwise!

theorem trans_apply (z : FVec Ideal S4x8192x3072 .f32) (t : FVec Ideal S128x128 .f32) (b : Fin 4) (s : Fin 8192) (q : Fin 4) (k' : Fin 128) :
    trans z t (ix2 ⟨b.val * 8192 + s.val, by omega⟩ ⟨q.val * 128 + k'.val, by omega⟩)
      = ∑ k : Fin 128, z (ix3 b s ⟨q.val * 128 + k.val, by omega⟩) * t (ix2 k k') := by
  unfold trans
  rw [flat_apply]
  pointwise [group_apply]

/-- A whole row and column of the transform. -/
theorem trans_at (z : FVec Ideal S4x8192x3072 .f32) (t : FVec Ideal S128x128 .f32) (R : Fin 32768) (l : Fin 512) :
    trans z t (ix2 R l) = ∑ k : Fin 128, z (ix3 ⟨R.val / 8192, by omega⟩ ⟨R.val % 8192, by omega⟩ ⟨l.val / 128 * 128 + k.val, by omega⟩) * t (ix2 k ⟨l.val % 128, by omega⟩) := by
  have eR : R = ⟨R.val / 8192 * 8192 + R.val % 8192, by omega⟩ := Fin.ext (by show R.val = R.val / 8192 * 8192 + R.val % 8192; omega)
  have el : l = ⟨l.val / 128 * 128 + l.val % 128, by omega⟩ := Fin.ext (by show l.val = l.val / 128 * 128 + l.val % 128; omega)
  exact (congrArg (trans z t) (congr (congrArg ix2 eR) el)).trans
    (trans_apply z t ⟨R.val / 8192, by omega⟩ ⟨R.val % 8192, by omega⟩ ⟨l.val / 128, by omega⟩ ⟨l.val % 128, by omega⟩)

def scale : FVec Ideal S128x128 .f32 := broadcastInDim S128x128 ![] bcast_S_S128x128 (constant S_ .f32 0x3DB504F3#32)

def both (u v : FVec Ideal S32768x512 .f32) : FVec Ideal S32768x1024 .f32 :=
  concatenate S32768x1024 1 [⟨S32768x512, u⟩, ⟨S32768x512, v⟩] concatenates_S32768x512_S32768x512_S32768x1024_d1

theorem both_left (u v : FVec Ideal S32768x512 .f32) (r : Fin 32768) (c : Fin 512) (d : Fin 1024) (h : c.val = d.val) : both u v (ix2 r d) = u (ix2 r c) :=
  concatenate_pair_apply_left (t := S32768x1024) (s₁ := S32768x512) (s₂ := S32768x512) 1 u v concatenates_S32768x512_S32768x512_S32768x1024_d1 (ix2 r d) rfl (ix2 r c) fun b =>
    match b with
    | ⟨0, _⟩ => rfl
    | ⟨1, _⟩ => h

theorem both_right (u v : FVec Ideal S32768x512 .f32) (r : Fin 32768) (c : Fin 512) (d : Fin 1024) (h : c.val + 512 = d.val) : both u v (ix2 r d) = v (ix2 r c) :=
  concatenate_pair_apply_right (t := S32768x1024) (s₁ := S32768x512) (s₂ := S32768x512) 1 u v concatenates_S32768x512_S32768x512_S32768x1024_d1 (ix2 r d) rfl rfl (ix2 r c)
    (fun b hb => match b, hb with
      | ⟨0, _⟩, _ => rfl
      | ⟨1, _⟩, hb => absurd rfl hb) h

/-- The channels' transform at an entry. -/
theorem both_apply (x : Vec Ideal S4x8192x1024 .f32) (g : Vec Ideal S1x1024 .f32) (w : Vec Ideal S1x1024x3072 .f32) (R : Fin 32768) (l : Fin 1024) :
    both (trans (zAll x g w) (mulf (Host.cos angles) scale)) (trans (zAll x g w) (mulf (Host.negf (Host.sin angles)) scale)) (ix2 R l)
      = pqOf x g w R l := by
  unfold pqOf spec
  by_cases hl : l.val < 512
  · rw [if_pos hl, both_left _ _ R ⟨l.val, hl⟩ l rfl, trans_at]
    refine Finset.sum_congr rfl fun k _ => ?_
    rw [z_apply]
    have e : (⟨l.val % 512 / 128 * 128 + k.val, by omega⟩ : Fin 3072) = ⟨l.val / 128 * 128 + k.val, by omega⟩ :=
      Fin.ext (by show l.val % 512 / 128 * 128 + k.val = l.val / 128 * 128 + k.val; rw [Nat.mod_eq_of_lt hl])
    show zOf x g w _ _ _ * cosAt k _ = zOf x g w _ _ ⟨l.val % 512 / 128 * 128 + k.val, _⟩ * cosAt k _
    rw [e]
  · have h5 : l.val % 512 = l.val - 512 := by omega
    rw [if_neg hl, both_right _ _ R ⟨l.val - 512, by omega⟩ l (by show l.val - 512 + 512 = l.val; omega), trans_at]
    refine Finset.sum_congr rfl fun k _ => ?_
    rw [z_apply]
    have e : (⟨l.val % 512 / 128 * 128 + k.val, by omega⟩ : Fin 3072) = ⟨(l.val - 512) / 128 * 128 + k.val, by omega⟩ :=
      Fin.ext (by show l.val % 512 / 128 * 128 + k.val = (l.val - 512) / 128 * 128 + k.val; rw [h5])
    have e' : (⟨l.val % 128, by omega⟩ : Fin 128) = ⟨(l.val - 512) % 128, by omega⟩ := Fin.ext (by show l.val % 128 = (l.val - 512) % 128; omega)
    show zOf x g w _ _ _ * sinAt k _ = zOf x g w _ _ ⟨l.val % 512 / 128 * 128 + k.val, _⟩ * sinAt k ⟨l.val % 128, _⟩
    rw [e, e']

/-- The state-space channels, group by group. -/
def usAll (z : FVec Ideal S4x8192x3072 .f32) : FVec Ideal S4x32768x128 .f32 :=
  transpose S4x32768x128 [1, 0, 2] (shapeCast S32768x4x128 (extractStridedSlice S4x8192x512 ![0, 0, 512] z slices_S4x8192x3072_S4x8192x512_0_0_512) shapeCasts_S4x8192x512_S32768x4x128) transposes_S32768x4x128_S4x32768x128_1_0_2

/-- The state-space channels at an entry. -/
theorem us_apply (z : FVec Ideal S4x8192x3072 .f32) (q : Fin 4) (b : Fin 4) (s : Fin 8192) (k : Fin 128) :
    usAll z
      (ix3 q ⟨b.val * 8192 + s.val, by omega⟩ k) = z (ix3 b s ⟨512 + q.val * 128 + k.val, by omega⟩) := by
  unfold usAll
  pointwise [group_apply]
  simp only [Nat.add_assoc]

/-- The gates. -/
def gateAll (z : FVec Ideal S4x8192x3072 .f32) : FVec Ideal S32768x2048 .bf16 :=
  truncf .bf16 (shapeCast S32768x2048 (Host.divf (broadcastInDim S4x8192x2048 ![] bcast_S_S4x8192x2048 (constant S_ .f32 0x3F800000#32)) (addf (broadcastInDim S4x8192x2048 ![] bcast_S_S4x8192x2048 (constant S_ .f32 0x3F800000#32)) (Host.exp (Host.negf (extractStridedSlice S4x8192x2048 ![0, 0, 1024] z slices_S4x8192x3072_S4x8192x2048_0_0_1024))))) shapeCasts_S4x8192x2048_S32768x2048) bitsLt_bf16_f32

/-- The gates at an entry. -/
theorem gate_apply (z : FVec Ideal S4x8192x3072 .f32) (b : Fin 4) (s : Fin 8192) (l : Fin 2048) :
    gateAll z
      (ix2 ⟨b.val * 8192 + s.val, by omega⟩ l) = Ideal.logistic (z (ix3 b s ⟨1024 + l.val, by omega⟩)) := by
  unfold gateAll
  pointwise!

variable (x : Vec Ideal S4x8192x1024 .f32) (g : Vec Ideal S1x1024 .f32) (w : Vec Ideal S1x1024x3072 .f32)

/-- The three results as whole arrays. -/
theorem pq_eq : truncf .bf16 (both (trans (zAll x g w) (mulf (Host.cos angles) scale)) (trans (zAll x g w) (mulf (Host.negf (Host.sin angles)) scale))) bitsLt_bf16_f32
    = (fun i => pqOf x g w (i 0) (i 1) : Vec Ideal S32768x1024 .bf16) := by
  funext i
  obtain ⟨R, l, rfl⟩ : ∃ (R : Fin 32768) (l : Fin 1024), i = ix2 R l := ⟨i 0, i 1, eq_ix2 i⟩
  exact both_apply x g w R l

theorem us_eq : usAll (zAll x g w)
    = (fun i => usOf x g w (i 0) (i 1) (i 2) : Vec Ideal S4x32768x128 .f32) := by
  funext i
  obtain ⟨q, R, l, rfl⟩ : ∃ (q : Fin 4) (R : Fin 32768) (l : Fin 128), i = ix3 q R l := ⟨i 0, i 1, i 2, eq_ix3 i⟩
  have eR : R = ⟨R.val / 8192 * 8192 + R.val % 8192, by omega⟩ := Fin.ext (by show R.val = R.val / 8192 * 8192 + R.val % 8192; omega)
  refine (congrArg (fun R => usAll (zAll x g w) (ix3 q R l)) eR).trans ?_
  refine (us_apply (zAll x g w) q ⟨R.val / 8192, by omega⟩ ⟨R.val % 8192, by omega⟩ l).trans ?_
  rw [z_apply]
  rfl

theorem gate_eq : gateAll (zAll x g w)
    = (fun i => gateOf x g w (i 0) (i 1) : Vec Ideal S32768x2048 .bf16) := by
  funext i
  obtain ⟨R, l, rfl⟩ : ∃ (R : Fin 32768) (l : Fin 2048), i = ix2 R l := ⟨i 0, i 1, eq_ix2 i⟩
  have eR : R = ⟨R.val / 8192 * 8192 + R.val % 8192, by omega⟩ := Fin.ext (by show R.val = R.val / 8192 * 8192 + R.val % 8192; omega)
  refine (congrArg (fun R => gateAll (zAll x g w) (ix2 R l)) eR).trans ?_
  refine (gate_apply (zAll x g w) ⟨R.val / 8192, by omega⟩ ⟨R.val % 8192, by omega⟩ l).trans ?_
  rw [z_apply]
  rfl

/-- The transform's generated term is the one above. -/
theorem term_pq (m : (ℓ : Loc nD τ sig) → Buf (Elt Ideal) ℓ) (c : Dev nD) :
    Value.res_main_v42 m c = truncf .bf16 (both (trans (zAll (m (c.tc.loc main_arg0)) (m (c.tc.loc main_arg1)) (m (c.tc.loc main_arg2))) (mulf (Host.cos angles) scale))
      (trans (zAll (m (c.tc.loc main_arg0)) (m (c.tc.loc main_arg1)) (m (c.tc.loc main_arg2))) (mulf (Host.negf (Host.sin angles)) scale))) bitsLt_bf16_f32 := rfl

end Cert.Reference2Ideal.Inproj

end
-- ==== Proof.Fourier.Phase.lean ====
/- The two-stage transform in real numbers: the angles of the two stages add up. -/
module

public import Mathlib.Analysis.SpecialFunctions.Trigonometric.Basic
public import Mathlib.Data.EReal.Operations

@[expose] public section

noncomputable section

namespace Cert.Kernel5Ideal.Fourier

open Finset

/-- A finite sum of reals, as an extended real. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- Transforming the coarse positions first and the fine ones after, against the transform at the summed angles. -/
theorem two_stage (P Q : Fin 64 → Fin 128 → ℝ) (α : Fin 64 → ℝ) (β : Fin 128 → ℝ) (e s : ℝ) :
    (∑ j : Fin 128, Real.cos (β j) * s * (∑ i : Fin 64, Real.cos (α i) * e * P i j + ∑ i : Fin 64, Real.sin (α i) * e * Q i j)
      + ∑ j : Fin 128, Real.sin (β j) * s * (∑ i : Fin 64, Real.cos (α i) * e * Q i j - ∑ i : Fin 64, Real.sin (α i) * e * P i j))
    = ∑ i : Fin 64, ∑ j : Fin 128, P i j * (Real.cos (α i + β j) * (s * e)) + ∑ i : Fin 64, ∑ j : Fin 128, Q i j * (Real.sin (α i + β j) * (s * e)) := by
  rw [Finset.sum_comm (s := (Finset.univ : Finset (Fin 64))), Finset.sum_comm (s := (Finset.univ : Finset (Fin 64)))]
  rw [← Finset.sum_add_distrib, ← Finset.sum_add_distrib]
  refine Finset.sum_congr rfl fun j _ => ?_
  rw [← Finset.sum_add_distrib, ← Finset.sum_sub_distrib, ← Finset.sum_add_distrib, Finset.mul_sum, Finset.mul_sum, ← Finset.sum_add_distrib]
  refine Finset.sum_congr rfl fun i _ => ?_
  rw [Real.cos_add, Real.sin_add]
  ring

/-- The same of extended reals that are all finite. -/
theorem two_stage_finite (P Q : Fin 64 → Fin 128 → ℝ) (α : Fin 64 → ℝ) (β : Fin 128 → ℝ) (e s : ℝ) :
    (∑ j : Fin 128, ((Real.cos (β j) * s : ℝ) : EReal) * (∑ i : Fin 64, ((Real.cos (α i) * e : ℝ) : EReal) * (P i j : EReal) + ∑ i : Fin 64, ((Real.sin (α i) * e : ℝ) : EReal) * (Q i j : EReal))
      + ∑ j : Fin 128, ((Real.sin (β j) * s : ℝ) : EReal) * (∑ i : Fin 64, ((Real.cos (α i) * e : ℝ) : EReal) * (Q i j : EReal) - ∑ i : Fin 64, ((Real.sin (α i) * e : ℝ) : EReal) * (P i j : EReal)))
    = ∑ i : Fin 64, ∑ j : Fin 128, (P i j : EReal) * ((Real.cos (α i + β j) * (s * e) : ℝ) : EReal)
      + ∑ i : Fin 64, ∑ j : Fin 128, (Q i j : EReal) * ((Real.sin (α i + β j) * (s * e) : ℝ) : EReal) := by
  simp only [← EReal.coe_mul, ← coe_sum, ← EReal.coe_add, ← EReal.coe_sub]
  exact congrArg _ (two_stage P Q α β e s)

/-- The phase of a frequency `p + 64 q` at a position `128 i`, in 8192ths of a turn without the whole ones. -/
theorem phase (p q i : ℕ) : (128 * i) * (p + 64 * q) % 8192 = 128 * ((p * i) % 64) := by
  have e : (128 * i) * (p + 64 * q) = 128 * (p * i) + 8192 * (i * q) := by ring
  rw [e, Nat.add_mul_mod_self_left, show 8192 = 128 * 64 from rfl, Nat.mul_mod_mul_left]

end Cert.Kernel5Ideal.Fourier

end
-- ==== Proof.Fourier.Words.lean ====
/- Words read as numbers: products, sums and the host's remainder of small numbers, and a small word as a float. -/
module

public import proofs.«01_k».proof.Proof.Gen.Kernel5Ideal.Frame
public import Idealize.ShloMosaic.Lib.Pipeline.ValueKit
public import Idealize.ShloMosaic.Lib.IdealHost
public import Idealize.ShloMosaic.Lib.Pointwise

@[expose] public section

noncomputable section

namespace Cert.Kernel5Ideal.Fourier

open Idealize.ShloMosaic Idealize.ShloMosaic.ValueIdx

/-- The shape of a scalar. -/
abbrev S0 : Shape := ⟨0, ![]⟩

/-- A modulus as the host guards it against zero. -/
def modulus (k : BitVec 32) : IVec S0 32 :=
  select (cmpi .eq (id (constantI S0 32 k)) (constantI S0 32 0#32)) (constantI S0 32 1#32) (id (constantI S0 32 k))

variable {s : Shape} (hb : S0.BroadcastsInDim s ![])

/-- The remainders as the host computes them: the hardware's remainder, moved up by the modulus where its sign is not the modulus's. -/
def remV (x : IVec s 32) (k : BitVec 32) : IVec s 32 :=
  select (andi (cmpi .ne (cmpi .slt (Host.remsi x (broadcastInDim s ![] hb (modulus k))) (broadcastInDim s ![] hb (constantI S0 32 0#32)))
      (broadcastInDim s ![] hb (cmpi .slt (modulus k) (constantI S0 32 0#32))))
      (cmpi .ne (Host.remsi x (broadcastInDim s ![] hb (modulus k))) (broadcastInDim s ![] hb (constantI S0 32 0#32))))
    (addi (Host.remsi x (broadcastInDim s ![] hb (modulus k))) (broadcastInDim s ![] hb (modulus k)))
    (Host.remsi x (broadcastInDim s ![] hb (modulus k)))

theorem word_toInt (n : ℕ) (h : n < 2 ^ 31) : (BitVec.ofNat 32 n).toInt = n := by
  rw [BitVec.toInt_eq_toNat_of_lt (by rw [BitVec.toNat_ofNat]; omega), BitVec.toNat_ofNat, Nat.mod_eq_of_lt (by omega)]

theorem word_slt_zero (n : ℕ) (h : n < 2 ^ 31) : IntOp.cmpi .slt (BitVec.ofNat 32 n) 0#32 = 0#1 := by
  have : ¬ IntOp.cmpi .slt (BitVec.ofNat 32 n) 0#32 = 1#1 := fun e => by
    have := IntOp.cmpi_slt.1 e
    rw [word_toInt n h] at this
    simp at this
    omega
  revert this
  generalize IntOp.cmpi .slt (BitVec.ofNat 32 n) 0#32 = b
  revert b
  decide

theorem modulus_apply (k : ℕ) (h0 : 0 < k) (hk : k < 2 ^ 31) (i : S0.Idx) : modulus (BitVec.ofNat 32 k) i = BitVec.ofNat 32 k := by
  have hne : ¬ IntOp.cmpi .eq (BitVec.ofNat 32 k) 0#32 = 1#1 := fun e => by
    have := congrArg BitVec.toNat (IntOp.cmpi_eq.1 e)
    rw [BitVec.toNat_ofNat, Nat.mod_eq_of_lt (by omega)] at this
    simp at this
    omega
  exact if_neg hne

/-- A remainder's word is the word of the remainder. -/
theorem remV_apply (x : IVec s 32) (k n : ℕ) (i : s.Idx) (hx : x i = BitVec.ofNat 32 n) (hn : n < 2 ^ 31) (h0 : 0 < k) (hk : k < 2 ^ 31) :
    remV hb x (BitVec.ofNat 32 k) i = BitVec.ofNat 32 (n % k) := by
  have hlt : n % k < 2 ^ 31 := lt_of_lt_of_le (Nat.mod_lt n h0) hk.le
  have hm : broadcastInDim s ![] hb (modulus (BitVec.ofNat 32 k)) i = BitVec.ofNat 32 k :=
    (broadcastInDim_scalar_apply hb _ i).trans (modulus_apply k h0 hk _)
  have hr : Host.remsi x (broadcastInDim s ![] hb (modulus (BitVec.ofNat 32 k))) i = BitVec.ofNat 32 (n % k) := by
    show IntOp.remsi .host (x i) (broadcastInDim s ![] hb (modulus (BitVec.ofNat 32 k)) i) = _
    rw [hx, hm]
    apply BitVec.eq_of_toNat_eq
    have hnN : (BitVec.ofNat 32 n).toNat = n := by rw [BitVec.toNat_ofNat]; omega
    rw [IntOp.toNat_remsi .host (by rw [hnN]; omega) k h0 (by omega), hnN, BitVec.toNat_ofNat, Nat.mod_eq_of_lt (show n % k < 2 ^ 32 by omega)]
  have hs : broadcastInDim s ![] hb (cmpi .slt (modulus (BitVec.ofNat 32 k)) (constantI S0 32 0#32)) i = 0#1 := by
    refine (broadcastInDim_scalar_apply hb _ i).trans ?_
    show IntOp.cmpi .slt (modulus (BitVec.ofNat 32 k) ValueIdx.ix0) 0#32 = 0#1
    rw [modulus_apply k h0 hk, word_slt_zero k hk]
  show Scalar.select (IntOp.andi (IntOp.cmpi .ne (IntOp.cmpi .slt (Host.remsi x (broadcastInDim s ![] hb (modulus (BitVec.ofNat 32 k))) i) 0#32) _) _) _
    (Host.remsi x (broadcastInDim s ![] hb (modulus (BitVec.ofNat 32 k))) i) = _
  rw [hr, hs, word_slt_zero _ hlt]
  refine if_neg fun e => ?_
  exact absurd (IntOp.andi_eq_one.1 e).1 (by decide)

theorem muli_word (a b : ℕ) : IntOp.muli (BitVec.ofNat 32 a) (BitVec.ofNat 32 b) = BitVec.ofNat 32 (a * b) := by
  unfold IntOp.muli
  rw [BitVec.ofNat_mul_ofNat]

theorem addi_word (a b : ℕ) : IntOp.addi (BitVec.ofNat 32 a) (BitVec.ofNat 32 b) = BitVec.ofNat 32 (a + b) := by
  unfold IntOp.addi
  rw [BitVec.ofNat_add_ofNat]

theorem subi_word (a b : ℕ) : IntOp.subi (BitVec.ofNat 32 (a + b)) (BitVec.ofNat 32 b) = BitVec.ofNat 32 a := by
  rw [← addi_word]
  unfold IntOp.subi IntOp.addi
  rw [BitVec.add_sub_cancel]

/-- A small word as a float. -/
theorem float_word (n : ℕ) (h : n < 2 ^ 31) (φ : FTy) : Scalar.sitofp (F := Ideal) φ (BitVec.ofNat 32 n) = ((n : ℝ) : EReal) := by
  show (((BitVec.ofNat 32 n).toInt : ℝ) : EReal) = _
  rw [word_toInt n h]
  norm_num

end Cert.Kernel5Ideal.Fourier

end
-- ==== Proof.Fourier.Body.lean ====
/- One grid point of each of the two Fourier calls, read element by element. -/
module

public import proofs.«01_k».proof.Proof.Fourier.Words
public import Idealize.ShloMosaic.Lib.Pipeline.ReadBack

@[expose] public section

set_option maxRecDepth 16384

noncomputable section

namespace Cert.Kernel5Ideal.Fourier

open Cert.Kernel5Ideal Cert.Kernel5Ideal.Gen Idealize.ShloMosaic Idealize.ShloMosaic.TcCoe

/-! ## The first call -/

/-- The eight slots of a half block with their positions joined, against the two tables. -/
def rows (y : FVec Ideal S64x8x1024 .bf16) : FVec Ideal S512x1024 .bf16 := shapeCast S512x1024 y shapeCasts_S64x8x1024_S512x1024

def against (w : Vec Ideal S512x512 .bf16) (y : FVec Ideal S64x8x1024 .bf16) : FVec Ideal S512x1024 .f32 :=
  matmul (φ₁ := .bf16) dot_S512x512_S512x1024_S512x1024_1_0_0_1_n_n none (shapeCast S512x512 w shapeCasts_S512x512_S512x512 : FVec Ideal S512x512 .bf16) (rows y) (constant S512x1024 .f32 0x00000000#32)

def sumPart (w v : Vec Ideal S512x512 .bf16) (y : FVec Ideal S64x8x1024 .bf16) : FVec Ideal S512x512 .f32 :=
  addf (extractStridedSlice S512x512 ![0, 0] (against w y) slices_S512x1024_o0_0_S512x512) (extractStridedSlice S512x512 ![0, 512] (against v y) slices_S512x1024_o0_512_S512x512)

def diffPart (w v : Vec Ideal S512x512 .bf16) (y : FVec Ideal S64x8x1024 .bf16) : FVec Ideal S512x512 .f32 :=
  subf (extractStridedSlice S512x512 ![0, 512] (against w y) slices_S512x1024_o0_512_S512x512) (extractStridedSlice S512x512 ![0, 0] (against v y) slices_S512x1024_o0_0_S512x512)

def parts (u v : FVec Ideal S512x512 .f32) : FVec Ideal S512x1024 .f32 :=
  concatenate S512x1024 1 [⟨S512x512, u⟩, ⟨S512x512, v⟩] concatenates_S512x512_S512x512_S512x1024_d1

def half (w v : Vec Ideal S512x512 .bf16) (y : FVec Ideal S64x8x1024 .bf16) : FVec Ideal S64x8x1024 .f32 :=
  shapeCast S64x8x1024 (parts (sumPart w v y) (diffPart w v y)) shapeCasts_S512x1024_S64x8x1024

def halves (u v : FVec Ideal S64x8x1024 .f32) : FVec Ideal S64x16x1024 .f32 :=
  concatenate S64x16x1024 1 [⟨S64x8x1024, u⟩, ⟨S64x8x1024, v⟩] concatenates_S64x8x1024_S64x8x1024_S64x16x1024_d1

def block (x : Vec Ideal S1x64x16x1024 .bf16) : FVec Ideal S64x16x1024 .bf16 := shapeCast S64x16x1024 x shapeCasts_S1x64x16x1024_S64x16x1024

def low (x : Vec Ideal S1x64x16x1024 .bf16) : FVec Ideal S64x8x1024 .bf16 := extractStridedSlice S64x8x1024 ![0, 0, 0] (block x) slices_S64x16x1024_o0_0_0_S64x8x1024
def high (x : Vec Ideal S1x64x16x1024 .bf16) : FVec Ideal S64x8x1024 .bf16 := extractStridedSlice S64x8x1024 ![0, 8, 0] (block x) slices_S64x16x1024_o0_8_0_S64x8x1024

theorem pay2_eq (x : Vec Ideal S1x64x16x1024 .bf16) (w v : Vec Ideal S512x512 .bf16) : k0_pay2 x w v w v = halves (half w v (low x)) (half w v (high x)) := by
  unfold k0_pay2
  rfl

theorem low_apply (x : Vec Ideal S1x64x16x1024 .bf16) (i : Fin 64) (b : Fin 8) (c : Fin 1024) : low x (ix3 i b c) = x (ix4 0 i ⟨b.val, by omega⟩ c) := by
  pointwise [low, block]

theorem high_apply (x : Vec Ideal S1x64x16x1024 .bf16) (i : Fin 64) (b : Fin 8) (c : Fin 1024) : high x (ix3 i b c) = x (ix4 0 i ⟨8 + b.val, by omega⟩ c) := by
  pointwise [high, block]

theorem rows_apply (y : FVec Ideal S64x8x1024 .bf16) (i : Fin 64) (b : Fin 8) (c : Fin 1024) : rows y (ix2 ⟨i.val * 8 + b.val, by omega⟩ c) = y (ix3 i b c) := by
  unfold rows
  pointwise!

theorem prod_apply (w : Vec Ideal S512x512 .bf16) (y : FVec Ideal S64x8x1024 .bf16) (r : Fin 512) (c : Fin 1024) :
    against w y (ix2 r c) = ∑ l : Fin 512, w (ix2 r l) * rows y (ix2 l c) := by
  pointwise [against]

/-- A sum over the 512 joined positions of a row that is zero off its own slot. -/
theorem sum_slots (w : Fin 512 → EReal) (z : Fin 512 → EReal) (W : Fin 64 → EReal) (a : Fin 8)
    (hw : ∀ (i : Fin 64) (b : Fin 8), w ⟨i.val * 8 + b.val, by omega⟩ = if a = b then W i else 0) :
    ∑ l : Fin 512, w l * z l = ∑ i : Fin 64, W i * z ⟨i.val * 8 + a.val, by omega⟩ := by
  rw [← Fin.sum_mul_add_congr (S := 64) (n := 8) (F := fun i b => (if a = b then W i else 0) * z ⟨i.val * 8 + b.val, by omega⟩)
    (f := fun l => w l * z l) (fun i b hl => by rw [← hw i b])]
  refine Finset.sum_congr rfl fun i _ => ?_
  rw [Finset.sum_eq_single a]
  · rw [if_pos rfl]
  · intro b _ hb
    rw [if_neg (fun e => hb e.symm), zero_mul]
  · intro h
    exact absurd (Finset.mem_univ _) h

theorem prod_slots (w : Vec Ideal S512x512 .bf16) (y : FVec Ideal S64x8x1024 .bf16) (p : Fin 64) (a : Fin 8) (c : Fin 1024) (W : Fin 64 → EReal)
    (hw : ∀ (i : Fin 64) (b : Fin 8), w (ix2 ⟨p.val * 8 + a.val, by omega⟩ ⟨i.val * 8 + b.val, by omega⟩) = if a = b then W i else 0) :
    against w y (ix2 ⟨p.val * 8 + a.val, by omega⟩ c) = ∑ i : Fin 64, W i * y (ix3 i a c) := by
  rw [prod_apply, sum_slots _ _ W a hw]
  exact Finset.sum_congr rfl fun i _ => congrArg (W i * ·) (rows_apply y i a c)

theorem parts_left (u v : FVec Ideal S512x512 .f32) (r c : Fin 512) (d : Fin 1024) (h : c.val = d.val) : parts u v (ix2 r d) = u (ix2 r c) :=
  concatenate_pair_apply_left (t := S512x1024) (s₁ := S512x512) (s₂ := S512x512) 1 u v concatenates_S512x512_S512x512_S512x1024_d1 (ix2 r d) rfl (ix2 r c) fun b =>
    match b with
    | ⟨0, _⟩ => rfl
    | ⟨1, _⟩ => h

theorem parts_right (u v : FVec Ideal S512x512 .f32) (r c : Fin 512) (d : Fin 1024) (h : c.val + 512 = d.val) : parts u v (ix2 r d) = v (ix2 r c) :=
  concatenate_pair_apply_right (t := S512x1024) (s₁ := S512x512) (s₂ := S512x512) 1 u v concatenates_S512x512_S512x512_S512x1024_d1 (ix2 r d) rfl rfl (ix2 r c)
    (fun b hb => match b, hb with
      | ⟨0, _⟩, _ => rfl
      | ⟨1, _⟩, hb => absurd rfl hb) h

theorem apart_apply (u : FVec Ideal S512x1024 .f32) (p : Fin 64) (a : Fin 8) (c : Fin 1024) :
    shapeCast S64x8x1024 u shapeCasts_S512x1024_S64x8x1024 (ix3 p a c) = u (ix2 ⟨p.val * 8 + a.val, by omega⟩ c) := by
  pointwise!

theorem sumPart_apply (w v : Vec Ideal S512x512 .bf16) (y : FVec Ideal S64x8x1024 .bf16) (r c : Fin 512) :
    sumPart w v y (ix2 r c) = against w y (ix2 r ⟨c.val, by omega⟩) + against v y (ix2 r ⟨512 + c.val, by omega⟩) := by
  unfold sumPart
  generalize against w y = s
  generalize against v y = t
  pointwise

theorem diffPart_apply (w v : Vec Ideal S512x512 .bf16) (y : FVec Ideal S64x8x1024 .bf16) (r c : Fin 512) :
    diffPart w v y (ix2 r c) = against w y (ix2 r ⟨512 + c.val, by omega⟩) - against v y (ix2 r ⟨c.val, by omega⟩) := by
  unfold diffPart
  generalize against w y = s
  generalize against v y = t
  pointwise

section
variable (w v : Vec Ideal S512x512 .bf16) (y : FVec Ideal S64x8x1024 .bf16) (p : Fin 64) (a : Fin 8) (W V : Fin 64 → EReal)
  (hw : ∀ (i : Fin 64) (b : Fin 8), w (ix2 ⟨p.val * 8 + a.val, by omega⟩ ⟨i.val * 8 + b.val, by omega⟩) = if a = b then W i else 0)
  (hv : ∀ (i : Fin 64) (b : Fin 8), v (ix2 ⟨p.val * 8 + a.val, by omega⟩ ⟨i.val * 8 + b.val, by omega⟩) = if a = b then V i else 0)
include hw hv

theorem half_re (c : Fin 512) : half w v y (ix3 p a ⟨c.val, by omega⟩)
    = ∑ i : Fin 64, W i * y (ix3 i a ⟨c.val, by omega⟩) + ∑ i : Fin 64, V i * y (ix3 i a ⟨512 + c.val, by omega⟩) := by
  unfold half
  rw [apart_apply, parts_left _ _ _ c _ rfl, sumPart_apply, prod_slots w y p a _ W hw, prod_slots v y p a _ V hv]

theorem half_im (c : Fin 512) : half w v y (ix3 p a ⟨512 + c.val, by omega⟩)
    = ∑ i : Fin 64, W i * y (ix3 i a ⟨512 + c.val, by omega⟩) - ∑ i : Fin 64, V i * y (ix3 i a ⟨c.val, by omega⟩) := by
  unfold half
  rw [apart_apply, parts_right _ _ _ c _ (Nat.add_comm _ _), diffPart_apply, prod_slots w y p a _ W hw, prod_slots v y p a _ V hv]
end

theorem halves_low (u v : FVec Ideal S64x8x1024 .f32) (p : Fin 64) (a : Fin 8) (c : Fin 1024) : halves u v (ix3 p ⟨a.val, by omega⟩ c) = u (ix3 p a c) :=
  concatenate_pair_apply_left (t := S64x16x1024) (s₁ := S64x8x1024) (s₂ := S64x8x1024) 1 u v concatenates_S64x8x1024_S64x8x1024_S64x16x1024_d1 (ix3 p ⟨a.val, by omega⟩ c) rfl (ix3 p a c) fun b =>
    match b with
    | ⟨0, _⟩ => rfl
    | ⟨1, _⟩ => rfl
    | ⟨2, _⟩ => rfl

theorem halves_high (u v : FVec Ideal S64x8x1024 .f32) (p : Fin 64) (a : Fin 8) (c : Fin 1024) : halves u v (ix3 p ⟨8 + a.val, by omega⟩ c) = v (ix3 p a c) :=
  concatenate_pair_apply_right (t := S64x16x1024) (s₁ := S64x8x1024) (s₂ := S64x8x1024) 1 u v concatenates_S64x8x1024_S64x8x1024_S64x16x1024_d1 (ix3 p ⟨8 + a.val, by omega⟩ c) rfl rfl (ix3 p a c)
    (fun b hb => match b, hb with
      | ⟨0, _⟩, _ => rfl
      | ⟨1, _⟩, hb => absurd rfl hb
      | ⟨2, _⟩, _ => rfl) (Nat.add_comm _ _)

/-- A block of the first call's result. -/
theorem out0_apply (x : Vec Ideal S1x64x16x1024 .bf16) (w v : Vec Ideal S512x512 .bf16) (p : Fin 64) (j : Fin 16) (c : Fin 1024) :
    out0_3 x w v (ix4 0 p j c) = halves (half w v (low x)) (half w v (high x)) (ix3 p j c) := by
  unfold out0_3
  canon_tiles y h
  obtain ⟨z, a, b, d, rfl⟩ : ∃ (z : Fin 1) (a : Fin 64) (b : Fin 16) (d : Fin 1024), y = ix4 z a b d := ⟨y 0, y 1, y 2, y 3, eq_ix4 y⟩
  obtain rfl : z = 0 := Subsingleton.elim _ _
  obtain rfl : p = a := Fin.ext h1
  obtain rfl : j = b := Fin.ext h2
  obtain rfl : c = d := Fin.ext h3
  rw [View.ld_unit_lit (h := by decide) .., View.ld_unit_lit (h := by decide) .., View.ld_unit_lit (h := by decide) .., pay2_eq]
  unfold k0_pay1
  generalize halves (half w v (low x)) (half w v (high x)) = u
  pointwise

/-! ## The second call -/

def flat (x : Vec Ideal S1x8x128x1024 .bf16) : FVec Ideal S1024x1024 .bf16 :=
  shapeCast S1024x1024 (shapeCast S8x128x1024 x shapeCasts_S1x8x128x1024_S8x128x1024) shapeCasts_S8x128x1024_S1024x1024

def table (w : Vec Ideal S1x1024x1024 .bf16) : FVec Ideal S1024x1024 .bf16 := shapeCast S1024x1024 w shapeCasts_S1x1024x1024_S1024x1024

def joined (x : Vec Ideal S1x8x128x1024 .bf16) (w v : Vec Ideal S1x1024x1024 .bf16) : FVec Ideal S1024x512 .f32 :=
  addf (matmul dot_S1024x1024_S1024x512_S1024x512_1_0_0_1_n_n none (table w) (extractStridedSlice S1024x512 ![0, 0] (flat x) slices_S1024x1024_o0_0_S1024x512) (constant S1024x512 .f32 0x00000000#32))
    (matmul dot_S1024x1024_S1024x512_S1024x512_1_0_0_1_n_n none (table v) (extractStridedSlice S1024x512 ![0, 512] (flat x) slices_S1024x1024_o0_512_S1024x512) (constant S1024x512 .f32 0x00000000#32))

def eight (x : Vec Ideal S1x8x128x1024 .bf16) (w v : Vec Ideal S1x1024x1024 .bf16) : FVec Ideal S128x8x512 .f32 :=
  shapeCast S128x8x512 (joined x w v) shapeCasts_S1024x512_S128x8x512

def pair (u v : FVec Ideal S128x8x512 .f32) : FVec Ideal S128x16x512 .f32 :=
  concatenate S128x16x512 1 [⟨S128x8x512, u⟩, ⟨S128x8x512, v⟩] concatenates_S128x8x512_S128x8x512_S128x16x512_d1

theorem pay2_eq' (x : Vec Ideal S1x8x128x1024 .bf16) (w v : Vec Ideal S1x1024x1024 .bf16) (x' : Vec Ideal S1x8x128x1024 .bf16) (w' v' : Vec Ideal S1x1024x1024 .bf16) :
    k1_pay2 x w v x' w' v' = pair (eight x w v) (eight x' w' v') := by
  unfold k1_pay2
  rfl

theorem flat_apply (x : Vec Ideal S1x8x128x1024 .bf16) (b : Fin 8) (j : Fin 128) (c : Fin 1024) : flat x (ix2 ⟨b.val * 128 + j.val, by omega⟩ c) = x (ix4 0 b j c) := by
  have e : ∀ y : FVec Ideal S8x128x1024 .bf16, shapeCast S1024x1024 y shapeCasts_S8x128x1024_S1024x1024 (ix2 ⟨b.val * 128 + j.val, by omega⟩ c) = y (ix3 b j c) := fun y => by
    pointwise!
  unfold flat
  rw [e]
  pointwise

theorem joined_apply (x : Vec Ideal S1x8x128x1024 .bf16) (w v : Vec Ideal S1x1024x1024 .bf16) (r : Fin 1024) (c : Fin 512) :
    joined x w v (ix2 r c) = ∑ l : Fin 1024, w (ix3 0 r l) * flat x (ix2 l ⟨c.val, by omega⟩) + ∑ l : Fin 1024, v (ix3 0 r l) * flat x (ix2 l ⟨512 + c.val, by omega⟩) := by
  unfold joined
  generalize flat x = s
  pointwise [table]

/-- A sum over the 1024 joined positions of a row that is zero off its own slot. -/
theorem sum_blocks (w : Fin 1024 → EReal) (z : Fin 1024 → EReal) (W : Fin 128 → EReal) (a : Fin 8)
    (hw : ∀ (b : Fin 8) (j : Fin 128), w ⟨b.val * 128 + j.val, by omega⟩ = if a = b then W j else 0) :
    ∑ l : Fin 1024, w l * z l = ∑ j : Fin 128, W j * z ⟨a.val * 128 + j.val, by omega⟩ := by
  rw [← Fin.sum_mul_add_congr (S := 8) (n := 128) (F := fun b j => (if a = b then W j else 0) * z ⟨b.val * 128 + j.val, by omega⟩)
    (f := fun l => w l * z l) (fun b j hl => by rw [← hw b j])]
  rw [Finset.sum_eq_single a]
  · simp only [if_true]
  · intro b _ hb
    simp only [if_neg (fun e : a = b => hb e.symm), zero_mul, Finset.sum_const_zero]
  · intro h
    exact absurd (Finset.mem_univ _) h

theorem eight_apart (u : FVec Ideal S1024x512 .f32) (q : Fin 128) (a : Fin 8) (c : Fin 512) :
    shapeCast S128x8x512 u shapeCasts_S1024x512_S128x8x512 (ix3 q a c) = u (ix2 ⟨q.val * 8 + a.val, by omega⟩ c) := by
  pointwise!

theorem eight_apply (x : Vec Ideal S1x8x128x1024 .bf16) (w v : Vec Ideal S1x1024x1024 .bf16) (q : Fin 128) (a : Fin 8) (c : Fin 512) (W V : Fin 128 → EReal)
    (hw : ∀ (b : Fin 8) (j : Fin 128), w (ix3 0 ⟨q.val * 8 + a.val, by omega⟩ ⟨b.val * 128 + j.val, by omega⟩) = if a = b then W j else 0)
    (hv : ∀ (b : Fin 8) (j : Fin 128), v (ix3 0 ⟨q.val * 8 + a.val, by omega⟩ ⟨b.val * 128 + j.val, by omega⟩) = if a = b then V j else 0) :
    eight x w v (ix3 q a c) = ∑ j : Fin 128, W j * x (ix4 0 a j ⟨c.val, by omega⟩) + ∑ j : Fin 128, V j * x (ix4 0 a j ⟨512 + c.val, by omega⟩) := by
  unfold eight
  rw [eight_apart, joined_apply, sum_blocks _ _ W a hw, sum_blocks _ _ V a hv]
  refine congr (congrArg _ (Finset.sum_congr rfl fun j _ => ?_)) (Finset.sum_congr rfl fun j _ => ?_)
  · exact congrArg (W j * ·) (flat_apply x a j _)
  · exact congrArg (V j * ·) (flat_apply x a j _)

theorem pair_low (u v : FVec Ideal S128x8x512 .f32) (q : Fin 128) (a : Fin 8) (c : Fin 512) : pair u v (ix3 q ⟨a.val, by omega⟩ c) = u (ix3 q a c) :=
  concatenate_pair_apply_left (t := S128x16x512) (s₁ := S128x8x512) (s₂ := S128x8x512) 1 u v concatenates_S128x8x512_S128x8x512_S128x16x512_d1 (ix3 q ⟨a.val, by omega⟩ c) rfl (ix3 q a c) fun b =>
    match b with
    | ⟨0, _⟩ => rfl
    | ⟨1, _⟩ => rfl
    | ⟨2, _⟩ => rfl

theorem pair_high (u v : FVec Ideal S128x8x512 .f32) (q : Fin 128) (a : Fin 8) (c : Fin 512) : pair u v (ix3 q ⟨8 + a.val, by omega⟩ c) = v (ix3 q a c) :=
  concatenate_pair_apply_right (t := S128x16x512) (s₁ := S128x8x512) (s₂ := S128x8x512) 1 u v concatenates_S128x8x512_S128x8x512_S128x16x512_d1 (ix3 q ⟨8 + a.val, by omega⟩ c) rfl rfl (ix3 q a c)
    (fun b hb => match b, hb with
      | ⟨0, _⟩, _ => rfl
      | ⟨1, _⟩, hb => absurd rfl hb
      | ⟨2, _⟩, _ => rfl) (Nat.add_comm _ _)

/-- A block of the second call's result. -/
theorem out1_apply (x : Vec Ideal S1x16x128x1024 .bf16) (w v : Vec Ideal S2x1024x1024 .bf16) (q : Fin 128) (r : Fin 16) (c : Fin 512) :
    out1_3 x w v (ix4 0 q r c) = pair (eight (View.ld x r1_0) (View.ld w r1_1) (View.ld v r1_1)) (eight (View.ld x r1_2) (View.ld w r1_3) (View.ld v r1_3)) (ix3 q r c) := by
  unfold out1_3
  canon_tiles y h
  obtain ⟨z, a, b, d, rfl⟩ : ∃ (z : Fin 1) (a : Fin 128) (b : Fin 16) (d : Fin 512), y = ix4 z a b d := ⟨y 0, y 1, y 2, y 3, eq_ix4 y⟩
  obtain rfl : z = 0 := Subsingleton.elim _ _
  obtain rfl : q = a := Fin.ext h1
  obtain rfl : r = b := Fin.ext h2
  obtain rfl : c = d := Fin.ext h3
  rw [pay2_eq']
  unfold k1_pay1
  generalize pair (eight (View.ld x r1_0) (View.ld w r1_1) (View.ld v r1_1)) (eight (View.ld x r1_2) (View.ld w r1_3) (View.ld v r1_3)) = u
  pointwise

end Cert.Kernel5Ideal.Fourier

end
-- ==== Proof.Fourier.Tables.lean ====
/- The four tables the two Fourier calls are given, as the host's operations make them. -/
module

public import proofs.«01_k».proof.Proof.Fourier.Words

@[expose] public section

set_option maxRecDepth 16384

noncomputable section

namespace Cert.Kernel5Ideal.Fourier

open Cert.Kernel5Ideal Cert.Kernel5Ideal.Gen Idealize.ShloMosaic Idealize.ShloMosaic.TcCoe

variable (m : (ℓ : Loc nD τ sig) → Buf (Elt Ideal) ℓ) (ρ : Dev nD → PrngReg)

/-- The products of frequencies and coarse positions, and the first call's angles. -/
def prods1 : IVec S64x64 32 :=
  muli (broadcastInDim S64x64 ![0, 1] bcast_S64x1_S64x64_0_1 (broadcastInDim S64x1 ![0] bcast_S64_S64x1_0 (iotaInDim S64 32 0)))
    (broadcastInDim S64x64 ![0, 1] bcast_S1x64_S64x64_0_1 (broadcastInDim S1x64 ![1] bcast_S64_S1x64_1 (iotaInDim S64 32 0)))

def angles1 : FVec Ideal S64x64 .f32 :=
  mulf (broadcastInDim S64x64 ![] bcast_S_S64x64 (constant S_ .f32 0x3DC90FDB#32)) (sitofp .f32 (remV bcast_S_S64x64 prods1 64#32))

/-- The scale where a row's and a column's slot agree, and zero elsewhere. -/
def slots : FVec Ideal S512x512 .f32 :=
  mulf (uitofp .f32 (cmpi .eq
      (broadcastInDim S512x512 ![0, 1] bcast_S512x1_S512x512_0_1 (remV bcast_S_S512x1 (broadcastInDim S512x1 ![0] bcast_S512_S512x1_0 (iotaInDim S512 32 0)) 8#32))
      (broadcastInDim S512x512 ![0, 1] bcast_S1x512_S512x512_0_1 (remV bcast_S_S1x512 (broadcastInDim S1x512 ![1] bcast_S512_S1x512_1 (iotaInDim S512 32 0)) 8#32))))
    (broadcastInDim S512x512 ![] bcast_S_S512x512 (constant S_ .f32 0x3E000000#32))

/-- Every entry eight times along both axes. -/
def wide (t : FVec Ideal S64x64 .f32) : FVec Ideal S512x64 .f32 :=
  shapeCast S512x64 (broadcastInDim S64x8x64 ![0, 2] bcast_S64x64_S64x8x64_0_2 t) shapeCasts_S64x8x64_S512x64

def eightfold (t : FVec Ideal S64x64 .f32) : FVec Ideal S512x512 .f32 :=
  shapeCast S512x512 (broadcastInDim S512x64x8 ![0, 1] bcast_S512x64_S512x64x8_0_1 (wide t)) shapeCasts_S512x64x8_S512x512

def table1 (t : FVec Ideal S64x64 .f32) : FVec Ideal S512x512 .bf16 := truncf .bf16 (mulf (eightfold t) slots) bitsLt_bf16_f32

/-- The products of fine positions and frequencies, and the second call's angles. -/
def prods3 : IVec S64x128x128 32 :=
  muli (broadcastInDim S64x128x128 ![0, 1, 2] bcast_S1x1x128_S64x128x128_0_1_2 (broadcastInDim S1x1x128 ![2] bcast_S128_S1x1x128_2 (iotaInDim S128 32 0)))
    (broadcastInDim S64x128x128 ![0, 1, 2] bcast_S64x128x1_S64x128x128_0_1_2
      (addi (broadcastInDim S64x128x1 ![0, 1, 2] bcast_S64x1x1_S64x128x1_0_1_2 (broadcastInDim S64x1x1 ![0] bcast_S64_S64x1x1_0 (iotaInDim S64 32 0)))
        (broadcastInDim S64x128x1 ![0, 1, 2] bcast_S1x128x1_S64x128x1_0_1_2
          (muli (broadcastInDim S1x128x1 ![] bcast_S_S1x128x1 (constantI S_ 32 64#32)) (broadcastInDim S1x128x1 ![1] bcast_S128_S1x128x1_1 (iotaInDim S128 32 0))))))

def angles3 : FVec Ideal S64x128x128 .f32 :=
  mulf (broadcastInDim S64x128x128 ![] bcast_S_S64x128x128 (constant S_ .f32 0x3A490FDB#32)) (sitofp .f32 (remV bcast_S_S64x128x128 prods3 8192#32))

def eye : FVec Ideal S8x8 .bf16 :=
  uitofp .bf16 (cmpi .eq (addi (iotaInDim S8x8 32 0) (broadcastInDim S8x8 ![] bcast_S_S8x8 (constantI S_ 32 0#32))) (iotaInDim S8x8 32 1))

def scaled (t : FVec Ideal S64x128x128 .f32) : FVec Ideal S64x128x128 .bf16 :=
  truncf .bf16 (mulf t (broadcastInDim S64x128x128 ![] bcast_S_S64x128x128 (constant S_ .f32 0x3DB504F3#32))) bitsLt_bf16_f32

/-- Eight frequencies to a block, their rows and columns apart by slot. -/
def grouped (t : FVec Ideal S64x128x128 .bf16) : FVec Ideal S8x8x128x128 .bf16 := shapeCast S8x8x128x128 t shapeCasts_S64x128x128_S8x8x128x128

def spread (t : FVec Ideal S64x128x128 .bf16) : FVec Ideal S8x128x8x8x128 .bf16 :=
  mulf (broadcastInDim S8x128x8x8x128 ![0, 1, 2, 3, 4] bcast_S8x128x8x1x128_S8x128x8x8x128_0_1_2_3_4
      (broadcastInDim S8x128x8x1x128 ![0, 1, 2, 4] bcast_S8x128x8x128_S8x128x8x1x128_0_1_2_4
        (transpose S8x128x8x128 [0, 2, 1, 3] (grouped t) transposes_S8x8x128x128_S8x128x8x128_0_2_1_3)))
    (broadcastInDim S8x128x8x8x128 ![0, 1, 2, 3, 4] bcast_S1x1x8x8x1_S8x128x8x8x128_0_1_2_3_4 (broadcastInDim S1x1x8x8x1 ![2, 3] bcast_S8x8_S1x1x8x8x1_2_3 eye))

def table3 (t : FVec Ideal S64x128x128 .f32) : FVec Ideal S8x1024x1024 .bf16 :=
  shapeCast S8x1024x1024 (spread (scaled t)) shapeCasts_S8x128x8x8x128_S8x1024x1024

theorem cos1_eq (c : Dev nD) : (V9 m ρ c main_v27 : Vec Ideal S512x512 .bf16) = table1 (Host.cos angles1) := by
  simp only [V9, W9, W8, W7, W6, W5, W4, W3, W2, W1, hostOps0, hostOps0_1, hostOps0_2, hostOps0_3, hostOps0_4, hostOps0_5, hostOps0_6, hostOps0_7, hostOps0_8,
    StableHlo.TRef.binary, StableHlo.TRef.nullary, StableHlo.TRef.ternary, StableHlo.TRef.unary, StableHlo.TRef.toBuf, StableHlo.TRef.ofBuf, cast_eq]
  after_results_simp
  rfl

theorem sin1_eq (c : Dev nD) : (V9 m ρ c main_v34 : Vec Ideal S512x512 .bf16) = table1 (Host.sin angles1) := by
  simp only [V9, W9, W8, W7, W6, W5, W4, W3, W2, W1, hostOps0, hostOps0_1, hostOps0_2, hostOps0_3, hostOps0_4, hostOps0_5, hostOps0_6, hostOps0_7, hostOps0_8,
    StableHlo.TRef.binary, StableHlo.TRef.nullary, StableHlo.TRef.ternary, StableHlo.TRef.unary, StableHlo.TRef.toBuf, StableHlo.TRef.ofBuf, cast_eq]
  after_results_simp
  rfl

theorem cos3_eq (c : Dev nD) : (V9 m ρ c main_v70 : Vec Ideal S8x1024x1024 .bf16) = table3 (Host.cos angles3) := by
  simp only [V9, W9, W8, W7, W6, W5, W4, W3, W2, W1, hostOps0, hostOps0_1, hostOps0_2, hostOps0_3, hostOps0_4, hostOps0_5, hostOps0_6, hostOps0_7, hostOps0_8,
    StableHlo.TRef.binary, StableHlo.TRef.nullary, StableHlo.TRef.ternary, StableHlo.TRef.unary, StableHlo.TRef.toBuf, StableHlo.TRef.ofBuf, cast_eq]
  after_results_simp
  rfl

theorem sin3_eq (c : Dev nD) : (V9 m ρ c main_v81 : Vec Ideal S8x1024x1024 .bf16) = table3 (Host.sin angles3) := by
  simp only [V9, W9, W8, W7, W6, W5, W4, W3, W2, W1, hostOps0, hostOps0_1, hostOps0_2, hostOps0_3, hostOps0_4, hostOps0_5, hostOps0_6, hostOps0_7, hostOps0_8,
    StableHlo.TRef.binary, StableHlo.TRef.nullary, StableHlo.TRef.ternary, StableHlo.TRef.unary, StableHlo.TRef.toBuf, StableHlo.TRef.ofBuf, cast_eq]
  after_results_simp
  rfl

/-- The positions in coarse and fine steps: the first call's other array. -/
theorem x_eq (c : Dev nD) : (V9 m ρ c main_v82 : Vec Ideal S4x64x128x1024 .bf16)
    = shapeCast S4x64x128x1024 (m (c.tc.loc main_arg0) : Vec Ideal S32768x1024 .bf16) shapeCasts_S32768x1024_S4x64x128x1024 := by
  simp only [V9, W9, W8, W7, W6, W5, W4, W3, W2, W1, hostOps0, hostOps0_1, hostOps0_2, hostOps0_3, hostOps0_4, hostOps0_5, hostOps0_6, hostOps0_7, hostOps0_8,
    StableHlo.TRef.binary, StableHlo.TRef.nullary, StableHlo.TRef.ternary, StableHlo.TRef.unary, StableHlo.TRef.toBuf, StableHlo.TRef.ofBuf, cast_eq]
  after_results_simp
  rfl

end Cert.Kernel5Ideal.Fourier

end
-- ==== Proof.Fourier.Entries.lean ====
/- The tables' entries as real cosines and sines. -/
module

public import proofs.«01_k».proof.Proof.Fourier.Tables

@[expose] public section

set_option maxRecDepth 16384

noncomputable section

namespace Cert.Kernel5Ideal.Fourier

open Cert.Kernel5Ideal Cert.Kernel5Ideal.Gen Idealize.ShloMosaic Idealize.ShloMosaic.TcCoe

/-- An 8192th of a turn as the kernel rounds it, and the root of 1/128 as it rounds it. -/
def step : ℝ := 13176795 * (2 : ℝ) ^ (-34 : ℤ)
def root : ℝ := 11863283 * (2 : ℝ) ^ (-27 : ℤ)

theorem step_eq : (Scalar.ofBits (F := Ideal) .f32 0x3A490FDB#32 : EReal) = (step : EReal) := by
  show Ideal.ofBits .f32 0x3A490FDB#32 = _
  unfold step
  simp [Ideal.ofBits, Ideal.ieee]

theorem coarse_eq : (Scalar.ofBits (F := Ideal) .f32 0x3DC90FDB#32 : EReal) = ((128 * step : ℝ) : EReal) := by
  show Ideal.ofBits .f32 0x3DC90FDB#32 = _
  unfold step
  simp [Ideal.ofBits, Ideal.ieee, -EReal.coe_mul]
  norm_num

theorem root_eq : (Scalar.ofBits (F := Ideal) .f32 0x3DB504F3#32 : EReal) = (root : EReal) := by
  show Ideal.ofBits .f32 0x3DB504F3#32 = _
  unfold root
  simp [Ideal.ofBits, Ideal.ieee]

theorem eighth_eq : (Scalar.ofBits (F := Ideal) .f32 0x3E000000#32 : EReal) = ((1 / 8 : ℝ) : EReal) := by
  show Ideal.ofBits .f32 0x3E000000#32 = _
  simp [Ideal.ofBits, Ideal.ieee, -EReal.coe_mul]
  norm_num

theorem whole_eq : (Scalar.ofBits (F := Ideal) .f32 0x3C3504F3#32 : EReal) = ((root * (1 / 8) : ℝ) : EReal) := by
  show Ideal.ofBits .f32 0x3C3504F3#32 = _
  unfold root
  simp [Ideal.ofBits, Ideal.ieee, -EReal.coe_mul]
  norm_num

/-- The angle of frequency `p` at coarse position `i`, and of frequency `p + 64 q` at fine position `j`. -/
def coarse (p i : ℕ) : ℝ := 128 * step * ((p * i % 64 : ℕ) : ℝ)
def fine (p q j : ℕ) : ℝ := step * ((j * (p + 64 * q) % 8192 : ℕ) : ℝ)

theorem prods1_apply (p i : Fin 64) : prods1 (ix2 p i) = BitVec.ofNat 32 (p.val * i.val) := by
  refine Eq.trans ?_ (muli_word p.val i.val)
  pointwise [prods1]

theorem angles1_apply (p i : Fin 64) : angles1 (ix2 p i) = (coarse p.val i.val : EReal) := by
  have hm : p.val * i.val < 2 ^ 31 := lt_of_le_of_lt (Nat.mul_le_mul p.isLt.le i.isLt.le) (by norm_num)
  have e : (sitofp .f32 (remV bcast_S_S64x64 prods1 64#32) : FVec Ideal S64x64 .f32) (ix2 p i) = (((p.val * i.val % 64 : ℕ) : ℝ) : EReal) := by
    show Scalar.sitofp (F := Ideal) .f32 (remV bcast_S_S64x64 prods1 (BitVec.ofNat 32 64) (ix2 p i)) = _
    rw [remV_apply bcast_S_S64x64 prods1 64 _ _ (prods1_apply p i) hm (by norm_num) (by norm_num)]
    exact float_word _ (lt_of_lt_of_le (Nat.mod_lt _ (by norm_num)) (by norm_num)) _
  show Scalar.ofBits (F := Ideal) .f32 0x3DC90FDB#32 * (sitofp .f32 (remV bcast_S_S64x64 prods1 64#32) : FVec Ideal S64x64 .f32) (ix2 p i) = _
  rw [e, coarse_eq, ← EReal.coe_mul]
  rfl

theorem wide_apply (t : FVec Ideal S64x64 .f32) (p i : Fin 64) (a : Fin 8) : wide t (ix2 ⟨p.val * 8 + a.val, by omega⟩ i) = t (ix2 p i) := by
  unfold wide
  pointwise!

theorem eightfold_apply (t : FVec Ideal S64x64 .f32) (p i : Fin 64) (a b : Fin 8) :
    eightfold t (ix2 ⟨p.val * 8 + a.val, by omega⟩ ⟨i.val * 8 + b.val, by omega⟩) = t (ix2 p i) := by
  refine Eq.trans ?_ (wide_apply t p i a)
  unfold eightfold
  generalize wide t = u
  pointwise!

/-- A truth value as a float. -/
theorem truth (φ : FTy) (x y : ℕ) (hx : x < 2 ^ 31) (hy : y < 2 ^ 31) :
    Scalar.uitofp (F := Ideal) φ (IntOp.cmpi .eq (BitVec.ofNat 32 x) (BitVec.ofNat 32 y)) = if x = y then 1 else 0 := by
  by_cases h : x = y
  · rw [if_pos h, IntOp.cmpi_eq.2 (congrArg _ h)]
    show (((1#1 : BitVec 1).toNat : ℝ) : EReal) = 1
    norm_num
  · have hne : ¬ IntOp.cmpi .eq (BitVec.ofNat 32 x) (BitVec.ofNat 32 y) = 1#1 := fun e => h (by
      have := congrArg BitVec.toNat (IntOp.cmpi_eq.1 e)
      rwa [BitVec.toNat_ofNat, BitVec.toNat_ofNat, Nat.mod_eq_of_lt (show x < 2 ^ 32 by omega), Nat.mod_eq_of_lt (show y < 2 ^ 32 by omega)] at this)
    rw [if_neg h]
    generalize IntOp.cmpi .eq (BitVec.ofNat 32 x) (BitVec.ofNat 32 y) = b at hne
    have hb : b = 0#1 := by revert hne; revert b; decide
    rw [hb]
    show (((0#1 : BitVec 1).toNat : ℝ) : EReal) = 0
    norm_num

theorem slots_apply (p i : Fin 64) (a b : Fin 8) :
    slots (ix2 ⟨p.val * 8 + a.val, by omega⟩ ⟨i.val * 8 + b.val, by omega⟩) = if a = b then ((1 / 8 : ℝ) : EReal) else 0 := by
  have hr : remV bcast_S_S512x1 (broadcastInDim S512x1 ![0] bcast_S512_S512x1_0 (iotaInDim S512 32 0)) (BitVec.ofNat 32 8) (ix2 ⟨p.val * 8 + a.val, by omega⟩ 0)
      = BitVec.ofNat 32 a.val :=
    (remV_apply _ _ 8 (p.val * 8 + a.val) _ (by pointwise) (by omega) (by norm_num) (by norm_num)).trans (congrArg _ (by omega))
  have hc : remV bcast_S_S1x512 (broadcastInDim S1x512 ![1] bcast_S512_S1x512_1 (iotaInDim S512 32 0)) (BitVec.ofNat 32 8) (ix2 0 ⟨i.val * 8 + b.val, by omega⟩)
      = BitVec.ofNat 32 b.val :=
    (remV_apply _ _ 8 (i.val * 8 + b.val) _ (by pointwise) (by omega) (by norm_num) (by norm_num)).trans (congrArg _ (by omega))
  have e : ∀ (x : IVec S512x1 32) (y : IVec S1x512 32) (r l : Fin 512),
      (mulf (uitofp .f32 (cmpi .eq (broadcastInDim S512x512 ![0, 1] bcast_S512x1_S512x512_0_1 x) (broadcastInDim S512x512 ![0, 1] bcast_S1x512_S512x512_0_1 y)))
        (broadcastInDim S512x512 ![] bcast_S_S512x512 (constant S_ .f32 0x3E000000#32)) : FVec Ideal S512x512 .f32) (ix2 r l)
      = Scalar.uitofp (F := Ideal) .f32 (IntOp.cmpi .eq (x (ix2 r 0)) (y (ix2 0 l))) * Scalar.ofBits (F := Ideal) .f32 0x3E000000#32 := fun x y r l => by
    pointwise
    rfl
  refine (e _ _ _ _).trans ?_
  refine (congrArg (fun v => Scalar.uitofp (F := Ideal) .f32 v * Scalar.ofBits (F := Ideal) .f32 0x3E000000#32) (congr (congrArg (IntOp.cmpi .eq) hr) hc)).trans ?_
  rw [truth .f32 _ _ (by omega) (by omega), eighth_eq]
  by_cases h : a = b
  · rw [if_pos h, if_pos (congrArg Fin.val h), one_mul]
  · rw [if_neg h, if_neg (fun e => h (Fin.ext e)), zero_mul]

/-- The first call's table at a frequency and a coarse position, rows and columns in slots of eight. -/
theorem table1_apply (t : FVec Ideal S64x64 .f32) (p i : Fin 64) (a b : Fin 8) (r : ℝ) (h : t (ix2 p i) = (r : EReal)) :
    table1 t (ix2 ⟨p.val * 8 + a.val, by omega⟩ ⟨i.val * 8 + b.val, by omega⟩) = if a = b then ((r * (1 / 8) : ℝ) : EReal) else 0 := by
  show eightfold t _ * slots _ = _
  rw [eightfold_apply, slots_apply, h]
  by_cases e : a = b
  · rw [if_pos e, if_pos e, EReal.coe_mul]
  · rw [if_neg e, if_neg e, mul_zero]

theorem cos1_apply (p i : Fin 64) (a b : Fin 8) :
    table1 (Host.cos angles1) (ix2 ⟨p.val * 8 + a.val, by omega⟩ ⟨i.val * 8 + b.val, by omega⟩)
      = if a = b then ((Real.cos (coarse p.val i.val) * (1 / 8) : ℝ) : EReal) else 0 :=
  table1_apply _ p i a b _ (by show Ideal.cos (angles1 (ix2 p i)) = _; rw [angles1_apply]; rfl)

theorem sin1_apply (p i : Fin 64) (a b : Fin 8) :
    table1 (Host.sin angles1) (ix2 ⟨p.val * 8 + a.val, by omega⟩ ⟨i.val * 8 + b.val, by omega⟩)
      = if a = b then ((Real.sin (coarse p.val i.val) * (1 / 8) : ℝ) : EReal) else 0 :=
  table1_apply _ p i a b _ (by show Ideal.sin (angles1 (ix2 p i)) = _; rw [angles1_apply]; rfl)

theorem prods3_apply (p : Fin 64) (q j : Fin 128) : prods3 (ix3 p q j) = BitVec.ofNat 32 (j.val * (p.val + 64 * q.val)) := by
  rw [← muli_word, ← addi_word, ← muli_word]
  pointwise [prods3]

theorem angles3_apply (p : Fin 64) (q j : Fin 128) : angles3 (ix3 p q j) = (fine p.val q.val j.val : EReal) := by
  have hm : j.val * (p.val + 64 * q.val) < 2 ^ 31 :=
    lt_of_le_of_lt (Nat.mul_le_mul j.isLt.le (show p.val + 64 * q.val ≤ 8192 by omega)) (by norm_num)
  have e : (sitofp .f32 (remV bcast_S_S64x128x128 prods3 8192#32) : FVec Ideal S64x128x128 .f32) (ix3 p q j)
      = (((j.val * (p.val + 64 * q.val) % 8192 : ℕ) : ℝ) : EReal) := by
    show Scalar.sitofp (F := Ideal) .f32 (remV bcast_S_S64x128x128 prods3 (BitVec.ofNat 32 8192) (ix3 p q j)) = _
    rw [remV_apply bcast_S_S64x128x128 prods3 8192 _ _ (prods3_apply p q j) hm (by norm_num) (by norm_num)]
    exact float_word _ (lt_of_lt_of_le (Nat.mod_lt _ (by norm_num)) (by norm_num)) _
  show Scalar.ofBits (F := Ideal) .f32 0x3A490FDB#32 * (sitofp .f32 (remV bcast_S_S64x128x128 prods3 8192#32) : FVec Ideal S64x128x128 .f32) (ix3 p q j) = _
  rw [e, step_eq, ← EReal.coe_mul]
  rfl

theorem eye_apply (a b : Fin 8) : eye (ix2 a b) = if a = b then 1 else 0 := by
  have e : eye (ix2 a b) = Scalar.uitofp (F := Ideal) .bf16 (IntOp.cmpi .eq (IntOp.addi (BitVec.ofNat 32 a.val) (BitVec.ofNat 32 0)) (BitVec.ofNat 32 b.val)) := by
    pointwise [eye]
    rfl
  rw [e, addi_word, Nat.add_zero, truth .bf16 _ _ (by omega) (by omega)]
  by_cases h : a = b
  · rw [if_pos h, if_pos (congrArg Fin.val h)]
  · rw [if_neg h, if_neg (fun e => h (Fin.ext e))]

theorem grouped_apply (t : FVec Ideal S64x128x128 .bf16) (g a : Fin 8) (q j : Fin 128) :
    grouped t (ix4 g a q j) = t (ix3 ⟨g.val * 8 + a.val, by omega⟩ q j) := by
  unfold grouped
  pointwise!

theorem spread_apply (t : FVec Ideal S64x128x128 .bf16) (g a b : Fin 8) (q j : Fin 128) :
    spread t (ix5 g q a b j) = t (ix3 ⟨g.val * 8 + a.val, by omega⟩ q j) * eye (ix2 a b) := by
  rw [← grouped_apply t g a q j]
  unfold spread
  generalize grouped t = u
  generalize eye = v
  pointwise

theorem table3_flat (u : FVec Ideal S8x128x8x8x128 .bf16) (g a b : Fin 8) (q j : Fin 128) :
    shapeCast S8x1024x1024 u shapeCasts_S8x128x8x8x128_S8x1024x1024 (ix3 g ⟨q.val * 8 + a.val, by omega⟩ ⟨b.val * 128 + j.val, by omega⟩) = u (ix5 g q a b j) := by
  pointwise!

/-- The second call's table at a frequency and a fine position, rows and columns in slots of eight. -/
theorem table3_apply (t : FVec Ideal S64x128x128 .f32) (g a b : Fin 8) (q j : Fin 128) (r : ℝ) (h : t (ix3 ⟨g.val * 8 + a.val, by omega⟩ q j) = (r : EReal)) :
    table3 t (ix3 g ⟨q.val * 8 + a.val, by omega⟩ ⟨b.val * 128 + j.val, by omega⟩) = if a = b then ((r * root : ℝ) : EReal) else 0 := by
  refine (table3_flat _ g a b q j).trans ?_
  rw [spread_apply, eye_apply]
  show t (ix3 ⟨g.val * 8 + a.val, by omega⟩ q j) * Scalar.ofBits (F := Ideal) .f32 0x3DB504F3#32 * _ = _
  rw [h, root_eq]
  by_cases e : a = b
  · rw [if_pos e, if_pos e, mul_one, EReal.coe_mul]
  · rw [if_neg e, if_neg e, mul_zero]

theorem cos3_apply (g a b : Fin 8) (q j : Fin 128) :
    table3 (Host.cos angles3) (ix3 g ⟨q.val * 8 + a.val, by omega⟩ ⟨b.val * 128 + j.val, by omega⟩)
      = if a = b then ((Real.cos (fine (g.val * 8 + a.val) q.val j.val) * root : ℝ) : EReal) else 0 :=
  table3_apply _ g a b q j _ (by show Ideal.cos (angles3 (ix3 ⟨g.val * 8 + a.val, by omega⟩ q j)) = _; rw [angles3_apply]; rfl)

theorem sin3_apply (g a b : Fin 8) (q j : Fin 128) :
    table3 (Host.sin angles3) (ix3 g ⟨q.val * 8 + a.val, by omega⟩ ⟨b.val * 128 + j.val, by omega⟩)
      = if a = b then ((Real.sin (fine (g.val * 8 + a.val) q.val j.val) * root : ℝ) : EReal) else 0 :=
  table3_apply _ g a b q j _ (by show Ideal.sin (angles3 (ix3 ⟨g.val * 8 + a.val, by omega⟩ q j)) = _; rw [angles3_apply]; rfl)

end Cert.Kernel5Ideal.Fourier

end
-- ==== Proof.Fourier.Run.lean ====
/- The run of the two Fourier calls with its result array: what the second call leaves of what the first call leaves. -/
module

public import proofs.«01_k».proof.Proof.Gen.Kernel5Ideal.Frame
public import Idealize.ShloMosaic.Lib.Pipeline.Value

@[expose] public section

set_option maxRecDepth 16384

noncomputable section

namespace Cert.Kernel5Ideal.Fourier

open Cert.Kernel5Ideal Cert.Kernel5Ideal.Gen Idealize.ShloMosaic Idealize.ShloMosaic.TcCoe Idealize.SL Idealize.SL.Sem
open Idealize.ShloMosaic.Tactic Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- The run, its result array named: the segments and the launch are the frame's, and the last state is read at the result too. -/
theorem run_result : θ_run defs (onTc (τ := τ) (main (F := F))) ⟨m, fun _ => 0, ρ⟩ (fun r => ∀ c : Dev nD,
      r.2.mem ((c.tc : Thread nD τ).loc main_v85) = W12 m ρ c (Proc.devRef .tc main_v85)
      ∧ r.2.mem ((c.tc : Thread nD τ).loc main_arg0) = m ((c.tc : Thread nD τ).loc main_arg0)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun _ h _ c => ⟨h c _ (mem_uc main_v85 (by decide)), (h c _ (mem_uc main_arg0 (by decide))).trans (W12_main_arg0 m ρ c)⟩)

/-- The result is the second call's output with its axes joined. -/
theorem result_eq (c : Dev nD) : (W12 m ρ c (Proc.devRef .tc main_v85) : Vec F S32768x512 .bf16)
    = shapeCast S32768x512 ((dat1 (V10 m ρ) c).arrAt 3 cfg1.N : Vec F S4x128x64x512 .bf16) shapeCasts_S4x128x64x512_S32768x512 := by
  have e : (W12 m ρ c (Proc.devRef .tc main_v85) : Vec F S32768x512 .bf16)
      = shapeCast S32768x512 (W11 m ρ c (Proc.devRef .tc main_v84) : Vec F S4x128x64x512 .bf16) shapeCasts_S4x128x64x512_S32768x512 := by
    simp only [W12, hostOps2, StableHlo.TRef.unary, StableHlo.TRef.toBuf, StableHlo.TRef.ofBuf, cast_eq]
    after_results_simp
    rfl
  rw [e]
  exact congrArg (fun v => shapeCast S32768x512 (v : Vec F S4x128x64x512 .bf16) shapeCasts_S4x128x64x512_S32768x512) (W11_arr m ρ c 3)

/-- The second call reads the first call's output, and tables that the first call leaves alone. -/
theorem first_eq (c : Dev nD) : (V10 m ρ c main_v83 : Vec F S4x64x128x1024 .bf16) = ((dat0 (V9 m ρ) c).arrAt 3 cfg0.N : Vec F S4x64x128x1024 .bf16) :=
  W10_arr m ρ c 3

theorem table_kept (c : Dev nD) : (V10 m ρ c main_v70 : Vec F S8x1024x1024 .bf16) = V9 m ρ c main_v70 := W10_of_ne m ρ c main_v70 (by decide)

theorem table_kept' (c : Dev nD) : (V10 m ρ c main_v81 : Vec F S8x1024x1024 .bf16) = V9 m ρ c main_v81 := W10_of_ne m ρ c main_v81 (by decide)

end Cert.Kernel5Ideal.Fourier

end
-- ==== Proof.Fourier.First.lean ====
/- The first call's array: the transform over the coarse positions. -/
module

public import proofs.«01_k».proof.Proof.Fourier.Body
public import proofs.«01_k».proof.Proof.Fourier.Entries
public import proofs.«01_k».proof.Proof.Fourier.Run

@[expose] public section

set_option maxRecDepth 16384

noncomputable section

namespace Cert.Kernel5Ideal.Fourier

open Cert.Kernel5Ideal Cert.Kernel5Ideal.Gen Idealize.ShloMosaic Idealize.ShloMosaic.TcCoe

variable (m : (ℓ : Loc nD τ sig) → Buf (Elt Ideal) ℓ) (ρ : Dev nD → PrngReg)

/-- Which block each window of the first call shows at point `t`. -/
theorem idx0 : ∀ t : Fin grid0.N, win0_0.index t = ![t.val / 8, 0, t.val % 8, 0] ∧ win0_1.index t = ![0, 0] ∧ win0_2.index t = ![0, 0]
    ∧ win0_3.index t = ![t.val / 8, 0, t.val % 8, 0] :=
  (by decide +kernel)

/-- A slot of a block is in its first or in its second half; a column is a real or an imaginary part's. -/
theorem slot_low (j : Fin 16) (h : j.val < 8) : ∃ a : Fin 8, j = ⟨a.val, lt_of_lt_of_le a.isLt (by decide)⟩ := ⟨⟨j.val, h⟩, rfl⟩
theorem slot_high (j : Fin 16) (h : ¬ j.val < 8) : ∃ a : Fin 8, j = ⟨8 + a.val, Nat.add_lt_add_left a.isLt 8⟩ :=
  ⟨⟨j.val - 8, by omega⟩, Fin.ext (by show j.val = 8 + (j.val - 8); omega)⟩
theorem column_low (d : Fin 1024) (h : d.val < 512) : ∃ e : Fin 512, d = ⟨e.val, lt_of_lt_of_le e.isLt (by decide)⟩ := ⟨⟨d.val, h⟩, rfl⟩
theorem column_high (d : Fin 1024) (h : ¬ d.val < 512) : ∃ e : Fin 512, d = ⟨512 + e.val, Nat.add_lt_add_left e.isLt 512⟩ :=
  ⟨⟨d.val - 512, by omega⟩, Fin.ext (by show d.val = 512 + (d.val - 512); omega)⟩

/-- The array at a batch, a coarse and a fine position, and a column. -/
def at4 (x : Vec Ideal S32768x1024 .bf16) (b : Fin 4) (i : Fin 64) (j : Fin 128) (d : Fin 1024) : EReal :=
  x (ix2 ⟨b.val * 8192 + i.val * 128 + j.val, by omega⟩ d)

theorem at4_apply (x : Vec Ideal S32768x1024 .bf16) (b : Fin 4) (i : Fin 64) (j : Fin 128) (d : Fin 1024) :
    shapeCast S4x64x128x1024 x shapeCasts_S32768x1024_S4x64x128x1024 (ix4 b i j d) = at4 x b i j d := by
  unfold at4
  pointwise!

/-- The scaled cosine and sine of the first call. -/
def cos1 (p i : Fin 64) : EReal := ((Real.cos (coarse p.val i.val) * (1 / 8) : ℝ) : EReal)
def sin1 (p i : Fin 64) : EReal := ((Real.sin (coarse p.val i.val) * (1 / 8) : ℝ) : EReal)

/-- The real and the imaginary part of the transform over the coarse positions. -/
def reOf (x : Vec Ideal S32768x1024 .bf16) (b : Fin 4) (p : Fin 64) (j : Fin 128) (c : Fin 512) : EReal :=
  ∑ i : Fin 64, cos1 p i * at4 x b i j ⟨c.val, by omega⟩ + ∑ i : Fin 64, sin1 p i * at4 x b i j ⟨512 + c.val, by omega⟩
def imOf (x : Vec Ideal S32768x1024 .bf16) (b : Fin 4) (p : Fin 64) (j : Fin 128) (c : Fin 512) : EReal :=
  ∑ i : Fin 64, cos1 p i * at4 x b i j ⟨512 + c.val, by omega⟩ - ∑ i : Fin 64, sin1 p i * at4 x b i j ⟨c.val, by omega⟩

theorem read_x (c : Dev nD) (t : Fin cfg0.N) (i : Fin 64) (j : Fin 16) (d : Fin 1024) (b : Fin 4) (J : Fin 128) (hb : t.val / 8 = b.val) (hJ : t.val % 8 * 16 + j.val = J.val) :
    (iblk0 (V9 m ρ) c 0 t : Vec Ideal S1x64x16x1024 .bf16) (ix4 0 i j d) = at4 (m (c.tc.loc main_arg0)) b i J d := by
  have e : (iblk0 (V9 m ρ) c 0 t : Vec Ideal S1x64x16x1024 .bf16) (ix4 0 i j d) = (V9 m ρ c main_v82 : Vec Ideal S4x64x128x1024 .bf16) (ix4 b i J d) := by
    blk_ext! [iblk0, idx0 t]
  rw [e, x_eq]
  exact at4_apply _ b i J d

theorem read_cos (c : Dev nD) (t : Fin cfg0.N) (p i : Fin 64) (a b : Fin 8) :
    (iblk0 (V9 m ρ) c 1 t : Vec Ideal S512x512 .bf16) (ix2 ⟨p.val * 8 + a.val, by omega⟩ ⟨i.val * 8 + b.val, by omega⟩) = if a = b then cos1 p i else 0 := by
  have e : (iblk0 (V9 m ρ) c 1 t : Vec Ideal S512x512 .bf16) (ix2 ⟨p.val * 8 + a.val, by omega⟩ ⟨i.val * 8 + b.val, by omega⟩)
      = (V9 m ρ c main_v27 : Vec Ideal S512x512 .bf16) (ix2 ⟨p.val * 8 + a.val, by omega⟩ ⟨i.val * 8 + b.val, by omega⟩) := by
    blk_ext! [iblk0, idx0 t]
  rw [e, cos1_eq]
  exact cos1_apply p i a b

theorem read_sin (c : Dev nD) (t : Fin cfg0.N) (p i : Fin 64) (a b : Fin 8) :
    (iblk0 (V9 m ρ) c 2 t : Vec Ideal S512x512 .bf16) (ix2 ⟨p.val * 8 + a.val, by omega⟩ ⟨i.val * 8 + b.val, by omega⟩) = if a = b then sin1 p i else 0 := by
  have e : (iblk0 (V9 m ρ) c 2 t : Vec Ideal S512x512 .bf16) (ix2 ⟨p.val * 8 + a.val, by omega⟩ ⟨i.val * 8 + b.val, by omega⟩)
      = (V9 m ρ c main_v34 : Vec Ideal S512x512 .bf16) (ix2 ⟨p.val * 8 + a.val, by omega⟩ ⟨i.val * 8 + b.val, by omega⟩) := by
    blk_ext! [iblk0, idx0 t]
  rw [e, sin1_eq]
  exact sin1_apply p i a b

section
variable (c : Dev nD) (t : Fin cfg0.N) (p : Fin 64) (b : Fin 4) (hb : t.val / 8 = b.val)
include hb

/-- A block's entry, in the argument: real part, then imaginary part. -/
theorem block_re (j : Fin 16) (d : Fin 512) (J : Fin 128) (hJ : t.val % 8 * 16 + j.val = J.val) :
    out0_3 (iblk0 (V9 m ρ) c 0 t) (iblk0 (V9 m ρ) c 1 t) (iblk0 (V9 m ρ) c 2 t) (ix4 0 p j ⟨d.val, by omega⟩) = reOf (m (c.tc.loc main_arg0)) b p J d := by
  rw [out0_apply]
  unfold reOf
  by_cases hj : j.val < 8
  · obtain ⟨a, rfl⟩ := slot_low j hj
    rw [halves_low, half_re _ _ _ p a (cos1 p) (sin1 p) (fun i b => read_cos m ρ c t p i a b) (fun i b => read_sin m ρ c t p i a b)]
    refine congr (congrArg _ (Finset.sum_congr rfl fun i _ => ?_)) (Finset.sum_congr rfl fun i _ => ?_)
    · exact congrArg (cos1 p i * ·) ((low_apply ..).trans (read_x m ρ c t i _ _ b J hb hJ))
    · exact congrArg (sin1 p i * ·) ((low_apply ..).trans (read_x m ρ c t i _ _ b J hb hJ))
  · obtain ⟨a, rfl⟩ := slot_high j hj
    rw [halves_high, half_re _ _ _ p a (cos1 p) (sin1 p) (fun i b => read_cos m ρ c t p i a b) (fun i b => read_sin m ρ c t p i a b)]
    refine congr (congrArg _ (Finset.sum_congr rfl fun i _ => ?_)) (Finset.sum_congr rfl fun i _ => ?_)
    · exact congrArg (cos1 p i * ·) ((high_apply ..).trans (read_x m ρ c t i _ _ b J hb hJ))
    · exact congrArg (sin1 p i * ·) ((high_apply ..).trans (read_x m ρ c t i _ _ b J hb hJ))

theorem block_im (j : Fin 16) (d : Fin 512) (J : Fin 128) (hJ : t.val % 8 * 16 + j.val = J.val) :
    out0_3 (iblk0 (V9 m ρ) c 0 t) (iblk0 (V9 m ρ) c 1 t) (iblk0 (V9 m ρ) c 2 t) (ix4 0 p j ⟨512 + d.val, by omega⟩) = imOf (m (c.tc.loc main_arg0)) b p J d := by
  rw [out0_apply]
  unfold imOf
  by_cases hj : j.val < 8
  · obtain ⟨a, rfl⟩ := slot_low j hj
    rw [halves_low, half_im _ _ _ p a (cos1 p) (sin1 p) (fun i b => read_cos m ρ c t p i a b) (fun i b => read_sin m ρ c t p i a b)]
    refine congr (congrArg _ (Finset.sum_congr rfl fun i _ => ?_)) (Finset.sum_congr rfl fun i _ => ?_)
    · exact congrArg (cos1 p i * ·) ((low_apply ..).trans (read_x m ρ c t i _ _ b J hb hJ))
    · exact congrArg (sin1 p i * ·) ((low_apply ..).trans (read_x m ρ c t i _ _ b J hb hJ))
  · obtain ⟨a, rfl⟩ := slot_high j hj
    rw [halves_high, half_im _ _ _ p a (cos1 p) (sin1 p) (fun i b => read_cos m ρ c t p i a b) (fun i b => read_sin m ρ c t p i a b)]
    refine congr (congrArg _ (Finset.sum_congr rfl fun i _ => ?_)) (Finset.sum_congr rfl fun i _ => ?_)
    · exact congrArg (cos1 p i * ·) ((high_apply ..).trans (read_x m ρ c t i _ _ b J hb hJ))
    · exact congrArg (sin1 p i * ·) ((high_apply ..).trans (read_x m ρ c t i _ _ b J hb hJ))
end

/-- Either part, by column. -/
def partOf (x : Vec Ideal S32768x1024 .bf16) (b : Fin 4) (p : Fin 64) (j : Fin 128) (d : Fin 1024) : EReal :=
  if d.val < 512 then reOf x b p j ⟨d.val % 512, by omega⟩ else imOf x b p j ⟨d.val % 512, by omega⟩

theorem partOf_re (x : Vec Ideal S32768x1024 .bf16) (b : Fin 4) (p : Fin 64) (j : Fin 128) (d : Fin 512) : partOf x b p j ⟨d.val, by omega⟩ = reOf x b p j d := by
  have e : (⟨d.val % 512, by omega⟩ : Fin 512) = d := Fin.ext (Nat.mod_eq_of_lt d.isLt)
  exact (if_pos d.isLt).trans (congrArg (reOf x b p j) e)

theorem partOf_im (x : Vec Ideal S32768x1024 .bf16) (b : Fin 4) (p : Fin 64) (j : Fin 128) (d : Fin 512) : partOf x b p j ⟨512 + d.val, by omega⟩ = imOf x b p j d := by
  have e : (⟨(512 + d.val) % 512, by omega⟩ : Fin 512) = d := Fin.ext (by show (512 + d.val) % 512 = d.val; omega)
  exact (if_neg (by show ¬ 512 + d.val < 512; omega)).trans (congrArg (imOf x b p j) e)

theorem block_part (c : Dev nD) (t : Fin cfg0.N) (p : Fin 64) (j : Fin 16) (d : Fin 1024) (b : Fin 4) (J : Fin 128) (hb : t.val / 8 = b.val) (hJ : t.val % 8 * 16 + j.val = J.val) :
    out0_3 (iblk0 (V9 m ρ) c 0 t) (iblk0 (V9 m ρ) c 1 t) (iblk0 (V9 m ρ) c 2 t) (ix4 0 p j d) = partOf (m (c.tc.loc main_arg0)) b p J d := by
  by_cases hd : d.val < 512
  · obtain ⟨e, rfl⟩ := column_low d hd
    rw [block_re m ρ c t p b hb j e J hJ, partOf_re]
  · obtain ⟨e, rfl⟩ := column_high d hd
    rw [block_im m ρ c t p b hb j e J hJ, partOf_im]

/-- The first call's array. -/
theorem arr_first (c : Dev nD) : (dat0 (V9 m ρ) c).arrAt 3 cfg0.N
    = (fun i => partOf (m (c.tc.loc main_arg0)) (i 0) (i 1) (i 2) (i 3) : Vec Ideal S4x64x128x1024 .bf16) := by
  refine (dat0 (V9 m ρ) c).arrAt_eq_of_covers 3 _ (by decide +kernel) fun t hf y => ?_
  blk_simp
  rw [after0_3]
  obtain ⟨z, p, j, d, rfl⟩ : ∃ (z : Fin 1) (p : Fin 64) (j : Fin 16) (d : Fin 1024), y = ix4 z p j d := ⟨y 0, y 1, y 2, y 3, eq_ix4 y⟩
  obtain rfl : z = 0 := Subsingleton.elim _ _
  have ht : t.val < 32 := lt_of_lt_of_eq t.isLt N_0
  have e : (win0_3.blk t).view.emb (ix4 0 p j d) = ix4 ⟨t.val / 8, by omega⟩ p ⟨t.val % 8 * 16 + j.val, by omega⟩ d := by
    blk_ext [idx0 t]
  rw [block_part m ρ c t p j d ⟨t.val / 8, by omega⟩ ⟨t.val % 8 * 16 + j.val, by omega⟩ rfl rfl, e]
  rfl

end Cert.Kernel5Ideal.Fourier

end
-- ==== Proof.Fourier.Second.lean ====
/- The second call's array: the transform over the fine positions of what the first call leaves, and the program's result. -/
module

public import proofs.«01_k».proof.Proof.Fourier.First

@[expose] public section

set_option maxRecDepth 16384

noncomputable section

namespace Cert.Kernel5Ideal.Fourier

open Cert.Kernel5Ideal Cert.Kernel5Ideal.Gen Idealize.ShloMosaic Idealize.ShloMosaic.TcCoe

variable (m : (ℓ : Loc nD τ sig) → Buf (Elt Ideal) ℓ) (ρ : Dev nD → PrngReg)

/-- Which block each window of the second call shows at point `t`. -/
theorem idx1 : ∀ t : Fin grid1.N, win1_0.index t = ![t.val % 4, t.val / 4, 0, 0] ∧ win1_1.index t = ![t.val / 4, 0, 0] ∧ win1_2.index t = ![t.val / 4, 0, 0]
    ∧ win1_3.index t = ![t.val % 4, 0, t.val / 4, 0] :=
  (by decide +kernel)

/-- The scaled cosine and sine of the second call. -/
def cos3 (p : Fin 64) (q j : Fin 128) : EReal := ((Real.cos (fine p.val q.val j.val) * root : ℝ) : EReal)
def sin3 (p : Fin 64) (q j : Fin 128) : EReal := ((Real.sin (fine p.val q.val j.val) * root : ℝ) : EReal)

/-- The transform at a batch and a frequency `p + 64 q`. -/
def outOf (x : Vec Ideal S32768x1024 .bf16) (b : Fin 4) (q : Fin 128) (p : Fin 64) (c : Fin 512) : EReal :=
  ∑ j : Fin 128, cos3 p q j * reOf x b p j c + ∑ j : Fin 128, sin3 p q j * imOf x b p j c

/-- The first call's array at a block's slot. -/
theorem read_a (c : Dev nD) (t : Fin cfg1.N) (r : Fin 16) (j : Fin 128) (d : Fin 1024) (b : Fin 4) (p : Fin 64) (hb : t.val % 4 = b.val) (hp : t.val / 4 * 16 + r.val = p.val) :
    (iblk1 (V10 m ρ) c 0 t : Vec Ideal S1x16x128x1024 .bf16) (ix4 0 r j d) = partOf (m (c.tc.loc main_arg0)) b p j d := by
  have e : (iblk1 (V10 m ρ) c 0 t : Vec Ideal S1x16x128x1024 .bf16) (ix4 0 r j d) = (V10 m ρ c main_v83 : Vec Ideal S4x64x128x1024 .bf16) (ix4 b p j d) := by
    blk_ext! [iblk1, idx1 t]
  rw [e, first_eq, arr_first]
  rfl

/-- The tables at a block's half. -/
theorem read_cos3 (c : Dev nD) (t : Fin cfg1.N) (h : Fin 2) (g : Fin 8) (hg : t.val / 4 * 2 + h.val = g.val) (q : Fin 128) (a b : Fin 8) (j : Fin 128) (p : Fin 64) (hp : g.val * 8 + a.val = p.val) :
    (iblk1 (V10 m ρ) c 1 t : Vec Ideal S2x1024x1024 .bf16) (ix3 h ⟨q.val * 8 + a.val, by omega⟩ ⟨b.val * 128 + j.val, by omega⟩) = if a = b then cos3 p q j else 0 := by
  have e : (iblk1 (V10 m ρ) c 1 t : Vec Ideal S2x1024x1024 .bf16) (ix3 h ⟨q.val * 8 + a.val, by omega⟩ ⟨b.val * 128 + j.val, by omega⟩)
      = (V10 m ρ c main_v70 : Vec Ideal S8x1024x1024 .bf16) (ix3 g ⟨q.val * 8 + a.val, by omega⟩ ⟨b.val * 128 + j.val, by omega⟩) := by
    blk_ext! [iblk1, idx1 t]
  rw [e, table_kept, cos3_eq, cos3_apply, hp]
  rfl

theorem read_sin3 (c : Dev nD) (t : Fin cfg1.N) (h : Fin 2) (g : Fin 8) (hg : t.val / 4 * 2 + h.val = g.val) (q : Fin 128) (a b : Fin 8) (j : Fin 128) (p : Fin 64) (hp : g.val * 8 + a.val = p.val) :
    (iblk1 (V10 m ρ) c 2 t : Vec Ideal S2x1024x1024 .bf16) (ix3 h ⟨q.val * 8 + a.val, by omega⟩ ⟨b.val * 128 + j.val, by omega⟩) = if a = b then sin3 p q j else 0 := by
  have e : (iblk1 (V10 m ρ) c 2 t : Vec Ideal S2x1024x1024 .bf16) (ix3 h ⟨q.val * 8 + a.val, by omega⟩ ⟨b.val * 128 + j.val, by omega⟩)
      = (V10 m ρ c main_v81 : Vec Ideal S8x1024x1024 .bf16) (ix3 g ⟨q.val * 8 + a.val, by omega⟩ ⟨b.val * 128 + j.val, by omega⟩) := by
    blk_ext! [iblk1, idx1 t]
  rw [e, table_kept', sin3_eq, sin3_apply, hp]
  rfl

/-- A block's halves, as the body loads them. -/
theorem load_low (x : Vec Ideal S1x16x128x1024 .bf16) (a : Fin 8) (j : Fin 128) (d : Fin 1024) : View.ld x r1_0 (ix4 0 a j d) = x (ix4 0 ⟨a.val, by omega⟩ j d) := by
  pointwise

theorem load_high (x : Vec Ideal S1x16x128x1024 .bf16) (a : Fin 8) (j : Fin 128) (d : Fin 1024) : View.ld x r1_2 (ix4 0 a j d) = x (ix4 0 ⟨8 + a.val, by omega⟩ j d) := by
  pointwise

theorem table_low (w : Vec Ideal S2x1024x1024 .bf16) (r l : Fin 1024) : View.ld w r1_1 (ix3 0 r l) = w (ix3 0 r l) := by
  pointwise

theorem table_high (w : Vec Ideal S2x1024x1024 .bf16) (r l : Fin 1024) : View.ld w r1_3 (ix3 0 r l) = w (ix3 1 r l) := by
  pointwise

/-- A block's entry, in the argument. -/
theorem block_out (c : Dev nD) (t : Fin cfg1.N) (q : Fin 128) (r : Fin 16) (d : Fin 512) (b : Fin 4) (p : Fin 64) (hb : t.val % 4 = b.val) (hp : t.val / 4 * 16 + r.val = p.val) :
    out1_3 (iblk1 (V10 m ρ) c 0 t) (iblk1 (V10 m ρ) c 1 t) (iblk1 (V10 m ρ) c 2 t) (ix4 0 q r d) = outOf (m (c.tc.loc main_arg0)) b q p d := by
  have ht : t.val < 16 := lt_of_lt_of_eq t.isLt N_1
  rw [out1_apply]
  unfold outOf
  by_cases hr : r.val < 8
  · obtain ⟨a, rfl⟩ := slot_low r hr
    have hp' : t.val / 4 * 16 + a.val = p.val := hp
    rw [pair_low, eight_apply _ _ _ q a d (cos3 p q) (sin3 p q)
      (fun b j => (table_low ..).trans (read_cos3 m ρ c t 0 ⟨t.val / 4 * 2, by omega⟩ rfl q a b j p (by show t.val / 4 * 2 * 8 + a.val = p.val; omega)))
      (fun b j => (table_low ..).trans (read_sin3 m ρ c t 0 ⟨t.val / 4 * 2, by omega⟩ rfl q a b j p (by show t.val / 4 * 2 * 8 + a.val = p.val; omega)))]
    refine congr (congrArg _ (Finset.sum_congr rfl fun j _ => ?_)) (Finset.sum_congr rfl fun j _ => ?_)
    · exact congrArg (cos3 p q j * ·) ((load_low ..).trans ((read_a m ρ c t _ j _ b p hb hp).trans (partOf_re ..)))
    · exact congrArg (sin3 p q j * ·) ((load_low ..).trans ((read_a m ρ c t _ j _ b p hb hp).trans (partOf_im ..)))
  · obtain ⟨a, rfl⟩ := slot_high r hr
    have hp' : t.val / 4 * 16 + (8 + a.val) = p.val := hp
    rw [pair_high, eight_apply _ _ _ q a d (cos3 p q) (sin3 p q)
      (fun b j => (table_high ..).trans (read_cos3 m ρ c t 1 ⟨t.val / 4 * 2 + 1, by omega⟩ rfl q a b j p (by show (t.val / 4 * 2 + 1) * 8 + a.val = p.val; omega)))
      (fun b j => (table_high ..).trans (read_sin3 m ρ c t 1 ⟨t.val / 4 * 2 + 1, by omega⟩ rfl q a b j p (by show (t.val / 4 * 2 + 1) * 8 + a.val = p.val; omega)))]
    refine congr (congrArg _ (Finset.sum_congr rfl fun j _ => ?_)) (Finset.sum_congr rfl fun j _ => ?_)
    · exact congrArg (cos3 p q j * ·) ((load_high ..).trans ((read_a m ρ c t _ j _ b p hb hp).trans (partOf_re ..)))
    · exact congrArg (sin3 p q j * ·) ((load_high ..).trans ((read_a m ρ c t _ j _ b p hb hp).trans (partOf_im ..)))

/-- The second call's array. -/
theorem arr_second (c : Dev nD) : (dat1 (V10 m ρ) c).arrAt 3 cfg1.N
    = (fun i => outOf (m (c.tc.loc main_arg0)) (i 0) (i 1) (i 2) (i 3) : Vec Ideal S4x128x64x512 .bf16) := by
  refine (dat1 (V10 m ρ) c).arrAt_eq_of_covers 3 _ (by decide +kernel) fun t hf y => ?_
  blk_simp
  rw [after1_3]
  obtain ⟨z, q, r, d, rfl⟩ : ∃ (z : Fin 1) (q : Fin 128) (r : Fin 16) (d : Fin 512), y = ix4 z q r d := ⟨y 0, y 1, y 2, y 3, eq_ix4 y⟩
  obtain rfl : z = 0 := Subsingleton.elim _ _
  have ht : t.val < 16 := lt_of_lt_of_eq t.isLt N_1
  have e : (win1_3.blk t).view.emb (ix4 0 q r d) = ix4 ⟨t.val % 4, by omega⟩ q ⟨t.val / 4 * 16 + r.val, by omega⟩ d := by
    blk_ext [idx1 t]
  rw [block_out m ρ c t q r d ⟨t.val % 4, by omega⟩ ⟨t.val / 4 * 16 + r.val, by omega⟩ rfl rfl, e]
  rfl

theorem joined_rows (u : Vec Ideal S4x128x64x512 .bf16) (b : Fin 4) (q : Fin 128) (p : Fin 64) (c : Fin 512) :
    shapeCast S32768x512 u shapeCasts_S4x128x64x512_S32768x512 (ix2 ⟨b.val * 8192 + q.val * 64 + p.val, by omega⟩ c) = u (ix4 b q p c) := by
  pointwise!

/-- The program's result at a row: batch `b`, frequency `64 q + p`. -/
theorem result_apply (c : Dev nD) (b : Fin 4) (q : Fin 128) (p : Fin 64) (d : Fin 512) :
    (W12 m ρ c (Proc.devRef .tc main_v85) : Vec Ideal S32768x512 .bf16) (ix2 ⟨b.val * 8192 + q.val * 64 + p.val, by omega⟩ d) = outOf (m (c.tc.loc main_arg0)) b q p d := by
  rw [result_eq, arr_second]
  exact joined_rows _ b q p d

end Cert.Kernel5Ideal.Fourier

end
-- ==== Proof.Fourier.Plain.lean ====
/- The reference's transform, entry by entry: one sum over all positions, at the angles the kernel's two stages add up to. -/
module

public import proofs.«01_k».proof.Proof.Fourier.Phase
public import proofs.«01_k».proof.Proof.Fourier.Second
public import proofs.«01_k».proof.Proof.Gen.Reference5Ideal.Run

@[expose] public section

set_option maxRecDepth 16384

noncomputable section

namespace Cert.Reference5Ideal.Fourier

open Cert.Reference5Ideal Cert.Reference5Ideal.Gen Idealize.ShloMosaic Idealize.ShloMosaic.TcCoe
open Cert.Kernel5Ideal.Fourier

/-- The positions in a row, their rests by 128, and the frequencies in a column. -/
def positions : IVec S1x8192 32 := broadcastInDim S1x8192 ![1] bcast_S8192_S1x8192_1 (iotaInDim S8192 32 0)
def rests : IVec S1x8192 32 := remV bcast_S_S1x8192 positions 128#32
def frequencies : IVec S8192x8192 32 := broadcastInDim S8192x8192 ![0, 1] bcast_S8192x1_S8192x8192_0_1 (broadcastInDim S8192x1 ![0] bcast_S8192_S8192x1_0 (iotaInDim S8192 32 0))

/-- A row of positions times every frequency. -/
def times (v : IVec S1x8192 32) : IVec S8192x8192 32 := muli (broadcastInDim S8192x8192 ![0, 1] bcast_S1x8192_S8192x8192_0_1 v) frequencies

/-- The phases in 8192ths of a turn, and the angles. -/
def steps : IVec S8192x8192 32 := addi (remV bcast_S_S8192x8192 (times (subi positions rests)) 8192#32) (remV bcast_S_S8192x8192 (times rests) 8192#32)
def angles : FVec Ideal S8192x8192 .f32 := mulf (broadcastInDim S8192x8192 ![] bcast_S_S8192x8192 (constant S_ .f32 0x3A490FDB#32)) (sitofp .f32 steps)

/-- A table of the transform. -/
def table (f : FVec Ideal S8192x8192 .f32) : FVec Ideal S8192x8192 .f32 := mulf f (broadcastInDim S8192x8192 ![] bcast_S_S8192x8192 (constant S_ .f32 0x3C3504F3#32))

/-- The two halves of the columns by batch and position. -/
def parts (x : Vec Ideal S32768x1024 .bf16) : FVec Ideal S4x8192x1024 .f32 := shapeCast _ (extf .f32 x bitsLt_bf16_f32 : FVec Ideal S32768x1024 .f32) shapeCasts_S32768x1024_S4x8192x1024
def left (x : Vec Ideal S32768x1024 .bf16) : FVec Ideal S4x8192x512 .f32 := extractStridedSlice S4x8192x512 ![0, 0, 0] (parts x) slices_S4x8192x1024_S4x8192x512_0_0_0
def right (x : Vec Ideal S32768x1024 .bf16) : FVec Ideal S4x8192x512 .f32 := extractStridedSlice S4x8192x512 ![0, 0, 512] (parts x) slices_S4x8192x1024_S4x8192x512_0_0_512

/-- A half against a table. -/
def against (y : FVec Ideal S4x8192x512 .f32) (t : FVec Ideal S8192x8192 .f32) : FVec Ideal S4x8192x512 .f32 :=
  transpose S4x8192x512 [0, 2, 1] (Host.dotGeneral dot_S4x8192x512_S8192x8192_S4x512x8192_1_1_02_0_n_n none y t : FVec Ideal S4x512x8192 .f32) transposes_S4x512x8192_S4x8192x512_0_2_1

/-- The whole transform. -/
def transform (x : Vec Ideal S32768x1024 .bf16) : FVec Ideal S32768x512 .bf16 :=
  truncf .bf16 (shapeCast _ (addf (against (left x) (table (Host.cos angles))) (against (right x) (table (Host.sin angles)))) shapeCasts_S4x8192x512_S32768x512 : FVec Ideal S32768x512 .f32) bitsLt_bf16_f32

set_option maxHeartbeats 4000000 in
/-- The generated term is the one above. -/
theorem term_out (m : (ℓ : Loc nD τ sig) → Buf (Elt Ideal) ℓ) (c : Dev nD) : Value.res_main_v34 m c = transform (m (c.tc.loc main_arg0)) := rfl

theorem positions_apply (n : Fin 8192) : positions (ix2 0 n) = BitVec.ofNat 32 n.val := by
  pointwise [positions]

theorem frequencies_apply (k n : Fin 8192) : frequencies (ix2 k n) = BitVec.ofNat 32 k.val := by
  pointwise [frequencies]

theorem rests_apply (n : Fin 8192) : rests (ix2 0 n) = BitVec.ofNat 32 (n.val % 128) :=
  remV_apply bcast_S_S1x8192 positions 128 _ _ (positions_apply n) (by omega) (by norm_num) (by norm_num)

theorem times_apply (v : IVec S1x8192 32) (k n : Fin 8192) (r : ℕ) (h : v (ix2 0 n) = BitVec.ofNat 32 r) : times v (ix2 k n) = BitVec.ofNat 32 (r * k.val) := by
  refine Eq.trans (b := IntOp.muli (v (ix2 0 n)) (frequencies (ix2 k n))) ?_ ?_
  · pointwise [times]
  · rw [h, frequencies_apply, muli_word]

theorem small (a b : ℕ) (ha : a < 8192) (hb : b < 8192) : a * b < 2 ^ 31 := lt_of_le_of_lt (Nat.mul_le_mul ha.le hb.le) (by norm_num)

/-- The phase of frequency `64 q + p` at position `128 i + j`. -/
theorem steps_apply (p : Fin 64) (q : Fin 128) (i : Fin 64) (j : Fin 128) :
    steps (ix2 ⟨q.val * 64 + p.val, by omega⟩ ⟨i.val * 128 + j.val, by omega⟩) = BitVec.ofNat 32 (128 * (p.val * i.val % 64) + j.val * (p.val + 64 * q.val) % 8192) := by
  have hk : p.val + 64 * q.val < 8192 := by omega
  have hr : rests (ix2 0 ⟨i.val * 128 + j.val, by omega⟩) = BitVec.ofNat 32 j.val := by
    rw [rests_apply]
    exact congrArg (BitVec.ofNat 32) (by show (i.val * 128 + j.val) % 128 = j.val; omega)
  have hs : subi positions rests (ix2 0 ⟨i.val * 128 + j.val, by omega⟩) = BitVec.ofNat 32 (128 * i.val) := by
    show IntOp.subi (positions (ix2 0 ⟨i.val * 128 + j.val, by omega⟩)) (rests (ix2 0 ⟨i.val * 128 + j.val, by omega⟩)) = _
    rw [hr, (positions_apply ⟨i.val * 128 + j.val, by omega⟩).trans (congrArg (BitVec.ofNat 32) (show i.val * 128 + j.val = 128 * i.val + j.val by omega)), subi_word]
  have e : (⟨q.val * 64 + p.val, by omega⟩ : Fin 8192).val = p.val + 64 * q.val := by show q.val * 64 + p.val = _; omega
  show IntOp.addi (remV bcast_S_S8192x8192 (times (subi positions rests)) (BitVec.ofNat 32 8192) _) (remV bcast_S_S8192x8192 (times rests) (BitVec.ofNat 32 8192) _) = _
  rw [remV_apply bcast_S_S8192x8192 _ 8192 (128 * i.val * (p.val + 64 * q.val)) _ ((times_apply _ _ _ _ hs).trans (by rw [e])) (small _ _ (by omega) hk) (by norm_num) (by norm_num),
    remV_apply bcast_S_S8192x8192 _ 8192 (j.val * (p.val + 64 * q.val)) _ ((times_apply _ _ _ _ hr).trans (by rw [e])) (small _ _ (by omega) hk) (by norm_num) (by norm_num),
    addi_word, phase]

/-- The angle there: a coarse one and a fine one. -/
theorem angles_apply (p : Fin 64) (q : Fin 128) (i : Fin 64) (j : Fin 128) :
    angles (ix2 ⟨q.val * 64 + p.val, by omega⟩ ⟨i.val * 128 + j.val, by omega⟩) = ((coarse p.val i.val + fine p.val q.val j.val : ℝ) : EReal) := by
  have h1 : p.val * i.val % 64 < 64 := Nat.mod_lt _ (by norm_num)
  have h2 : j.val * (p.val + 64 * q.val) % 8192 < 8192 := Nat.mod_lt _ (by norm_num)
  have e : (sitofp .f32 steps : FVec Ideal S8192x8192 .f32) (ix2 ⟨q.val * 64 + p.val, by omega⟩ ⟨i.val * 128 + j.val, by omega⟩)
      = (((128 * (p.val * i.val % 64) + j.val * (p.val + 64 * q.val) % 8192 : ℕ) : ℝ) : EReal) := by
    show Scalar.sitofp (F := Ideal) .f32 (steps _) = _
    rw [steps_apply]
    exact float_word _ (by omega) _
  show Scalar.ofBits (F := Ideal) .f32 0x3A490FDB#32 * (sitofp .f32 steps : FVec Ideal S8192x8192 .f32) _ = _
  rw [e, step_eq, ← EReal.coe_mul]
  refine congrArg _ ?_
  unfold coarse fine
  push_cast
  ring

/-- The tables' entries. -/
theorem cos_apply (p : Fin 64) (q : Fin 128) (i : Fin 64) (j : Fin 128) :
    table (Host.cos angles) (ix2 ⟨q.val * 64 + p.val, by omega⟩ ⟨i.val * 128 + j.val, by omega⟩)
      = ((Real.cos (coarse p.val i.val + fine p.val q.val j.val) * (root * (1 / 8)) : ℝ) : EReal) := by
  show Ideal.cos (angles _) * Scalar.ofBits (F := Ideal) .f32 0x3C3504F3#32 = _
  rw [angles_apply, whole_eq, EReal.coe_mul]
  rfl

theorem sin_apply (p : Fin 64) (q : Fin 128) (i : Fin 64) (j : Fin 128) :
    table (Host.sin angles) (ix2 ⟨q.val * 64 + p.val, by omega⟩ ⟨i.val * 128 + j.val, by omega⟩)
      = ((Real.sin (coarse p.val i.val + fine p.val q.val j.val) * (root * (1 / 8)) : ℝ) : EReal) := by
  show Ideal.sin (angles _) * Scalar.ofBits (F := Ideal) .f32 0x3C3504F3#32 = _
  rw [angles_apply, whole_eq, EReal.coe_mul]
  rfl

/-- The halves' entries. -/
theorem left_apply (x : Vec Ideal S32768x1024 .bf16) (b : Fin 4) (n : Fin 8192) (c : Fin 512) :
    left x (ix3 b n c) = x (ix2 ⟨b.val * 8192 + n.val, by omega⟩ ⟨c.val, by omega⟩) := by
  pointwise! [left, parts]

theorem right_apply (x : Vec Ideal S32768x1024 .bf16) (b : Fin 4) (n : Fin 8192) (c : Fin 512) :
    right x (ix3 b n c) = x (ix2 ⟨b.val * 8192 + n.val, by omega⟩ ⟨512 + c.val, by omega⟩) := by
  pointwise! [right, parts]

theorem against_apply (y : FVec Ideal S4x8192x512 .f32) (t : FVec Ideal S8192x8192 .f32) (b : Fin 4) (k : Fin 8192) (c : Fin 512) :
    against y t (ix3 b k c) = ∑ n : Fin 8192, y (ix3 b n c) * t (ix2 k n) := by
  pointwise [against]

/-- The same over coarse and fine positions. -/
theorem against_split (y : FVec Ideal S4x8192x512 .f32) (t : FVec Ideal S8192x8192 .f32) (b : Fin 4) (k : Fin 8192) (c : Fin 512) :
    against y t (ix3 b k c) = ∑ i : Fin 64, ∑ j : Fin 128, y (ix3 b ⟨i.val * 128 + j.val, by omega⟩ c) * t (ix2 k ⟨i.val * 128 + j.val, by omega⟩) := by
  rw [against_apply]
  exact (Fin.sum_mul_add_congr (L := 8192) (S := 64) (n := 128) (f := fun n : Fin 8192 => y (ix3 b n c) * t (ix2 k n))
    (F := fun i j => y (ix3 b ⟨i.val * 128 + j.val, by omega⟩ c) * t (ix2 k ⟨i.val * 128 + j.val, by omega⟩)) (fun _ _ _ => rfl)).symm

theorem transform_apply (x : Vec Ideal S32768x1024 .bf16) (b : Fin 4) (k : Fin 8192) (c : Fin 512) :
    transform x (ix2 ⟨b.val * 8192 + k.val, by omega⟩ c)
      = against (left x) (table (Host.cos angles)) (ix3 b k c) + against (right x) (table (Host.sin angles)) (ix3 b k c) := by
  pointwise! [transform]

/-- Of finite projections, the reference's entry is the kernel's. -/
theorem transform_out (x : Vec Ideal S32768x1024 .bf16) (hx : ∀ i, ∃ r : ℝ, x i = (r : EReal)) (b : Fin 4) (q : Fin 128) (p : Fin 64) (c : Fin 512) :
    transform x (ix2 ⟨b.val * 8192 + (q.val * 64 + p.val), by omega⟩ c) = outOf x b q p c := by
  choose u hu using hx
  have hl : ∀ (i : Fin 64) (j : Fin 128), left x (ix3 b ⟨i.val * 128 + j.val, by omega⟩ c) = (u (ix2 ⟨b.val * 8192 + i.val * 128 + j.val, by omega⟩ ⟨c.val, by omega⟩) : EReal) := fun i j => by
    rw [left_apply, hu]
    refine congrArg (fun r : Fin 32768 => (u (ix2 r ⟨c.val, by omega⟩) : EReal)) (Fin.ext ?_)
    show b.val * 8192 + (i.val * 128 + j.val) = b.val * 8192 + i.val * 128 + j.val
    omega
  have hr : ∀ (i : Fin 64) (j : Fin 128), right x (ix3 b ⟨i.val * 128 + j.val, by omega⟩ c) = (u (ix2 ⟨b.val * 8192 + i.val * 128 + j.val, by omega⟩ ⟨512 + c.val, by omega⟩) : EReal) := fun i j => by
    rw [right_apply, hu]
    refine congrArg (fun r : Fin 32768 => (u (ix2 r ⟨512 + c.val, by omega⟩) : EReal)) (Fin.ext ?_)
    show b.val * 8192 + (i.val * 128 + j.val) = b.val * 8192 + i.val * 128 + j.val
    omega
  refine (transform_apply x b ⟨q.val * 64 + p.val, by omega⟩ c).trans ?_
  rw [against_split, against_split]
  simp only [hl, hr, cos_apply, sin_apply]
  refine (two_stage_finite (fun i j => u (ix2 ⟨b.val * 8192 + i.val * 128 + j.val, by omega⟩ ⟨c.val, by omega⟩))
    (fun i j => u (ix2 ⟨b.val * 8192 + i.val * 128 + j.val, by omega⟩ ⟨512 + c.val, by omega⟩)) (fun i => coarse p.val i.val) (fun j => fine p.val q.val j.val) (1 / 8) root).symm.trans ?_
  unfold outOf reOf imOf at4
  simp only [hu]
  rfl

/-- A row of the result is a batch, and a frequency of a fine and a coarse part. -/
theorem row (r : Fin 32768) : ∃ (b : Fin 4) (q : Fin 128) (p : Fin 64), r.val = b.val * 8192 + q.val * 64 + p.val :=
  ⟨⟨r.val / 8192, by omega⟩, ⟨r.val % 8192 / 64, by omega⟩, ⟨r.val % 64, by omega⟩, by show r.val = r.val / 8192 * 8192 + r.val % 8192 / 64 * 64 + r.val % 64; omega⟩

/-- Of finite projections, the reference's array is the kernel's. -/
theorem transform_result (m : (ℓ : Loc Cert.Kernel5Ideal.nD Cert.Kernel5Ideal.τ Cert.Kernel5Ideal.sig) → Buf (Elt Ideal) ℓ) (ρ : Dev Cert.Kernel5Ideal.nD → PrngReg) (c : Dev Cert.Kernel5Ideal.nD)
    (hx : ∀ i, ∃ r : ℝ, (m (c.tc.loc Cert.Kernel5Ideal.main_arg0) : Vec Ideal S32768x1024 .bf16) i = (r : EReal)) :
    transform (m (c.tc.loc Cert.Kernel5Ideal.main_arg0)) = (Cert.Kernel5Ideal.Gen.W12 m ρ c (Proc.devRef .tc Cert.Kernel5Ideal.main_v85) : Vec Ideal S32768x512 .bf16) := by
  funext i
  obtain ⟨r, d, rfl⟩ : ∃ (r : Fin 32768) (d : Fin 512), i = ix2 r d := ⟨i 0, i 1, eq_ix2 i⟩
  obtain ⟨b, q, p, h⟩ := row r
  have e1 : r = ⟨b.val * 8192 + (q.val * 64 + p.val), by omega⟩ := Fin.ext (h.trans (Nat.add_assoc ..))
  have e2 : r = ⟨b.val * 8192 + q.val * 64 + p.val, by omega⟩ := Fin.ext h
  refine (congrArg (fun r : Fin 32768 => transform (m (c.tc.loc Cert.Kernel5Ideal.main_arg0)) (ix2 r d)) e1).trans ((transform_out _ hx b q p d).trans ((result_apply m ρ c b q p d).symm.trans ?_))
  exact congrArg (fun r : Fin 32768 => (Cert.Kernel5Ideal.Gen.W12 m ρ c (Proc.devRef .tc Cert.Kernel5Ideal.main_v85) : Vec Ideal S32768x512 .bf16) (ix2 r d)) e2.symm

end Cert.Reference5Ideal.Fourier

end
-- ==== Proof.Fourier.Finite.lean ====
/- What the precondition says: the projections are finite. -/
module

public import proofs.«01_k».proof.Defs
public import proofs.«01_k».proof.Proof.Gen.Pre_projection_finite
public import Idealize.ShloMosaic.Lib.ReduceAll

@[expose] public section

noncomputable section

namespace Cert.Kernel5Ideal.Fourier

open Cert.Pre_projection_finite Idealize.ShloMosaic Idealize.ShloMosaic.TcCoe

attribute [local instance] Cert.Pre_projection_finite.Gen.facts

/-- A number whose magnitude is below +∞ is a real number. -/
theorem real_of_below {x : EReal} (h : Ideal.cmp .olt (max x (-x)) (Ideal.ofBits .bf16 0x7F80#16) = 1#1) : ∃ r : ℝ, x = r := by
  have e : Ideal.ofBits .bf16 0x7F80#16 = (⊤ : EReal) := by simp [Ideal.ofBits, Ideal.ieee]
  rw [e] at h
  refine ⟨x.toReal, (EReal.coe_toReal (fun hx => ?_) (fun hx => ?_)).symm⟩ <;> subst hx <;> simp [Ideal.cmp] at h

instance : Subsingleton S_.Idx := ⟨fun a b => funext fun i => i.elim0⟩

theorem projection_real {x : FVec Ideal S32768x1024 .bf16} (h : fn (F := Ideal) x = fun _ => 1#1) (i : S32768x1024.Idx) : ∃ r : ℝ, x i = (r : EReal) :=
  real_of_below (Host.reduce_andi_all _ _ _ _ _ (congrFun h fun i => i.elim0) i)

end Cert.Kernel5Ideal.Fourier

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Pre_weights_finite
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Pre_projection_finite
public import proofs.«01_k».proof.Proof.Router.Plain
public import proofs.«01_k».proof.Proof.Router.Finite
public import Idealize.ShloMosaic.Adequacy
public import Idealize.ShloMosaic.Init
public import Idealize.ShloMosaic.Lib.Quiescent
public import proofs.«01_k».proof.Proof.Ffn.Equation
public import proofs.«01_k».proof.Proof.Ffn.Plain
public import proofs.«01_k».proof.Proof.Inproj.Equation
public import proofs.«01_k».proof.Proof.Inproj.Plain
public import proofs.«01_k».proof.Proof.Mixout.Equation
public import proofs.«01_k».proof.Proof.Mixout.Plain
public import proofs.«01_k».proof.Proof.Fourier.Plain
public import proofs.«01_k».proof.Proof.Fourier.Finite

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  funext i
  obtain ⟨b, e, r, d, rfl⟩ : ∃ (b : Fin 4) (e : Fin 16) (r d : Fin 1024), i = ix4 b e r d := ⟨i 0, i 1, i 2, i 3, eq_ix4 i⟩
  exact (Cert.ReferenceIdeal.Ffn.plain_apply _ _ _ _ _ b e r d).trans (Cert.KernelIdeal.Ffn.kernel_apply m c b e r d).symm

theorem quiescent_Reference2Ideal : quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

theorem algebraic_Kernel2Ideal_Reference2Ideal : algebraic_Kernel2Ideal_Reference2Ideal := by
  intro m ρ m' ρ' _ hagree
  refine ⟨_, _, _, Cert.Kernel2Ideal.Value.run_blocks (F := Ideal) m ρ, ?_⟩
  refine (θ_run Cert.Reference2Ideal.defs _ _).mono (fun _ h c => ⟨?_, ?_, ?_, (h c).2.2.2⟩) (Cert.Reference2Ideal.Value.run (F := Ideal) m' ρ')
  · rw [(h c).1, Cert.Reference2Ideal.Inproj.term_pq]
    simp only [hagree c]
    exact (Cert.Reference2Ideal.Inproj.pq_eq _ _ _).trans (Cert.Kernel2Ideal.Inproj.arr_pq m c).symm
  · rw [(h c).2.1]
    simp only [hagree c]
    exact (Cert.Reference2Ideal.Inproj.us_eq _ _ _).trans (Cert.Kernel2Ideal.Inproj.arr_us m c).symm
  · rw [(h c).2.2.1]
    simp only [hagree c]
    exact (Cert.Reference2Ideal.Inproj.gate_eq _ _ _).trans (Cert.Kernel2Ideal.Inproj.arr_gate m c).symm

theorem quiescent_Reference3Ideal : quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem algebraic_Kernel3Ideal_Reference3Ideal : algebraic_Kernel3Ideal_Reference3Ideal := by
  intro m ρ m' ρ' _ hagree
  refine ⟨_, _, (θ_run Cert.Kernel3Ideal.defs _ _).mono (fun _ h c => ⟨(h c).1, (h c).2.1, (h c).2.2.2⟩) (Cert.Kernel3Ideal.Value.run_blocks (F := Ideal) m ρ), ?_⟩
  refine (θ_run Cert.Reference3Ideal.defs _ _).mono (fun _ h c => ⟨?_, ?_, (h c).2.2⟩) (Cert.Reference3Ideal.Value.run (F := Ideal) m' ρ')
  · rw [(h c).1]
    simp only [hagree c]
    exact (Cert.Reference3Ideal.Mixout.x1_eq _ _ _ _ _ _ _).trans (Cert.Kernel3Ideal.Mixout.arr_x1 m c).symm
  · rw [(h c).2.1, Cert.Reference3Ideal.Mixout.term_h2]
    simp only [hagree c]
    exact (Cert.Reference3Ideal.Mixout.h2_eq _ _ _ _ _ _ _ _).trans (Cert.Kernel3Ideal.Mixout.arr_h2 m c).symm

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic_Kernel4Ideal_Reference4Ideal_pre_weights_finite : algebraic_Kernel4Ideal_Reference4Ideal_pre_weights_finite := by
  intro m ρ m' ρ' hpre hagree
  refine ⟨_, (θ_run Cert.Kernel4Ideal.defs _ _).mono (fun _ h c => (h c).2.2) (Cert.Kernel4Ideal.Value.run_blocks (F := Ideal) m ρ), ?_⟩
  refine (θ_run Cert.Reference4Ideal.defs _ _).mono (fun _ h c => ⟨?_, (h c).2⟩) (Cert.Reference4Ideal.Value.run (F := Ideal) m' ρ')
  rw [(h c).1, Cert.Reference4Ideal.Router.term_aff]
  simp only [hagree c]
  exact (Cert.Reference4Ideal.Router.aff_eq _ _ _ _ _ _ _ _ _).trans
    (Cert.Kernel4Ideal.Router.arr_aff m c (Cert.Kernel4Ideal.Router.scale_finite (hpre c)) (Cert.Kernel4Ideal.Router.router_finite (hpre c))).symm

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic_Kernel5Ideal_Reference5Ideal_pre_projection_finite : algebraic_Kernel5Ideal_Reference5Ideal_pre_projection_finite := by
  intro m ρ m' ρ' hpre hagree
  refine ⟨_, Cert.Kernel5Ideal.Fourier.run_result m ρ, ?_⟩
  refine (θ_run Cert.Reference5Ideal.defs _ _).mono (fun _ h c => ⟨?_, (h c).2⟩) (Cert.Reference5Ideal.Value.run (F := Ideal) m' ρ')
  rw [(h c).1, Cert.Reference5Ideal.Fourier.term_out]
  simp only [hagree c]
  exact Cert.Reference5Ideal.Fourier.transform_result m ρ c (Cert.Kernel5Ideal.Fourier.projection_real (hpre c))

/-- The mask's constant stands for −∞. -/
theorem preserves_Kernel4_Kernel4Ideal : preserves_Kernel4_Kernel4Ideal :=
  IdealRules.named_const.statement Cert.Kernel4Ideal.κ "mask" .f32 0xF149F2CA#32 ⊥ rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts, Cert.Reference5Ideal.Gen.facts, Cert.Pre_weights_finite.Gen.facts, Cert.Pre_projection_finite.Gen.facts,
  fun m ρ _ => Cert.Kernel.Gen.frame m ρ, fun m ρ _ => Cert.KernelIdeal.Gen.frame m ρ, quiescent_ReferenceIdeal,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, fun m ρ _ => Cert.Kernel4Ideal.Gen.frame m ρ,
  quiescent_Reference4Ideal, fun m ρ _ => quiescent_Reference4Ideal m ρ trivial,
  fun m ρ _ => Cert.Kernel5.Gen.frame m ρ, fun m ρ _ => Cert.Kernel5Ideal.Gen.frame m ρ, fun m ρ _ => Cert.Kernel5Ideal.Gen.frame m ρ,
  quiescent_Reference5Ideal, fun m ρ _ => quiescent_Reference5Ideal m ρ trivial,
  (trivial : preserves_Kernel_KernelIdeal), algebraic_KernelIdeal_ReferenceIdeal,
  (trivial : preserves_Kernel2_Kernel2Ideal), algebraic_Kernel2Ideal_Reference2Ideal,
  (trivial : preserves_Kernel3_Kernel3Ideal), algebraic_Kernel3Ideal_Reference3Ideal,
  preserves_Kernel4_Kernel4Ideal, algebraic_Kernel4Ideal_Reference4Ideal_pre_weights_finite,
  (trivial : preserves_Kernel5_Kernel5Ideal), algebraic_Kernel5Ideal_Reference5Ideal_pre_projection_finite⟩

end Cert.Proof

end
